-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite_tree [hPre_finite_tree : Cert.Pre_finite_tree.Facts] (m : (ℓ : Loc Cert.KernelIdeal.nD Cert.KernelIdeal.τ Cert.KernelIdeal.sig) → Buf (Elt Ideal) ℓ) : Prop :=
  ∀ c : Dev Cert.KernelIdeal.nD,
    (Cert.Pre_finite_tree.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite_tree [hPre_finite_tree : Cert.Pre_finite_tree.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_tree.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_finite_tree [hKernelIdeal : Cert.KernelIdeal.Facts] [hPre_finite_tree : Cert.Pre_finite_tree.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite_tree m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_finite_tree [hReferenceIdeal : Cert.ReferenceIdeal.Facts] [hPre_finite_tree : Cert.Pre_finite_tree.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite_tree m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  IdealRules.named_const.Statement Cert.KernelIdeal.κ "sm_log2e" .f32 0x3E16C740#32 (((3424635 / 33554432) * (Real.log 2)⁻¹ : ℝ) : EReal)

def algebraic_KernelIdeal_ReferenceIdeal_pre_finite_tree [hKernelIdeal : Cert.KernelIdeal.Facts] [hReferenceIdeal : Cert.ReferenceIdeal.Facts] [hPre_finite_tree : Cert.Pre_finite_tree.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite_tree m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v7_0)) (v1 : (c : Dev Cert.KernelIdeal.nD) → Buf (Elt Ideal) ((c.tc : Thread Cert.KernelIdeal.nD Cert.KernelIdeal.τ).loc Cert.KernelIdeal.main_v7_1)) (v2 : (c : Dev Cert.KernelIdeal.nD) → Buf (Elt Ideal) ((c.tc : Thread Cert.KernelIdeal.nD Cert.KernelIdeal.τ).loc Cert.KernelIdeal.main_v7_2)) (v3 : (c : Dev Cert.KernelIdeal.nD) → Buf (Elt Ideal) ((c.tc : Thread Cert.KernelIdeal.nD Cert.KernelIdeal.τ).loc Cert.KernelIdeal.main_v7_3)) (v4 : (c : Dev Cert.KernelIdeal.nD) → Buf (Elt Ideal) ((c.tc : Thread Cert.KernelIdeal.nD Cert.KernelIdeal.τ).loc Cert.KernelIdeal.main_v7_4)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v7_0) = v0 c
          ∧ r.2.mem ((c.tc : Thread Cert.KernelIdeal.nD Cert.KernelIdeal.τ).loc Cert.KernelIdeal.main_v7_1) = v1 c
          ∧ r.2.mem ((c.tc : Thread Cert.KernelIdeal.nD Cert.KernelIdeal.τ).loc Cert.KernelIdeal.main_v7_2) = v2 c
          ∧ r.2.mem ((c.tc : Thread Cert.KernelIdeal.nD Cert.KernelIdeal.τ).loc Cert.KernelIdeal.main_v7_3) = v3 c
          ∧ r.2.mem ((c.tc : Thread Cert.KernelIdeal.nD Cert.KernelIdeal.τ).loc Cert.KernelIdeal.main_v7_4) = v4 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v110) = v0 c
          ∧ r.2.mem ((c.tc : Thread Cert.ReferenceIdeal.nD Cert.ReferenceIdeal.τ).loc Cert.ReferenceIdeal.main_v111) = v1 c
          ∧ r.2.mem ((c.tc : Thread Cert.ReferenceIdeal.nD Cert.ReferenceIdeal.τ).loc Cert.ReferenceIdeal.main_v112) = v2 c
          ∧ r.2.mem ((c.tc : Thread Cert.ReferenceIdeal.nD Cert.ReferenceIdeal.τ).loc Cert.ReferenceIdeal.main_v113) = v3 c
          ∧ r.2.mem ((c.tc : Thread Cert.ReferenceIdeal.nD Cert.ReferenceIdeal.τ).loc Cert.ReferenceIdeal.main_v114) = v4 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_finite_tree : Cert.Pre_finite_tree.Facts),
    quiescent_Kernel (hKernel := hKernel)
    ∧ quiescent_KernelIdeal (hKernelIdeal := hKernelIdeal)
    ∧ quiescent_KernelIdeal_pre_finite_tree (hKernelIdeal := hKernelIdeal) (hPre_finite_tree := hPre_finite_tree)
    ∧ quiescent_ReferenceIdeal (hReferenceIdeal := hReferenceIdeal)
    ∧ quiescent_ReferenceIdeal_pre_finite_tree (hReferenceIdeal := hReferenceIdeal) (hPre_finite_tree := hPre_finite_tree)
    ∧ preserves_Kernel_KernelIdeal
    ∧ algebraic_KernelIdeal_ReferenceIdeal_pre_finite_tree (hKernelIdeal := hKernelIdeal) (hReferenceIdeal := hReferenceIdeal) (hPre_finite_tree := hPre_finite_tree)
-- ==== Pre_finite_tree.lean ====
abbrev S48x4x24x96 : Shape := ⟨4, ![48, 4, 24, 96]⟩
abbrev S48x4x3x96 : Shape := ⟨4, ![48, 4, 3, 96]⟩
abbrev S48x2048x3x96 : Shape := ⟨4, ![48, 2048, 3, 96]⟩
abbrev S48x2048x3 : Shape := ⟨3, ![48, 2048, 3]⟩
abbrev S48 : Shape := ⟨1, ![48]⟩
abbrev S48x4 : Shape := ⟨2, ![48, 4]⟩
abbrev S_ : Shape := ⟨0, ![]⟩
abbrev S48x4x3 : Shape := ⟨3, ![48, 4, 3]⟩

class Facts : Prop where
  bitsLt_bf16_f32 : FTy.bits .bf16 < FTy.bits .f32
  reducesTo_S48x4x3x96_S48x4x3_d3 : S48x4x3x96.ReducesTo [3] S48x4x3
  h_S_ : 0 < S_.numel
  bcast_S_S48x4x3 : S_.BroadcastsInDim S48x4x3 (![] : Fin 0 → Fin S48x4x3.rank)
  reducesTo_S48x4x3_S_d0_1_2 : S48x4x3.ReducesTo [0, 1, 2] S_
  reducesTo_S48x4_S_d0_1 : S48x4.ReducesTo [0, 1] S_

variable [Facts]

def fn_part1 {F : FTy → Type} [FloatOps F] (main_arg8 : IVec S48x4 32) (main_v13 : IVec S_ 1) (main_v16 : FVec F S48x4x3 .f32) : IVec S_ 1 :=
  let main_cst_5 : FVec F S_ .f32 := constant S_ .f32 0x00000000#32
  let main_v17 : FVec F S48x4x3 .f32 := broadcastInDim S48x4x3 ![] bcast_S_S48x4x3 main_cst_5
  let main_v18 : IVec S48x4x3 1 := cmpf .oeq main_v16 main_v17
  let main_cst_6 : FVec F S_ .f32 := constant S_ .f32 0x3B124925#32
  let main_v19 : FVec F S48x4x3 .f32 := broadcastInDim S48x4x3 ![] bcast_S_S48x4x3 main_cst_6
  let main_v20 : FVec F S48x4x3 .f32 := mulf main_v16 main_v19
  let main_cst_7 : FVec F S_ .f32 := constant S_ .f32 0x00800000#32
  let main_v21 : FVec F S48x4x3 .f32 := broadcastInDim S48x4x3 ![] bcast_S_S48x4x3 main_cst_7
  let main_v22 : IVec S48x4x3 1 := cmpf .oge main_v20 main_v21
  let main_cst_8 : FVec F S_ .f32 := constant S_ .f32 0x7F7FFFFF#32
  let main_v23 : FVec F S48x4x3 .f32 := broadcastInDim S48x4x3 ![] bcast_S_S48x4x3 main_cst_8
  let main_v24 : IVec S48x4x3 1 := cmpf .ole main_v16 main_v23
  let main_v25 : IVec S48x4x3 1 := andi main_v22 main_v24
  let main_v26 : IVec S48x4x3 1 := ori main_v18 main_v25
  let main_c_9 : IVec S_ 1 := constantI S_ 1 1#1
  let main_v27 : IVec S_ 1 := (fun x v => Host.reduce IntOp.andi x v reducesTo_S48x4x3_S_d0_1_2 h_S_) main_v26 main_c_9
  let main_v28 : IVec S_ 1 := andi main_v13 main_v27
  let main_v29 : IVec S48x4 32 := iotaInDim S48x4 32 1
  let main_v30 : IVec S48x4 1 := cmpi .slt main_arg8 main_v29
  let main_c_10 : IVec S_ 1 := constantI S_ 1 1#1
  let main_v31 : IVec S_ 1 := (fun x v => Host.reduce IntOp.andi x v reducesTo_S48x4_S_d0_1 h_S_) main_v30 main_c_10
  let main_v32 : IVec S_ 1 := andi main_v28 main_v31
  main_v32

def fn {F : FTy → Type} [FloatOps F] (main_arg0 : FVec F S48x4x24x96 .bf16) (main_arg1 : FVec F S48x4x3x96 .bf16) (main_arg2 : FVec F S48x4x3x96 .bf16) (main_arg3 : FVec F S48x2048x3x96 .fp8e4m3) (main_arg4 : FVec F S48x2048x3x96 .fp8e4m3) (main_arg5 : FVec F S48x2048x3 .f32) (main_arg6 : FVec F S48x2048x3 .f32) (main_arg7 : IVec S48 32) (main_arg8 : IVec S48x4 32) : IVec S_ 1 :=
  let main_v0 : FVec F S48x4x3x96 .f32 := (extf .f32 · bitsLt_bf16_f32) main_arg1
  let main_v1 : FVec F S48x4x3x96 .f32 := Host.absf main_v0
  let main_cst : FVec F S_ .f32 := constant S_ .f32 0xFF800000#32
  let main_v2 : FVec F S48x4x3 .f32 := (fun x v => Host.reduce FloatOps.maximumf x v reducesTo_S48x4x3x96_S48x4x3_d3 h_S_) main_v1 main_cst
  let main_cst_0 : FVec F S_ .f32 := constant S_ .f32 0x00000000#32
  let main_v3 : FVec F S48x4x3 .f32 := broadcastInDim S48x4x3 ![] bcast_S_S48x4x3 main_cst_0
  let main_v4 : IVec S48x4x3 1 := cmpf .oeq main_v2 main_v3
  let main_cst_1 : FVec F S_ .f32 := constant S_ .f32 0x3B124925#32
  let main_v5 : FVec F S48x4x3 .f32 := broadcastInDim S48x4x3 ![] bcast_S_S48x4x3 main_cst_1
  let main_v6 : FVec F S48x4x3 .f32 := mulf main_v2 main_v5
  let main_cst_2 : FVec F S_ .f32 := constant S_ .f32 0x00800000#32
  let main_v7 : FVec F S48x4x3 .f32 := broadcastInDim S48x4x3 ![] bcast_S_S48x4x3 main_cst_2
  let main_v8 : IVec S48x4x3 1 := cmpf .oge main_v6 main_v7
  let main_cst_3 : FVec F S_ .f32 := constant S_ .f32 0x7F7FFFFF#32
  let main_v9 : FVec F S48x4x3 .f32 := broadcastInDim S48x4x3 ![] bcast_S_S48x4x3 main_cst_3
  let main_v10 : IVec S48x4x3 1 := cmpf .ole main_v2 main_v9
  let main_v11 : IVec S48x4x3 1 := andi main_v8 main_v10
  let main_v12 : IVec S48x4x3 1 := ori main_v4 main_v11
  let main_c : IVec S_ 1 := constantI S_ 1 1#1
  let main_v13 : IVec S_ 1 := (fun x v => Host.reduce IntOp.andi x v reducesTo_S48x4x3_S_d0_1_2 h_S_) main_v12 main_c
  let main_v14 : FVec F S48x4x3x96 .f32 := (extf .f32 · bitsLt_bf16_f32) main_arg2
  let main_v15 : FVec F S48x4x3x96 .f32 := Host.absf main_v14
  let main_cst_4 : FVec F S_ .f32 := constant S_ .f32 0xFF800000#32
  let main_v16 : FVec F S48x4x3 .f32 := (fun x v => Host.reduce FloatOps.maximumf x v reducesTo_S48x4x3x96_S48x4x3_d3 h_S_) main_v15 main_cst_4
  fn_part1 (F := F) main_arg8 main_v13 main_v16
-- ==== Kernel.lean ====
abbrev S48x4x24x96 : Shape := ⟨4, ![48, 4, 24, 96]⟩
abbrev S48x4x3x96 : Shape := ⟨4, ![48, 4, 3, 96]⟩
abbrev S48x2048x3x96 : Shape := ⟨4, ![48, 2048, 3, 96]⟩
abbrev S48x2048x3 : Shape := ⟨3, ![48, 2048, 3]⟩
abbrev S48 : Shape := ⟨1, ![48]⟩
abbrev S48x4 : Shape := ⟨2, ![48, 4]⟩
abbrev S4x48 : Shape := ⟨2, ![4, 48]⟩
abbrev S48x3x4x96 : Shape := ⟨4, ![48, 3, 4, 96]⟩
abbrev S48x3x96x2048 : Shape := ⟨4, ![48, 3, 96, 2048]⟩
abbrev S3x48x2048 : Shape := ⟨3, ![3, 48, 2048]⟩
abbrev S48x4x2304 : Shape := ⟨3, ![48, 4, 2304]⟩
abbrev S3x4x48 : Shape := ⟨3, ![3, 4, 48]⟩
abbrev S1x4x24x96 : Shape := ⟨4, ![1, 4, 24, 96]⟩
abbrev S1x3x4x96 : Shape := ⟨4, ![1, 3, 4, 96]⟩
abbrev S1x3x96x2048 : Shape := ⟨4, ![1, 3, 96, 2048]⟩
abbrev S3x8x2048 : Shape := ⟨3, ![3, 8, 2048]⟩
abbrev S1x4x2304 : Shape := ⟨3, ![1, 4, 2304]⟩
abbrev S1 : Shape := ⟨1, ![1]⟩
abbrev S1x1 : Shape := ⟨2, ![1, 1]⟩
abbrev S32x4 : Shape := ⟨2, ![32, 4]⟩
abbrev S1x2048 : Shape := ⟨2, ![1, 2048]⟩
abbrev S1x1x4x96 : Shape := ⟨4, ![1, 1, 4, 96]⟩
abbrev S4x96 : Shape := ⟨2, ![4, 96]⟩
abbrev S4 : Shape := ⟨1, ![4]⟩
abbrev S4x1 : Shape := ⟨2, ![4, 1]⟩
abbrev S1x4x48 : Shape := ⟨3, ![1, 4, 48]⟩
abbrev S1x4x8x96 : Shape := ⟨4, ![1, 4, 8, 96]⟩
abbrev S4x8x96 : Shape := ⟨3, ![4, 8, 96]⟩
abbrev S32x96 : Shape := ⟨2, ![32, 96]⟩
abbrev S1x1x96x2048 : Shape := ⟨4, ![1, 1, 96, 2048]⟩
abbrev S96x2048 : Shape := ⟨2, ![96, 2048]⟩
abbrev S32x2048 : Shape := ⟨2, ![32, 2048]⟩
abbrev S1x1x2048 : Shape := ⟨3, ![1, 1, 2048]⟩
abbrev S4x128 : Shape := ⟨2, ![4, 128]⟩
abbrev S128x4 : Shape := ⟨2, ![128, 4]⟩
abbrev S1x4 : Shape := ⟨2, ![1, 4]⟩
abbrev S32 : Shape := ⟨1, ![32]⟩
abbrev S32x1 : Shape := ⟨2, ![32, 1]⟩
abbrev S4x1x96 : Shape := ⟨3, ![4, 1, 96]⟩
abbrev S1x4x96 : Shape := ⟨3, ![1, 4, 96]⟩

abbrev nBuf : Space → Nat
  | .hbm => 19
  | .vmem => 22
  | .smem => 2
  | _ => 0

abbrev bufTy : (tb : Table) → Fin (tcTables nBuf tb) → BufTy
  | .hbm, ⟨0, _⟩ => ⟨S48x4x24x96, .bf16⟩
  | .hbm, ⟨1, _⟩ => ⟨S48x4x3x96, .bf16⟩
  | .hbm, ⟨2, _⟩ => ⟨S48x4x3x96, .bf16⟩
  | .hbm, ⟨3, _⟩ => ⟨S48x2048x3x96, .fp8e4m3⟩
  | .hbm, ⟨4, _⟩ => ⟨S48x2048x3x96, .fp8e4m3⟩
  | .hbm, ⟨5, _⟩ => ⟨S48x2048x3, .f32⟩
  | .hbm, ⟨6, _⟩ => ⟨S48x2048x3, .f32⟩
  | .hbm, ⟨7, _⟩ => ⟨S48x4, .i32⟩
  | .hbm, ⟨8, _⟩ => ⟨S48x3x4x96, .bf16⟩
  | .hbm, ⟨9, _⟩ => ⟨S48x3x4x96, .bf16⟩
  | .hbm, ⟨10, _⟩ => ⟨S48x3x96x2048, .fp8e4m3⟩
  | .hbm, ⟨11, _⟩ => ⟨S48x3x96x2048, .fp8e4m3⟩
  | .hbm, ⟨12, _⟩ => ⟨S3x48x2048, .f32⟩
  | .hbm, ⟨13, _⟩ => ⟨S3x48x2048, .f32⟩
  | .hbm, ⟨14, _⟩ => ⟨S48x4x2304, .bf16⟩
  | .hbm, ⟨15, _⟩ => ⟨S48x3x4x96, .fp8e4m3⟩
  | .hbm, ⟨16, _⟩ => ⟨S3x4x48, .f32⟩
  | .hbm, ⟨17, _⟩ => ⟨S48x3x4x96, .fp8e4m3⟩
  | .hbm, ⟨18, _⟩ => ⟨S3x4x48, .f32⟩
  | .local _ .vmem, ⟨0, _⟩ => ⟨S1x4x24x96, .bf16⟩
  | .local _ .vmem, ⟨1, _⟩ => ⟨S1x4x24x96, .bf16⟩
  | .local _ .vmem, ⟨2, _⟩ => ⟨S1x3x4x96, .bf16⟩
  | .local _ .vmem, ⟨3, _⟩ => ⟨S1x3x4x96, .bf16⟩
  | .local _ .vmem, ⟨4, _⟩ => ⟨S1x3x4x96, .bf16⟩
  | .local _ .vmem, ⟨5, _⟩ => ⟨S1x3x4x96, .bf16⟩
  | .local _ .vmem, ⟨6, _⟩ => ⟨S1x3x96x2048, .fp8e4m3⟩
  | .local _ .vmem, ⟨7, _⟩ => ⟨S1x3x96x2048, .fp8e4m3⟩
  | .local _ .vmem, ⟨8, _⟩ => ⟨S1x3x96x2048, .fp8e4m3⟩
  | .local _ .vmem, ⟨9, _⟩ => ⟨S1x3x96x2048, .fp8e4m3⟩
  | .local _ .vmem, ⟨10, _⟩ => ⟨S3x8x2048, .f32⟩
  | .local _ .vmem, ⟨11, _⟩ => ⟨S3x8x2048, .f32⟩
  | .local _ .vmem, ⟨12, _⟩ => ⟨S3x8x2048, .f32⟩
  | .local _ .vmem, ⟨13, _⟩ => ⟨S3x8x2048, .f32⟩
  | .local _ .vmem, ⟨14, _⟩ => ⟨S1x4x2304, .bf16⟩
  | .local _ .vmem, ⟨15, _⟩ => ⟨S1x4x2304, .bf16⟩
  | .local _ .vmem, ⟨16, _⟩ => ⟨S1x3x4x96, .fp8e4m3⟩
  | .local _ .vmem, ⟨17, _⟩ => ⟨S1x3x4x96, .fp8e4m3⟩
  | .local _ .vmem, ⟨18, _⟩ => ⟨S3x4x48, .f32⟩
  | .local _ .vmem, ⟨19, _⟩ => ⟨S1x3x4x96, .fp8e4m3⟩
  | .local _ .vmem, ⟨20, _⟩ => ⟨S1x3x4x96, .fp8e4m3⟩
  | .local _ .vmem, ⟨21, _⟩ => ⟨S3x4x48, .f32⟩
  | .local _ .smem, ⟨0, _⟩ => ⟨S48, .i32⟩
  | .local _ .smem, ⟨1, _⟩ => ⟨S4x48, .i32⟩
  | _, _ => ⟨S48x4x24x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | _, _ => false

abbrev semScoped : Fin 0 → Bool
  | ⟨_, h⟩ => absurd h (Nat.not_lt_zero _)

abbrev dmaSemScoped : Fin 22 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | _ => false

abbrev sig : RefSig :=
  ofTc nBuf bufTy 0 22 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg8 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7_0 : Ref sig .tc := ⟨.hbm, 14, rfl⟩
abbrev main_v7_1 : Ref sig .tc := ⟨.hbm, 15, rfl⟩
abbrev main_v7_2 : Ref sig .tc := ⟨.hbm, 16, rfl⟩
abbrev main_v7_3 : Ref sig .tc := ⟨.hbm, 17, rfl⟩
abbrev main_v7_4 : Ref sig .tc := ⟨.hbm, 18, rfl⟩
abbrev main_arg7 : Ref sig .tc := ⟨.smem, 0, rfl⟩
abbrev main_v0 : Ref sig .tc := ⟨.smem, 1, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg3_1 : Ref sig .tc := ⟨.vmem, 7, rfl⟩
abbrev cc0_stg4_0 : Ref sig .tc := ⟨.vmem, 8, rfl⟩
abbrev cc0_stg4_1 : Ref sig .tc := ⟨.vmem, 9, rfl⟩
abbrev cc0_stg5_0 : Ref sig .tc := ⟨.vmem, 10, rfl⟩
abbrev cc0_stg5_1 : Ref sig .tc := ⟨.vmem, 11, rfl⟩
abbrev cc0_stg6_0 : Ref sig .tc := ⟨.vmem, 12, rfl⟩
abbrev cc0_stg6_1 : Ref sig .tc := ⟨.vmem, 13, rfl⟩
abbrev cc0_stg7_0 : Ref sig .tc := ⟨.vmem, 14, rfl⟩
abbrev cc0_stg7_1 : Ref sig .tc := ⟨.vmem, 15, rfl⟩
abbrev cc0_stg8_0 : Ref sig .tc := ⟨.vmem, 16, rfl⟩
abbrev cc0_stg8_1 : Ref sig .tc := ⟨.vmem, 17, rfl⟩
abbrev cc0_stg9_0 : Ref sig .tc := ⟨.vmem, 18, rfl⟩
abbrev cc0_stg10_0 : Ref sig .tc := ⟨.vmem, 19, rfl⟩
abbrev cc0_stg10_1 : Ref sig .tc := ⟨.vmem, 20, rfl⟩
abbrev cc0_stg11_0 : Ref sig .tc := ⟨.vmem, 21, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem3_1 : DmaSem sig := 7
abbrev cc0_sem4_0 : DmaSem sig := 8
abbrev cc0_sem4_1 : DmaSem sig := 9
abbrev cc0_sem5_0 : DmaSem sig := 10
abbrev cc0_sem5_1 : DmaSem sig := 11
abbrev cc0_sem6_0 : DmaSem sig := 12
abbrev cc0_sem6_1 : DmaSem sig := 13
abbrev cc0_sem7_0 : DmaSem sig := 14
abbrev cc0_sem7_1 : DmaSem sig := 15
abbrev cc0_sem8_0 : DmaSem sig := 16
abbrev cc0_sem8_1 : DmaSem sig := 17
abbrev cc0_sem9_0 : DmaSem sig := 18
abbrev cc0_sem10_0 : DmaSem sig := 19
abbrev cc0_sem10_1 : DmaSem sig := 20
abbrev cc0_sem11_0 : DmaSem sig := 21

abbrev nD : Nat := 1
abbrev τ : Topo := Topo.v7x

variable {F : FTy → Type} [FloatOps F]

abbrev grid0 : Pipeline.Grid := ⟨1, ![48], ![false]⟩

abbrev pre0 : Pipeline.Prefetch sig := ⟨2, ![main_arg7.idx, main_v0.idx], fun | 0 => main_arg7.names | 1 => main_v0.names | ⟨_ + 2, h⟩ => absurd h (Nat.not_lt.2 (Nat.le_add_left _ _)), fun | 0 => rfl | 1 => rfl | ⟨_ + 2, h⟩ => absurd h (Nat.not_lt.2 (Nat.le_add_left _ _))⟩

def k0_off1 (i : grid0.Coords) : Fin 1 → Nat :=
  let arg0 : BitVec 32 := BitVec.ofNat 32 (i 0).val
  let v0 : Index := Scalar.indexCast arg0
  ![v0.toNat]
def k0_off2 (i : grid0.Coords) : Fin 2 → Nat :=
  let c1 : Index := 1#32
  let arg0 : BitVec 32 := BitVec.ofNat 32 (i 0).val
  let v2 : Index := Scalar.indexCast arg0
  ![1, v2.toNat]
def k0_off3 (i : grid0.Coords) : Fin 2 → Nat :=
  let c2 : Index := 2#32
  let arg0 : BitVec 32 := BitVec.ofNat 32 (i 0).val
  let v4 : Index := Scalar.indexCast arg0
  ![2, v4.toNat]
def k0_off4 (i : grid0.Coords) : Fin 2 → Nat :=
  let c3 : Index := 3#32
  let arg0 : BitVec 32 := BitVec.ofNat 32 (i 0).val
  let v6 : Index := Scalar.indexCast arg0
  ![3, v6.toNat]
def k0_off5 (i : grid0.Coords) : Fin 3 → Nat :=
  let c0_121 : Index := 0#32
  let arg0 : BitVec 32 := BitVec.ofNat 32 (i 0).val
  let c8_i32_14 : BitVec 32 := 8#32
  let c0_i32_15 : BitVec 32 := 0#32
  let v47 : BitVec 1 := Scalar.cmpi .eq c8_i32_14 c0_i32_15
  let c1_i32_16 : BitVec 32 := 1#32
  let v48 : BitVec 32 := Scalar.select v47 c1_i32_16 c8_i32_14
  let v49 : BitVec 32 := Scalar.remsi arg0 v48
  let c0_i32_18 : BitVec 32 := 0#32
  let v51 : BitVec 1 := Scalar.cmpi .slt v49 c0_i32_18
  let c0_i32_19 : BitVec 32 := 0#32
  let v52 : BitVec 1 := Scalar.cmpi .slt v48 c0_i32_19
  let v53 : BitVec 1 := Scalar.xori v51 v52
  let c0_i32_17 : BitVec 32 := 0#32
  let v50 : BitVec 1 := Scalar.cmpi .ne v49 c0_i32_17
  let v54 : BitVec 1 := Scalar.andi v53 v50
  let v55 : BitVec 32 := Scalar.addi v49 v48
  let v56 : BitVec 32 := Scalar.select v54 v55 v49
  let v297 : Index := Scalar.indexCast v56
  let c0_122 : Index := 0#32
  ![0, v297.toNat, 0]
def k0_off6 (i : grid0.Coords) : Fin 3 → Nat :=
  let c1_265 : Index := 1#32
  let arg0 : BitVec 32 := BitVec.ofNat 32 (i 0).val
  let c8_i32_14 : BitVec 32 := 8#32
  let c0_i32_15 : BitVec 32 := 0#32
  let v47 : BitVec 1 := Scalar.cmpi .eq c8_i32_14 c0_i32_15
  let c1_i32_16 : BitVec 32 := 1#32
  let v48 : BitVec 32 := Scalar.select v47 c1_i32_16 c8_i32_14
  let v49 : BitVec 32 := Scalar.remsi arg0 v48
  let c0_i32_18 : BitVec 32 := 0#32
  let v51 : BitVec 1 := Scalar.cmpi .slt v49 c0_i32_18
  let c0_i32_19 : BitVec 32 := 0#32
  let v52 : BitVec 1 := Scalar.cmpi .slt v48 c0_i32_19
  let v53 : BitVec 1 := Scalar.xori v51 v52
  let c0_i32_17 : BitVec 32 := 0#32
  let v50 : BitVec 1 := Scalar.cmpi .ne v49 c0_i32_17
  let v54 : BitVec 1 := Scalar.andi v53 v50
  let v55 : BitVec 32 := Scalar.addi v49 v48
  let v56 : BitVec 32 := Scalar.select v54 v55 v49
  let v646 : Index := Scalar.indexCast v56
  let c0_266 : Index := 0#32
  ![1, v646.toNat, 0]
def k0_off7 (i : grid0.Coords) : Fin 3 → Nat :=
  let c2_408 : Index := 2#32
  let arg0 : BitVec 32 := BitVec.ofNat 32 (i 0).val
  let c8_i32_14 : BitVec 32 := 8#32
  let c0_i32_15 : BitVec 32 := 0#32
  let v47 : BitVec 1 := Scalar.cmpi .eq c8_i32_14 c0_i32_15
  let c1_i32_16 : BitVec 32 := 1#32
  let v48 : BitVec 32 := Scalar.select v47 c1_i32_16 c8_i32_14
  let v49 : BitVec 32 := Scalar.remsi arg0 v48
  let c0_i32_18 : BitVec 32 := 0#32
  let v51 : BitVec 1 := Scalar.cmpi .slt v49 c0_i32_18
  let c0_i32_19 : BitVec 32 := 0#32
  let v52 : BitVec 1 := Scalar.cmpi .slt v48 c0_i32_19
  let v53 : BitVec 1 := Scalar.xori v51 v52
  let c0_i32_17 : BitVec 32 := 0#32
  let v50 : BitVec 1 := Scalar.cmpi .ne v49 c0_i32_17
  let v54 : BitVec 1 := Scalar.andi v53 v50
  let v55 : BitVec 32 := Scalar.addi v49 v48
  let v56 : BitVec 32 := Scalar.select v54 v55 v49
  let v995 : Index := Scalar.indexCast v56
  let c0_409 : Index := 0#32
  ![2, v995.toNat, 0]
def cc0_transform_0 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_1 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_2 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_3 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_4 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_5 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_6 (i : grid0.Coords) : Fin 3 → Nat :=
  let arg0 : BitVec 32 := BitVec.ofNat 32 (i 0).val
  let c8_i32 : BitVec 32 := 8#32
  let v0 : BitVec 32 := Scalar.divsi arg0 c8_i32
  let c0_i32 : BitVec 32 := 0#32
  let v1 : BitVec 1 := Scalar.cmpi .sgt arg0 c0_i32
  let v2 : BitVec 32 := Scalar.extui v1
  let c0_i32_0 : BitVec 32 := 0#32
  let v3 : BitVec 1 := Scalar.cmpi .slt arg0 c0_i32_0
  let v4 : BitVec 32 := Scalar.extui v3
  let v5 : BitVec 32 := Scalar.subi v2 v4
  let c0_i32_1 : BitVec 32 := 0#32
  let v6 : BitVec 1 := Scalar.cmpi .sgt c8_i32 c0_i32_1
  let v7 : BitVec 32 := Scalar.extui v6
  let c0_i32_2 : BitVec 32 := 0#32
  let v8 : BitVec 1 := Scalar.cmpi .slt c8_i32 c0_i32_2
  let v9 : BitVec 32 := Scalar.extui v8
  let v10 : BitVec 32 := Scalar.subi v7 v9
  let v11 : BitVec 1 := Scalar.cmpi .ne v5 v10
  let v12 : BitVec 32 := Scalar.remsi arg0 c8_i32
  let c0_i32_3 : BitVec 32 := 0#32
  let v13 : BitVec 1 := Scalar.cmpi .ne v12 c0_i32_3
  let v14 : BitVec 1 := Scalar.andi v11 v13
  let c1_i32 : BitVec 32 := 1#32
  let v15 : BitVec 32 := Scalar.subi v0 c1_i32
  let v16 : BitVec 32 := Scalar.select v14 v15 v0
  let c0_i32_4 : BitVec 32 := 0#32
  let c0_i32_5 : BitVec 32 := 0#32
  let c0_i32_6 : BitVec 32 := 0#32
  ![c0_i32_4.toNat, v16.toNat, c0_i32_5.toNat]

def cc0_transform_7 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_8 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_9 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

def cc0_transform_10 (i : grid0.Coords) : Fin 4 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![arg0.toNat, c0_i32.toNat, c0_i32_0.toNat, c0_i32_1.toNat]

def cc0_transform_11 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  let c0_i32_2 : BitVec 32 := 0#32
  ![c0_i32.toNat, c0_i32_0.toNat, c0_i32_1.toNat]

abbrev stage0_0 : Fin 2 → Memref sig .tc .vmem S1x4x24x96 .bf16 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S1x3x4x96 .bf16 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S1x3x4x96 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 2 → Memref sig .tc .vmem S1x3x96x2048 .fp8e4m3 := fun | 0 => Memref.whole cc0_stg3_0 | 1 => Memref.whole cc0_stg3_1 | ⟨_ + 2, h⟩ => absurd h (Nat.not_lt.2 (Nat.le_add_left _ _))
abbrev sem0_3 : Fin 2 → DmaSem sig := fun | 0 => cc0_sem3_0 | 1 => cc0_sem3_1 | ⟨_ + 2, h⟩ => absurd h (Nat.not_lt.2 (Nat.le_add_left _ _))
abbrev reads0_3 : Fin grid0.rank → Bool := ![true]

abbrev stage0_4 : Fin 2 → Memref sig .tc .vmem S1x3x96x2048 .fp8e4m3 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev stage0_5 : Fin 2 → Memref sig .tc .vmem S3x8x2048 .f32 := fun | 0 => Memref.whole cc0_stg5_0 | 1 => Memref.whole cc0_stg5_1 | ⟨_ + 2, h⟩ => absurd h (Nat.not_lt.2 (Nat.le_add_left _ _))
abbrev sem0_5 : Fin 2 → DmaSem sig := fun | 0 => cc0_sem5_0 | 1 => cc0_sem5_1 | ⟨_ + 2, h⟩ => absurd h (Nat.not_lt.2 (Nat.le_add_left _ _))
abbrev reads0_5 : Fin grid0.rank → Bool := ![true]

abbrev stage0_6 : Fin 2 → Memref sig .tc .vmem S3x8x2048 .f32 := fun | 0 => Memref.whole cc0_stg6_0 | 1 => Memref.whole cc0_stg6_1 | ⟨_ + 2, h⟩ => absurd h (Nat.not_lt.2 (Nat.le_add_left _ _))
abbrev sem0_6 : Fin 2 → DmaSem sig := fun | 0 => cc0_sem6_0 | 1 => cc0_sem6_1 | ⟨_ + 2, h⟩ => absurd h (Nat.not_lt.2 (Nat.le_add_left _ _))
abbrev reads0_6 : Fin grid0.rank → Bool := ![true]

abbrev stage0_7 : Fin 2 → Memref sig .tc .vmem S1x4x2304 .bf16 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev stage0_8 : Fin 2 → Memref sig .tc .vmem S1x3x4x96 .fp8e4m3 := fun | 0 => Memref.whole cc0_stg8_0 | 1 => Memref.whole cc0_stg8_1 | ⟨_ + 2, h⟩ => absurd h (Nat.not_lt.2 (Nat.le_add_left _ _))
abbrev sem0_8 : Fin 2 → DmaSem sig := fun | 0 => cc0_sem8_0 | 1 => cc0_sem8_1 | ⟨_ + 2, h⟩ => absurd h (Nat.not_lt.2 (Nat.le_add_left _ _))
abbrev reads0_8 : Fin grid0.rank → Bool := ![true]

abbrev stage0_9 : Fin 1 → Memref sig .tc .vmem S3x4x48 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev stage0_10 : Fin 2 → Memref sig .tc .vmem S1x3x4x96 .fp8e4m3 := fun | 0 => Memref.whole cc0_stg10_0 | 1 => Memref.whole cc0_stg10_1 | ⟨_ + 2, h⟩ => absurd h (Nat.not_lt.2 (Nat.le_add_left _ _))
abbrev sem0_10 : Fin 2 → DmaSem sig := fun | 0 => cc0_sem10_0 | 1 => cc0_sem10_1 | ⟨_ + 2, h⟩ => absurd h (Nat.not_lt.2 (Nat.le_add_left _ _))
abbrev reads0_10 : Fin grid0.rank → Bool := ![true]

abbrev stage0_11 : Fin 1 → Memref sig .tc .vmem S3x4x48 .f32 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
abbrev reads0_11 : Fin grid0.rank → Bool := ![false]
-- ==== KernelIdeal.lean ====
variable {F : FTy → Type} [FloatOps F] [Named F]
def κ : String → Option EReal := fun
  | "sm_log2e" => some (((3424635 / 33554432) * (Real.log 2)⁻¹ : ℝ) : EReal)
  | _ => none
-- ==== ReferenceIdeal.lean ====
abbrev S48x4x24x96 : Shape := ⟨4, ![48, 4, 24, 96]⟩
abbrev S48x4x3x96 : Shape := ⟨4, ![48, 4, 3, 96]⟩
abbrev S48x2048x3x96 : Shape := ⟨4, ![48, 2048, 3, 96]⟩
abbrev S48x2048x3 : Shape := ⟨3, ![48, 2048, 3]⟩
abbrev S48 : Shape := ⟨1, ![48]⟩
abbrev S48x4 : Shape := ⟨2, ![48, 4]⟩
abbrev S48x4x3 : Shape := ⟨3, ![48, 4, 3]⟩
abbrev S48x4x3x1 : Shape := ⟨4, ![48, 4, 3, 1]⟩
abbrev S4 : Shape := ⟨1, ![4]⟩
abbrev S48x4x1 : Shape := ⟨3, ![48, 4, 1]⟩
abbrev S1x1x4 : Shape := ⟨3, ![1, 1, 4]⟩
abbrev S48x4x4 : Shape := ⟨3, ![48, 4, 4]⟩
abbrev S_ : Shape := ⟨0, ![]⟩
abbrev S1 : Shape := ⟨1, ![1]⟩
abbrev S1x1x1 : Shape := ⟨3, ![1, 1, 1]⟩
abbrev S48x4x3x8x96 : Shape := ⟨5, ![48, 4, 3, 8, 96]⟩
abbrev S48x3x2048x4x8 : Shape := ⟨5, ![48, 3, 2048, 4, 8]⟩
abbrev S48x4x3x8x2048 : Shape := ⟨5, ![48, 4, 3, 8, 2048]⟩
abbrev S48x3x2048 : Shape := ⟨3, ![48, 3, 2048]⟩
abbrev S48x1x3x1x2048 : Shape := ⟨5, ![48, 1, 3, 1, 2048]⟩
abbrev S2048 : Shape := ⟨1, ![2048]⟩
abbrev S1x2048 : Shape := ⟨2, ![1, 2048]⟩
abbrev S48x1 : Shape := ⟨2, ![48, 1]⟩
abbrev S48x2048 : Shape := ⟨2, ![48, 2048]⟩
abbrev S48x1x1x1x2048 : Shape := ⟨5, ![48, 1, 1, 1, 2048]⟩
abbrev S48x3x4x4x8 : Shape := ⟨5, ![48, 3, 4, 4, 8]⟩
abbrev S48x4x3x8x4 : Shape := ⟨5, ![48, 4, 3, 8, 4]⟩
abbrev S48x3x4 : Shape := ⟨3, ![48, 3, 4]⟩
abbrev S48x1x3x1x4 : Shape := ⟨5, ![48, 1, 3, 1, 4]⟩
abbrev S48x4x1x1x4 : Shape := ⟨5, ![48, 4, 1, 1, 4]⟩
abbrev S48x4x3x8 : Shape := ⟨4, ![48, 4, 3, 8]⟩
abbrev S48x4x3x8x1 : Shape := ⟨5, ![48, 4, 3, 8, 1]⟩
abbrev S48x3x96x4x8 : Shape := ⟨5, ![48, 3, 96, 4, 8]⟩
abbrev S48x4x2304 : Shape := ⟨3, ![48, 4, 2304]⟩
abbrev S48x3x4x96 : Shape := ⟨4, ![48, 3, 4, 96]⟩
abbrev S3x4x48 : Shape := ⟨3, ![3, 4, 48]⟩

abbrev nBuf : Space → Nat
  | .hbm => 228
  | .vmem => 12
  | .smem => 0
  | _ => 0

abbrev hbmTy0_0 (i : Nat) : BufTy := match i % 128 with
  | 0 => ⟨S48x4x24x96, .bf16⟩
  | 1 => ⟨S48x4x3x96, .bf16⟩
  | 2 => ⟨S48x4x3x96, .bf16⟩
  | 3 => ⟨S48x2048x3x96, .fp8e4m3⟩
  | 4 => ⟨S48x2048x3x96, .fp8e4m3⟩
  | 5 => ⟨S48x2048x3, .f32⟩
  | 6 => ⟨S48x2048x3, .f32⟩
  | 7 => ⟨S48, .i32⟩
  | 8 => ⟨S48x4, .i32⟩
  | 9 => ⟨S48x4x3x96, .fp8e4m3⟩
  | 10 => ⟨S48x4x3, .f32⟩
  | 11 => ⟨S48x4x3x96, .fp8e4m3⟩
  | 12 => ⟨S48x4x3, .f32⟩
  | 13 => ⟨S48x4x3x96, .bf16⟩
  | 14 => ⟨S48x4x3x96, .bf16⟩
  | 15 => ⟨S48x2048x3x96, .bf16⟩
  | 16 => ⟨S48x2048x3x96, .bf16⟩
  | 17 => ⟨S4, .i32⟩
  | 18 => ⟨S48x4, .i32⟩
  | 19 => ⟨S48x4x1, .i32⟩
  | 20 => ⟨S1x1x4, .i32⟩
  | 21 => ⟨S48x4x4, .i32⟩
  | 22 => ⟨S48x4x4, .i32⟩
  | 23 => ⟨S48x4x4, .i1⟩
  | 24 => ⟨S_, .i32⟩
  | 25 => ⟨S48x4, .i32⟩
  | 26 => ⟨S48x4, .i1⟩
  | 27 => ⟨S_, .i32⟩
  | 28 => ⟨S48x4, .i32⟩
  | 29 => ⟨S48x4, .i32⟩
  | 30 => ⟨S_, .i32⟩
  | 31 => ⟨S48x4, .i32⟩
  | 32 => ⟨S48x4, .i1⟩
  | 33 => ⟨S_, .i32⟩
  | 34 => ⟨S48x4, .i32⟩
  | 35 => ⟨S48x4, .i32⟩
  | 36 => ⟨S48x4, .i32⟩
  | 37 => ⟨S48x4x1, .i32⟩
  | 38 => ⟨S1, .i32⟩
  | 39 => ⟨S_, .i32⟩
  | 40 => ⟨S48x4x1, .i32⟩
  | 41 => ⟨S48x4x1, .i1⟩
  | 42 => ⟨S1x1x1, .i32⟩
  | 43 => ⟨S48x4x1, .i32⟩
  | 44 => ⟨S48x4x1, .i1⟩
  | 45 => ⟨S48x4x1, .i1⟩
  | 46 => ⟨S_, .i1⟩
  | 47 => ⟨S48x4, .i1⟩
  | 48 => ⟨S48x4, .i32⟩
  | 49 => ⟨S_, .i32⟩
  | 50 => ⟨S48x4, .i32⟩
  | 51 => ⟨S48x4, .i32⟩
  | 52 => ⟨S_, .i32⟩
  | 53 => ⟨S_, .i32⟩
  | 54 => ⟨S48x4, .i32⟩
  | 55 => ⟨S48x4, .i32⟩
  | 56 => ⟨S48x4x1, .i32⟩
  | 57 => ⟨S1x1x4, .i32⟩
  | 58 => ⟨S48x4x4, .i32⟩
  | 59 => ⟨S48x4x4, .i32⟩
  | 60 => ⟨S48x4x4, .i1⟩
  | 61 => ⟨S48x4x4, .i1⟩
  | 62 => ⟨S_, .i32⟩
  | 63 => ⟨S48x4, .i32⟩
  | 64 => ⟨S48x4, .i1⟩
  | 65 => ⟨S_, .i32⟩
  | 66 => ⟨S48x4, .i32⟩
  | 67 => ⟨S48x4, .i32⟩
  | 68 => ⟨S_, .i32⟩
  | 69 => ⟨S48x4, .i32⟩
  | 70 => ⟨S48x4, .i1⟩
  | 71 => ⟨S_, .i32⟩
  | 72 => ⟨S48x4, .i32⟩
  | 73 => ⟨S48x4, .i32⟩
  | 74 => ⟨S48x4, .i32⟩
  | 75 => ⟨S48x4x1, .i32⟩
  | 76 => ⟨S1, .i32⟩
  | 77 => ⟨S_, .i32⟩
  | 78 => ⟨S48x4x1, .i32⟩
  | 79 => ⟨S48x4x1, .i1⟩
  | 80 => ⟨S1x1x1, .i32⟩
  | 81 => ⟨S48x4x1, .i32⟩
  | 82 => ⟨S48x4x1, .i1⟩
  | 83 => ⟨S48x4x1, .i1⟩
  | 84 => ⟨S_, .i1⟩
  | 85 => ⟨S48x4, .i1⟩
  | 86 => ⟨S48x4, .i32⟩
  | 87 => ⟨S_, .i32⟩
  | 88 => ⟨S48x4, .i32⟩
  | 89 => ⟨S48x4, .i32⟩
  | 90 => ⟨S_, .i32⟩
  | 91 => ⟨S_, .i32⟩
  | 92 => ⟨S48x4, .i32⟩
  | 93 => ⟨S48x4, .i32⟩
  | 94 => ⟨S48x4x1, .i32⟩
  | 95 => ⟨S1x1x4, .i32⟩
  | 96 => ⟨S48x4x4, .i32⟩
  | 97 => ⟨S48x4x4, .i32⟩
  | 98 => ⟨S48x4x4, .i1⟩
  | 99 => ⟨S48x4x4, .i1⟩
  | 100 => ⟨S_, .i32⟩
  | 101 => ⟨S48x4, .i32⟩
  | 102 => ⟨S48x4, .i1⟩
  | 103 => ⟨S_, .i32⟩
  | 104 => ⟨S48x4, .i32⟩
  | 105 => ⟨S48x4, .i32⟩
  | 106 => ⟨S_, .i32⟩
  | 107 => ⟨S48x4, .i32⟩
  | 108 => ⟨S48x4, .i1⟩
  | 109 => ⟨S_, .i32⟩
  | 110 => ⟨S48x4, .i32⟩
  | 111 => ⟨S48x4, .i32⟩
  | 112 => ⟨S48x4, .i32⟩
  | 113 => ⟨S48x4x1, .i32⟩
  | 114 => ⟨S1, .i32⟩
  | 115 => ⟨S_, .i32⟩
  | 116 => ⟨S48x4x1, .i32⟩
  | 117 => ⟨S48x4x1, .i1⟩
  | 118 => ⟨S1x1x1, .i32⟩
  | 119 => ⟨S48x4x1, .i32⟩
  | 120 => ⟨S48x4x1, .i1⟩
  | 121 => ⟨S48x4x1, .i1⟩
  | 122 => ⟨S_, .i1⟩
  | 123 => ⟨S48x4, .i1⟩
  | 124 => ⟨S48x4, .i32⟩
  | 125 => ⟨S_, .i32⟩
  | 126 => ⟨S48x4, .i32⟩
  | 127 => ⟨S48x4, .i32⟩
  | _ => ⟨S48x4x24x96, .bf16⟩

abbrev hbmTy0_1 (i : Nat) : BufTy := match i % 128 with
  | 0 => ⟨S_, .i32⟩
  | 1 => ⟨S_, .i32⟩
  | 2 => ⟨S48x4, .i32⟩
  | 3 => ⟨S48x4, .i32⟩
  | 4 => ⟨S48x4x1, .i32⟩
  | 5 => ⟨S1x1x4, .i32⟩
  | 6 => ⟨S48x4x4, .i32⟩
  | 7 => ⟨S48x4x4, .i32⟩
  | 8 => ⟨S48x4x4, .i1⟩
  | 9 => ⟨S48x4x4, .i1⟩
  | 10 => ⟨S48x4x3x8x96, .bf16⟩
  | 11 => ⟨S48x3x2048x4x8, .f32⟩
  | 12 => ⟨S48x4x3x8x2048, .f32⟩
  | 13 => ⟨S48x3x2048, .f32⟩
  | 14 => ⟨S_, .f32⟩
  | 15 => ⟨S48x3x2048, .f32⟩
  | 16 => ⟨S48x3x2048, .f32⟩
  | 17 => ⟨S48x1x3x1x2048, .f32⟩
  | 18 => ⟨S48x4x3x8x2048, .f32⟩
  | 19 => ⟨S48x4x3x8x2048, .f32⟩
  | 20 => ⟨S2048, .i32⟩
  | 21 => ⟨S1x2048, .i32⟩
  | 22 => ⟨S48x1, .i32⟩
  | 23 => ⟨S48x2048, .i32⟩
  | 24 => ⟨S48x2048, .i32⟩
  | 25 => ⟨S48x2048, .i1⟩
  | 26 => ⟨S48x1x1x1x2048, .i1⟩
  | 27 => ⟨S_, .f32⟩
  | 28 => ⟨S_, .f32⟩
  | 29 => ⟨S48x4x3x8x2048, .i1⟩
  | 30 => ⟨S48x4x3x8x2048, .f32⟩
  | 31 => ⟨S48x4x3x8x2048, .f32⟩
  | 32 => ⟨S48x3x4x4x8, .f32⟩
  | 33 => ⟨S48x4x3x8x4, .f32⟩
  | 34 => ⟨S48x3x4, .f32⟩
  | 35 => ⟨S_, .f32⟩
  | 36 => ⟨S48x3x4, .f32⟩
  | 37 => ⟨S48x3x4, .f32⟩
  | 38 => ⟨S48x1x3x1x4, .f32⟩
  | 39 => ⟨S48x4x3x8x4, .f32⟩
  | 40 => ⟨S48x4x3x8x4, .f32⟩
  | 41 => ⟨S48x4x1x1x4, .i1⟩
  | 42 => ⟨S_, .f32⟩
  | 43 => ⟨S_, .f32⟩
  | 44 => ⟨S48x4x3x8x4, .i1⟩
  | 45 => ⟨S48x4x3x8x4, .f32⟩
  | 46 => ⟨S48x4x3x8x4, .f32⟩
  | 47 => ⟨S_, .f32⟩
  | 48 => ⟨S48x4x3x8, .f32⟩
  | 49 => ⟨S48x4x3x8x1, .f32⟩
  | 50 => ⟨S_, .f32⟩
  | 51 => ⟨S48x4x3x8, .f32⟩
  | 52 => ⟨S48x4x3x8x1, .f32⟩
  | 53 => ⟨S48x4x3x8x1, .f32⟩
  | 54 => ⟨S48x4x3x8x2048, .f32⟩
  | 55 => ⟨S48x4x3x8x2048, .f32⟩
  | 56 => ⟨S48x4x3x8x2048, .f32⟩
  | 57 => ⟨S48x4x3x8x4, .f32⟩
  | 58 => ⟨S48x4x3x8x4, .f32⟩
  | 59 => ⟨S48x4x3x8x4, .f32⟩
  | 60 => ⟨S_, .f32⟩
  | 61 => ⟨S48x4x3x8, .f32⟩
  | 62 => ⟨S48x4x3x8x1, .f32⟩
  | 63 => ⟨S_, .f32⟩
  | 64 => ⟨S48x4x3x8, .f32⟩
  | 65 => ⟨S48x4x3x8x1, .f32⟩
  | 66 => ⟨S48x4x3x8x1, .f32⟩
  | 67 => ⟨S48x4x3x8x2048, .f32⟩
  | 68 => ⟨S48x4x3x8x2048, .f32⟩
  | 69 => ⟨S48x4x3x8x4, .f32⟩
  | 70 => ⟨S48x4x3x8x4, .f32⟩
  | 71 => ⟨S48x3x2048, .f32⟩
  | 72 => ⟨S48x1x3x1x2048, .f32⟩
  | 73 => ⟨S48x4x3x8x2048, .f32⟩
  | 74 => ⟨S48x4x3x8x2048, .f32⟩
  | 75 => ⟨S48x4x3x8x2048, .bf16⟩
  | 76 => ⟨S48x3x4, .f32⟩
  | 77 => ⟨S48x1x3x1x4, .f32⟩
  | 78 => ⟨S48x4x3x8x4, .f32⟩
  | 79 => ⟨S48x4x3x8x4, .f32⟩
  | 80 => ⟨S48x4x3x8x4, .bf16⟩
  | 81 => ⟨S48x3x96x4x8, .f32⟩
  | 82 => ⟨S48x4x3x8x96, .f32⟩
  | 83 => ⟨S48x3x96x4x8, .f32⟩
  | 84 => ⟨S48x4x3x8x96, .f32⟩
  | 85 => ⟨S48x4x3x8x96, .f32⟩
  | 86 => ⟨S_, .f32⟩
  | 87 => ⟨S48x4x3x8x1, .f32⟩
  | 88 => ⟨S48x4x3x8x1, .i1⟩
  | 89 => ⟨S_, .f32⟩
  | 90 => ⟨S_, .f32⟩
  | 91 => ⟨S48x4x3x8x96, .i1⟩
  | 92 => ⟨S48x4x3x8x96, .f32⟩
  | 93 => ⟨S48x4x3x8x96, .f32⟩
  | 94 => ⟨S48x4x2304, .f32⟩
  | 95 => ⟨S48x4x2304, .bf16⟩
  | 96 => ⟨S48x3x4x96, .fp8e4m3⟩
  | 97 => ⟨S3x4x48, .f32⟩
  | 98 => ⟨S48x3x4x96, .fp8e4m3⟩
  | 99 => ⟨S3x4x48, .f32⟩
  | _ => ⟨S48x4x24x96, .bf16⟩

abbrev hbmTy (i : Nat) : BufTy := match i / 128 with
  | 0 => hbmTy0_0 i
  | 1 => hbmTy0_1 i
  | _ => ⟨S48x4x24x96, .bf16⟩

abbrev bufTy : (tb : Table) → Fin (tcTables nBuf tb) → BufTy
  | .hbm, ⟨i, _⟩ => hbmTy i
  | .local _ .vmem, ⟨0, _⟩ => ⟨S48x4x3x96, .bf16⟩
  | .local _ .vmem, ⟨1, _⟩ => ⟨S48x4x3x96, .bf16⟩
  | .local _ .vmem, ⟨2, _⟩ => ⟨S48x2048x3x96, .fp8e4m3⟩
  | .local _ .vmem, ⟨3, _⟩ => ⟨S48x2048x3x96, .fp8e4m3⟩
  | .local _ .vmem, ⟨4, _⟩ => ⟨S48x4x3x96, .fp8e4m3⟩
  | .local _ .vmem, ⟨5, _⟩ => ⟨S48x4x3, .f32⟩
  | .local _ .vmem, ⟨6, _⟩ => ⟨S48x4x3x96, .fp8e4m3⟩
  | .local _ .vmem, ⟨7, _⟩ => ⟨S48x4x3, .f32⟩
  | .local _ .vmem, ⟨8, _⟩ => ⟨S48x4x3x96, .bf16⟩
  | .local _ .vmem, ⟨9, _⟩ => ⟨S48x4x3x96, .bf16⟩
  | .local _ .vmem, ⟨10, _⟩ => ⟨S48x2048x3x96, .bf16⟩
  | .local _ .vmem, ⟨11, _⟩ => ⟨S48x2048x3x96, .bf16⟩
  | _, _ => ⟨S48x4x24x96, .bf16⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0_0 : Ref sig .tc := ⟨.hbm, 9, rfl⟩
abbrev main_v0_1 : Ref sig .tc := ⟨.hbm, 10, rfl⟩
abbrev main_v0_2 : Ref sig .tc := ⟨.hbm, 11, rfl⟩
abbrev main_v0_3 : Ref sig .tc := ⟨.hbm, 12, rfl⟩
abbrev main_v0_4 : Ref sig .tc := ⟨.hbm, 13, rfl⟩
abbrev main_v0_5 : Ref sig .tc := ⟨.hbm, 14, rfl⟩
abbrev main_v0_6 : Ref sig .tc := ⟨.hbm, 15, rfl⟩
abbrev main_v0_7 : Ref sig .tc := ⟨.hbm, 16, rfl⟩
abbrev main_v1 : Ref sig .tc := ⟨.hbm, 17, rfl⟩
abbrev main_v2 : Ref sig .tc := ⟨.hbm, 18, rfl⟩
abbrev main_v3 : Ref sig .tc := ⟨.hbm, 19, rfl⟩
abbrev main_v4 : Ref sig .tc := ⟨.hbm, 20, rfl⟩
abbrev main_v5 : Ref sig .tc := ⟨.hbm, 21, rfl⟩
abbrev main_v6 : Ref sig .tc := ⟨.hbm, 22, rfl⟩
abbrev main_v7 : Ref sig .tc := ⟨.hbm, 23, rfl⟩
abbrev main_c : Ref sig .tc := ⟨.hbm, 24, rfl⟩
abbrev main_v8 : Ref sig .tc := ⟨.hbm, 25, rfl⟩
abbrev main_v9 : Ref sig .tc := ⟨.hbm, 26, rfl⟩
abbrev main_c_0 : Ref sig .tc := ⟨.hbm, 27, rfl⟩
abbrev main_v10 : Ref sig .tc := ⟨.hbm, 28, rfl⟩
abbrev main_v11 : Ref sig .tc := ⟨.hbm, 29, rfl⟩
abbrev main_call0_c : Ref sig .tc := ⟨.hbm, 30, rfl⟩
abbrev main_call0_v0 : Ref sig .tc := ⟨.hbm, 31, rfl⟩
abbrev main_call0_v1 : Ref sig .tc := ⟨.hbm, 32, rfl⟩
abbrev main_call0_c_0 : Ref sig .tc := ⟨.hbm, 33, rfl⟩
abbrev main_call0_v2 : Ref sig .tc := ⟨.hbm, 34, rfl⟩
abbrev main_call0_v3 : Ref sig .tc := ⟨.hbm, 35, rfl⟩
abbrev main_call0_v4 : Ref sig .tc := ⟨.hbm, 36, rfl⟩
abbrev main_call0_v5 : Ref sig .tc := ⟨.hbm, 37, rfl⟩
abbrev main_call0_c_1 : Ref sig .tc := ⟨.hbm, 38, rfl⟩
abbrev main_call0_c_2 : Ref sig .tc := ⟨.hbm, 39, rfl⟩
abbrev main_call0_v6 : Ref sig .tc := ⟨.hbm, 40, rfl⟩
abbrev main_call0_v7 : Ref sig .tc := ⟨.hbm, 41, rfl⟩
abbrev main_call0_v8 : Ref sig .tc := ⟨.hbm, 42, rfl⟩
abbrev main_call0_v9 : Ref sig .tc := ⟨.hbm, 43, rfl⟩
abbrev main_call0_v10 : Ref sig .tc := ⟨.hbm, 44, rfl⟩
abbrev main_call0_v11 : Ref sig .tc := ⟨.hbm, 45, rfl⟩
abbrev main_call0_c_3 : Ref sig .tc := ⟨.hbm, 46, rfl⟩
abbrev main_call0_v12 : Ref sig .tc := ⟨.hbm, 47, rfl⟩
abbrev main_call0_v13 : Ref sig .tc := ⟨.hbm, 48, rfl⟩
abbrev main_call0_c_4 : Ref sig .tc := ⟨.hbm, 49, rfl⟩
abbrev main_call0_v14 : Ref sig .tc := ⟨.hbm, 50, rfl⟩
abbrev main_v12 : Ref sig .tc := ⟨.hbm, 51, rfl⟩
abbrev main_c_1 : Ref sig .tc := ⟨.hbm, 52, rfl⟩
abbrev main_call1_v0 : Ref sig .tc := ⟨.hbm, 53, rfl⟩
abbrev main_call1_v1 : Ref sig .tc := ⟨.hbm, 54, rfl⟩
abbrev main_v13 : Ref sig .tc := ⟨.hbm, 55, rfl⟩
abbrev main_v14 : Ref sig .tc := ⟨.hbm, 56, rfl⟩
abbrev main_v15 : Ref sig .tc := ⟨.hbm, 57, rfl⟩
abbrev main_v16 : Ref sig .tc := ⟨.hbm, 58, rfl⟩
abbrev main_v17 : Ref sig .tc := ⟨.hbm, 59, rfl⟩
abbrev main_v18 : Ref sig .tc := ⟨.hbm, 60, rfl⟩
abbrev main_v19 : Ref sig .tc := ⟨.hbm, 61, rfl⟩
abbrev main_c_2 : Ref sig .tc := ⟨.hbm, 62, rfl⟩
abbrev main_v20 : Ref sig .tc := ⟨.hbm, 63, rfl⟩
abbrev main_v21 : Ref sig .tc := ⟨.hbm, 64, rfl⟩
abbrev main_c_3 : Ref sig .tc := ⟨.hbm, 65, rfl⟩
abbrev main_v22 : Ref sig .tc := ⟨.hbm, 66, rfl⟩
abbrev main_v23 : Ref sig .tc := ⟨.hbm, 67, rfl⟩
abbrev main_call2_c : Ref sig .tc := ⟨.hbm, 68, rfl⟩
abbrev main_call2_v0 : Ref sig .tc := ⟨.hbm, 69, rfl⟩
abbrev main_call2_v1 : Ref sig .tc := ⟨.hbm, 70, rfl⟩
abbrev main_call2_c_0 : Ref sig .tc := ⟨.hbm, 71, rfl⟩
abbrev main_call2_v2 : Ref sig .tc := ⟨.hbm, 72, rfl⟩
abbrev main_call2_v3 : Ref sig .tc := ⟨.hbm, 73, rfl⟩
abbrev main_call2_v4 : Ref sig .tc := ⟨.hbm, 74, rfl⟩
abbrev main_call2_v5 : Ref sig .tc := ⟨.hbm, 75, rfl⟩
abbrev main_call2_c_1 : Ref sig .tc := ⟨.hbm, 76, rfl⟩
abbrev main_call2_c_2 : Ref sig .tc := ⟨.hbm, 77, rfl⟩
abbrev main_call2_v6 : Ref sig .tc := ⟨.hbm, 78, rfl⟩
abbrev main_call2_v7 : Ref sig .tc := ⟨.hbm, 79, rfl⟩
abbrev main_call2_v8 : Ref sig .tc := ⟨.hbm, 80, rfl⟩
abbrev main_call2_v9 : Ref sig .tc := ⟨.hbm, 81, rfl⟩
abbrev main_call2_v10 : Ref sig .tc := ⟨.hbm, 82, rfl⟩
abbrev main_call2_v11 : Ref sig .tc := ⟨.hbm, 83, rfl⟩
abbrev main_call2_c_3 : Ref sig .tc := ⟨.hbm, 84, rfl⟩
abbrev main_call2_v12 : Ref sig .tc := ⟨.hbm, 85, rfl⟩
abbrev main_call2_v13 : Ref sig .tc := ⟨.hbm, 86, rfl⟩
abbrev main_call2_c_4 : Ref sig .tc := ⟨.hbm, 87, rfl⟩
abbrev main_call2_v14 : Ref sig .tc := ⟨.hbm, 88, rfl⟩
abbrev main_v24 : Ref sig .tc := ⟨.hbm, 89, rfl⟩
abbrev main_c_4 : Ref sig .tc := ⟨.hbm, 90, rfl⟩
abbrev main_call3_v0 : Ref sig .tc := ⟨.hbm, 91, rfl⟩
abbrev main_call3_v1 : Ref sig .tc := ⟨.hbm, 92, rfl⟩
abbrev main_v25 : Ref sig .tc := ⟨.hbm, 93, rfl⟩
abbrev main_v26 : Ref sig .tc := ⟨.hbm, 94, rfl⟩
abbrev main_v27 : Ref sig .tc := ⟨.hbm, 95, rfl⟩
abbrev main_v28 : Ref sig .tc := ⟨.hbm, 96, rfl⟩
abbrev main_v29 : Ref sig .tc := ⟨.hbm, 97, rfl⟩
abbrev main_v30 : Ref sig .tc := ⟨.hbm, 98, rfl⟩
abbrev main_v31 : Ref sig .tc := ⟨.hbm, 99, rfl⟩
abbrev main_c_5 : Ref sig .tc := ⟨.hbm, 100, rfl⟩
abbrev main_v32 : Ref sig .tc := ⟨.hbm, 101, rfl⟩
abbrev main_v33 : Ref sig .tc := ⟨.hbm, 102, rfl⟩
abbrev main_c_6 : Ref sig .tc := ⟨.hbm, 103, rfl⟩
abbrev main_v34 : Ref sig .tc := ⟨.hbm, 104, rfl⟩
abbrev main_v35 : Ref sig .tc := ⟨.hbm, 105, rfl⟩
abbrev main_call4_c : Ref sig .tc := ⟨.hbm, 106, rfl⟩
abbrev main_call4_v0 : Ref sig .tc := ⟨.hbm, 107, rfl⟩
abbrev main_call4_v1 : Ref sig .tc := ⟨.hbm, 108, rfl⟩
abbrev main_call4_c_0 : Ref sig .tc := ⟨.hbm, 109, rfl⟩
abbrev main_call4_v2 : Ref sig .tc := ⟨.hbm, 110, rfl⟩
abbrev main_call4_v3 : Ref sig .tc := ⟨.hbm, 111, rfl⟩
abbrev main_call4_v4 : Ref sig .tc := ⟨.hbm, 112, rfl⟩
abbrev main_call4_v5 : Ref sig .tc := ⟨.hbm, 113, rfl⟩
abbrev main_call4_c_1 : Ref sig .tc := ⟨.hbm, 114, rfl⟩
abbrev main_call4_c_2 : Ref sig .tc := ⟨.hbm, 115, rfl⟩
abbrev main_call4_v6 : Ref sig .tc := ⟨.hbm, 116, rfl⟩
abbrev main_call4_v7 : Ref sig .tc := ⟨.hbm, 117, rfl⟩
abbrev main_call4_v8 : Ref sig .tc := ⟨.hbm, 118, rfl⟩
abbrev main_call4_v9 : Ref sig .tc := ⟨.hbm, 119, rfl⟩
abbrev main_call4_v10 : Ref sig .tc := ⟨.hbm, 120, rfl⟩
abbrev main_call4_v11 : Ref sig .tc := ⟨.hbm, 121, rfl⟩
abbrev main_call4_c_3 : Ref sig .tc := ⟨.hbm, 122, rfl⟩
abbrev main_call4_v12 : Ref sig .tc := ⟨.hbm, 123, rfl⟩
abbrev main_call4_v13 : Ref sig .tc := ⟨.hbm, 124, rfl⟩
abbrev main_call4_c_4 : Ref sig .tc := ⟨.hbm, 125, rfl⟩
abbrev main_call4_v14 : Ref sig .tc := ⟨.hbm, 126, rfl⟩
abbrev main_v36 : Ref sig .tc := ⟨.hbm, 127, rfl⟩
abbrev main_c_7 : Ref sig .tc := ⟨.hbm, 128, rfl⟩
abbrev main_call5_v0 : Ref sig .tc := ⟨.hbm, 129, rfl⟩
abbrev main_call5_v1 : Ref sig .tc := ⟨.hbm, 130, rfl⟩
abbrev main_v37 : Ref sig .tc := ⟨.hbm, 131, rfl⟩
abbrev main_v38 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_v42 : Ref sig .tc := ⟨.hbm, 136, rfl⟩
abbrev main_v43 : Ref sig .tc := ⟨.hbm, 137, rfl⟩
abbrev main_v44 : Ref sig .tc := ⟨.hbm, 138, rfl⟩
abbrev main_v45 : Ref sig .tc := ⟨.hbm, 139, rfl⟩
abbrev main_v46 : Ref sig .tc := ⟨.hbm, 140, rfl⟩
abbrev main_v47 : Ref sig .tc := ⟨.hbm, 141, rfl⟩
abbrev main_cst : Ref sig .tc := ⟨.hbm, 142, rfl⟩
abbrev main_v48 : Ref sig .tc := ⟨.hbm, 143, rfl⟩
abbrev main_v49 : Ref sig .tc := ⟨.hbm, 144, rfl⟩
abbrev main_v50 : Ref sig .tc := ⟨.hbm, 145, rfl⟩
abbrev main_v51 : Ref sig .tc := ⟨.hbm, 146, rfl⟩
abbrev main_v52 : Ref sig .tc := ⟨.hbm, 147, rfl⟩
abbrev main_v53 : Ref sig .tc := ⟨.hbm, 148, rfl⟩
abbrev main_v54 : Ref sig .tc := ⟨.hbm, 149, rfl⟩
abbrev main_v55 : Ref sig .tc := ⟨.hbm, 150, rfl⟩
abbrev main_v56 : Ref sig .tc := ⟨.hbm, 151, rfl⟩
abbrev main_v57 : Ref sig .tc := ⟨.hbm, 152, rfl⟩
abbrev main_v58 : Ref sig .tc := ⟨.hbm, 153, rfl⟩
abbrev main_v59 : Ref sig .tc := ⟨.hbm, 154, rfl⟩
abbrev main_cst_8 : Ref sig .tc := ⟨.hbm, 155, rfl⟩
abbrev main_call6_v0 : Ref sig .tc := ⟨.hbm, 156, rfl⟩
abbrev main_call6_v1 : Ref sig .tc := ⟨.hbm, 157, rfl⟩
abbrev main_call6_v2 : Ref sig .tc := ⟨.hbm, 158, rfl⟩
abbrev main_v60 : Ref sig .tc := ⟨.hbm, 159, rfl⟩
abbrev main_v61 : Ref sig .tc := ⟨.hbm, 160, rfl⟩
abbrev main_v62 : Ref sig .tc := ⟨.hbm, 161, rfl⟩
abbrev main_v63 : Ref sig .tc := ⟨.hbm, 162, rfl⟩
abbrev main_cst_9 : Ref sig .tc := ⟨.hbm, 163, rfl⟩
abbrev main_v64 : Ref sig .tc := ⟨.hbm, 164, rfl⟩
abbrev main_v65 : Ref sig .tc := ⟨.hbm, 165, rfl⟩
abbrev main_v66 : Ref sig .tc := ⟨.hbm, 166, rfl⟩
abbrev main_v67 : Ref sig .tc := ⟨.hbm, 167, rfl⟩
abbrev main_v68 : Ref sig .tc := ⟨.hbm, 168, rfl⟩
abbrev main_v69 : Ref sig .tc := ⟨.hbm, 169, rfl⟩
abbrev main_cst_10 : Ref sig .tc := ⟨.hbm, 170, rfl⟩
abbrev main_call7_v0 : Ref sig .tc := ⟨.hbm, 171, rfl⟩
abbrev main_call7_v1 : Ref sig .tc := ⟨.hbm, 172, rfl⟩
abbrev main_call7_v2 : Ref sig .tc := ⟨.hbm, 173, rfl⟩
abbrev main_v70 : Ref sig .tc := ⟨.hbm, 174, rfl⟩
abbrev main_cst_11 : Ref sig .tc := ⟨.hbm, 175, rfl⟩
abbrev main_v71 : Ref sig .tc := ⟨.hbm, 176, rfl⟩
abbrev main_v72 : Ref sig .tc := ⟨.hbm, 177, rfl⟩
abbrev main_cst_12 : Ref sig .tc := ⟨.hbm, 178, rfl⟩
abbrev main_v73 : Ref sig .tc := ⟨.hbm, 179, rfl⟩
abbrev main_v74 : Ref sig .tc := ⟨.hbm, 180, rfl⟩
abbrev main_v75 : Ref sig .tc := ⟨.hbm, 181, rfl⟩
abbrev main_v76 : Ref sig .tc := ⟨.hbm, 182, rfl⟩
abbrev main_v77 : Ref sig .tc := ⟨.hbm, 183, rfl⟩
abbrev main_v78 : Ref sig .tc := ⟨.hbm, 184, rfl⟩
abbrev main_v79 : Ref sig .tc := ⟨.hbm, 185, rfl⟩
abbrev main_v80 : Ref sig .tc := ⟨.hbm, 186, rfl⟩
abbrev main_v81 : Ref sig .tc := ⟨.hbm, 187, rfl⟩
abbrev main_cst_13 : Ref sig .tc := ⟨.hbm, 188, rfl⟩
abbrev main_v82 : Ref sig .tc := ⟨.hbm, 189, rfl⟩
abbrev main_v83 : Ref sig .tc := ⟨.hbm, 190, rfl⟩
abbrev main_cst_14 : Ref sig .tc := ⟨.hbm, 191, rfl⟩
abbrev main_v84 : Ref sig .tc := ⟨.hbm, 192, rfl⟩
abbrev main_v85 : Ref sig .tc := ⟨.hbm, 193, rfl⟩
abbrev main_v86 : Ref sig .tc := ⟨.hbm, 194, rfl⟩
abbrev main_v87 : Ref sig .tc := ⟨.hbm, 195, rfl⟩
abbrev main_v88 : Ref sig .tc := ⟨.hbm, 196, rfl⟩
abbrev main_v89 : Ref sig .tc := ⟨.hbm, 197, rfl⟩
abbrev main_v90 : Ref sig .tc := ⟨.hbm, 198, rfl⟩
abbrev main_v91 : Ref sig .tc := ⟨.hbm, 199, rfl⟩
abbrev main_v92 : Ref sig .tc := ⟨.hbm, 200, rfl⟩
abbrev main_v93 : Ref sig .tc := ⟨.hbm, 201, rfl⟩
abbrev main_v94 : Ref sig .tc := ⟨.hbm, 202, rfl⟩
abbrev main_v95 : Ref sig .tc := ⟨.hbm, 203, rfl⟩
abbrev main_v96 : Ref sig .tc := ⟨.hbm, 204, rfl⟩
abbrev main_v97 : Ref sig .tc := ⟨.hbm, 205, rfl⟩
abbrev main_v98 : Ref sig .tc := ⟨.hbm, 206, rfl⟩
abbrev main_v99 : Ref sig .tc := ⟨.hbm, 207, rfl⟩
abbrev main_v100 : Ref sig .tc := ⟨.hbm, 208, rfl⟩
abbrev main_v101 : Ref sig .tc := ⟨.hbm, 209, rfl⟩
abbrev main_v102 : Ref sig .tc := ⟨.hbm, 210, rfl⟩
abbrev main_v103 : Ref sig .tc := ⟨.hbm, 211, rfl⟩
abbrev main_v104 : Ref sig .tc := ⟨.hbm, 212, rfl⟩
abbrev main_v105 : Ref sig .tc := ⟨.hbm, 213, rfl⟩
abbrev main_cst_15 : Ref sig .tc := ⟨.hbm, 214, rfl⟩
abbrev main_v106 : Ref sig .tc := ⟨.hbm, 215, rfl⟩
abbrev main_v107 : Ref sig .tc := ⟨.hbm, 216, rfl⟩
abbrev main_cst_16 : Ref sig .tc := ⟨.hbm, 217, rfl⟩
abbrev main_call8_v0 : Ref sig .tc := ⟨.hbm, 218, rfl⟩
abbrev main_call8_v1 : Ref sig .tc := ⟨.hbm, 219, rfl⟩
abbrev main_call8_v2 : Ref sig .tc := ⟨.hbm, 220, rfl⟩
abbrev main_v108 : Ref sig .tc := ⟨.hbm, 221, rfl⟩
abbrev main_v109 : Ref sig .tc := ⟨.hbm, 222, rfl⟩
abbrev main_v110 : Ref sig .tc := ⟨.hbm, 223, rfl⟩
abbrev main_v111 : Ref sig .tc := ⟨.hbm, 224, rfl⟩
abbrev main_v112 : Ref sig .tc := ⟨.hbm, 225, rfl⟩
abbrev main_v113 : Ref sig .tc := ⟨.hbm, 226, rfl⟩
abbrev main_v114 : Ref sig .tc := ⟨.hbm, 227, rfl⟩
abbrev cc0_stg0_0 : Ref sig .tc := ⟨.vmem, 0, rfl⟩
abbrev cc0_stg1_0 : Ref sig .tc := ⟨.vmem, 1, rfl⟩
abbrev cc0_stg2_0 : Ref sig .tc := ⟨.vmem, 2, rfl⟩
abbrev cc0_stg3_0 : Ref sig .tc := ⟨.vmem, 3, rfl⟩
abbrev cc0_stg4_0 : Ref sig .tc := ⟨.vmem, 4, rfl⟩
abbrev cc0_stg5_0 : Ref sig .tc := ⟨.vmem, 5, rfl⟩
abbrev cc0_stg6_0 : Ref sig .tc := ⟨.vmem, 6, rfl⟩
abbrev cc0_stg7_0 : Ref sig .tc := ⟨.vmem, 7, rfl⟩
abbrev cc0_stg8_0 : Ref sig .tc := ⟨.vmem, 8, rfl⟩
abbrev cc0_stg9_0 : Ref sig .tc := ⟨.vmem, 9, rfl⟩
abbrev cc0_stg10_0 : Ref sig .tc := ⟨.vmem, 10, rfl⟩
abbrev cc0_stg11_0 : Ref sig .tc := ⟨.vmem, 11, rfl⟩
abbrev cc0_sem0_0 : DmaSem sig := 0
abbrev cc0_sem1_0 : DmaSem sig := 1
abbrev cc0_sem2_0 : DmaSem sig := 2
abbrev cc0_sem3_0 : DmaSem sig := 3
abbrev cc0_sem4_0 : DmaSem sig := 4
abbrev cc0_sem5_0 : DmaSem sig := 5
abbrev cc0_sem6_0 : DmaSem sig := 6
abbrev cc0_sem7_0 : DmaSem sig := 7
abbrev cc0_sem8_0 : DmaSem sig := 8
abbrev cc0_sem9_0 : DmaSem sig := 9
abbrev cc0_sem10_0 : DmaSem sig := 10
abbrev cc0_sem11_0 : DmaSem sig := 11

abbrev nD : Nat := 1
abbrev τ : Topo := Topo.v7x

variable {F : FTy → Type} [FloatOps F] [Named F]

def κ : String → Option EReal := fun
  | "ln2" => some ((Real.log 2 : ℝ) : EReal)
  | _ => none

abbrev grid0 : Pipeline.Grid := .none

abbrev stage0_0 : Fin 1 → Memref sig .tc .vmem S48x4x3x96 .bf16 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))

abbrev stage0_1 : Fin 1 → Memref sig .tc .vmem S48x4x3x96 .bf16 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))

abbrev stage0_2 : Fin 1 → Memref sig .tc .vmem S48x2048x3x96 .fp8e4m3 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))

abbrev stage0_3 : Fin 1 → Memref sig .tc .vmem S48x2048x3x96 .fp8e4m3 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))

abbrev stage0_4 : Fin 1 → Memref sig .tc .vmem S48x4x3x96 .fp8e4m3 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))

abbrev stage0_5 : Fin 1 → Memref sig .tc .vmem S48x4x3 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))

abbrev stage0_6 : Fin 1 → Memref sig .tc .vmem S48x4x3x96 .fp8e4m3 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))

abbrev stage0_7 : Fin 1 → Memref sig .tc .vmem S48x4x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))

abbrev stage0_8 : Fin 1 → Memref sig .tc .vmem S48x4x3x96 .bf16 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))

abbrev stage0_9 : Fin 1 → Memref sig .tc .vmem S48x4x3x96 .bf16 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))

abbrev stage0_10 : Fin 1 → Memref sig .tc .vmem S48x2048x3x96 .bf16 := fun | 0 => Memref.whole cc0_stg10_0 | ⟨_ + 1, h⟩ => absurd h (Nat.not_lt.2 (Nat.le_add_left _ _))
abbrev sem0_10 : Fin 1 → DmaSem sig := fun | 0 => cc0_sem10_0 | ⟨_ + 1, h⟩ => absurd h (Nat.not_lt.2 (Nat.le_add_left _ _))

abbrev stage0_11 : Fin 1 → Memref sig .tc .vmem S48x2048x3x96 .bf16 := fun | 0 => Memref.whole cc0_stg11_0 | ⟨_ + 1, h⟩ => absurd h (Nat.not_lt.2 (Nat.le_add_left _ _))
abbrev sem0_11 : Fin 1 → DmaSem sig := fun | 0 => cc0_sem11_0 | ⟨_ + 1, h⟩ => absurd h (Nat.not_lt.2 (Nat.le_add_left _ _))
-- ==== Proof.K.Points.lean ====
module

public import proofs.«01_k».proof.Proof.Gen.Kernel
public import Idealize.ShloMosaic.Lib.Pipeline.Kit

@[expose] public section

noncomputable section

namespace Cert.Kernel.Own

open Cert.Kernel.Gen

open Idealize.ShloMosaic Idealize.ShloMosaic.TcCoe
open Idealize.SL Idealize.SL.Sem

variable {F : FTy → Type} [FloatOps F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 5 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 6 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 7 (%5)) is fetched at the points ≡ 0 (mod 8), at any contents of the tables (its index map reads none). -/
theorem fetch0_5 (a : (pcfg0 (F := F)).Adm) : ∀ t : Fin (cfg0 a).N, ((cfg0 a).win 5).fetch t = true ↔ t.val % 8 = 0 :=
  (by decide +kernel : ∀ t : Fin grid0.N, Pipeline.Window.fetchOf grid0 false cc0_transform_5 t = true ↔ t.val % 8 = 0)
/-- Window 6 (operand 8 (%6)) is fetched at the points ≡ 0 (mod 8), at any contents of the tables (its index map reads none). -/
theorem fetch0_6 (a : (pcfg0 (F := F)).Adm) : ∀ t : Fin (cfg0 a).N, ((cfg0 a).win 6).fetch t = true ↔ t.val % 8 = 0 :=
  (by decide +kernel : ∀ t : Fin grid0.N, Pipeline.Window.fetchOf grid0 false cc0_transform_6 t = true ↔ t.val % 8 = 0)
/-- Window 7 (result 0 (%7#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%7#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%7#2)) is written back at the last point only, at any contents of the tables (its index map reads none). -/
theorem flush0_9 (a : (pcfg0 (F := F)).Adm) : ∀ t : Fin (cfg0 a).N, ((cfg0 a).win 9).flush t = true ↔ t.val % 48 = 47 :=
  (fun t => Pipeline.Window.flushOf_const cc0_transform_9 (fun _ _ => rfl) (n := 48) (by decide) rfl t : ∀ t : Fin grid0.N, Pipeline.Window.flushOf grid0 true cc0_transform_9 t = true ↔ t.val % 48 = 47)
/-- Window 10 (result 3 (%7#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 4 (%7#4)) is written back at the last point only, at any contents of the tables (its index map reads none). -/
theorem flush0_11 (a : (pcfg0 (F := F)).Adm) : ∀ t : Fin (cfg0 a).N, ((cfg0 a).win 11).flush t = true ↔ t.val % 48 = 47 :=
  (fun t => Pipeline.Window.flushOf_const cc0_transform_11 (fun _ _ => rfl) (n := 48) (by decide) rfl t : ∀ t : Fin grid0.N, Pipeline.Window.flushOf grid0 true cc0_transform_11 t = true ↔ t.val % 48 = 47)

/-- The current staging memref of each window at point `t`: which of its buffers it is on. -/
abbrev st0_0 (a : (pcfg0 (F := F)).Adm) (t : Fin (cfg0 a).N) := ((cfg0 a).win 0).stage ((cfg0 a).slots t 0)
/-- The buffer that window 1 is on at a point. -/
abbrev st0_1 (a : (pcfg0 (F := F)).Adm) (t : Fin (cfg0 a).N) := ((cfg0 a).win 1).stage ((cfg0 a).slots t 1)
/-- The buffer that window 2 is on at a point. -/
abbrev st0_2 (a : (pcfg0 (F := F)).Adm) (t : Fin (cfg0 a).N) := ((cfg0 a).win 2).stage ((cfg0 a).slots t 2)
/-- The buffer that window 3 is on at a point. -/
abbrev st0_3 (a : (pcfg0 (F := F)).Adm) (t : Fin (cfg0 a).N) := ((cfg0 a).win 3).stage ((cfg0 a).slots t 3)
/-- The buffer that window 4 is on at a point. -/
abbrev st0_4 (a : (pcfg0 (F := F)).Adm) (t : Fin (cfg0 a).N) := ((cfg0 a).win 4).stage ((cfg0 a).slots t 4)
/-- The buffer that window 5 is on at a point. -/
abbrev st0_5 (a : (pcfg0 (F := F)).Adm) (t : Fin (cfg0 a).N) := ((cfg0 a).win 5).stage ((cfg0 a).slots t 5)
/-- The buffer that window 6 is on at a point. -/
abbrev st0_6 (a : (pcfg0 (F := F)).Adm) (t : Fin (cfg0 a).N) := ((cfg0 a).win 6).stage ((cfg0 a).slots t 6)
/-- The buffer that window 7 is on at a point. -/
abbrev st0_7 (a : (pcfg0 (F := F)).Adm) (t : Fin (cfg0 a).N) := ((cfg0 a).win 7).stage ((cfg0 a).slots t 7)
/-- The buffer that window 8 is on at a point. -/
abbrev st0_8 (a : (pcfg0 (F := F)).Adm) (t : Fin (cfg0 a).N) := ((cfg0 a).win 8).stage ((cfg0 a).slots t 8)
/-- The buffer that window 9 is on at a point. -/
abbrev st0_9 (a : (pcfg0 (F := F)).Adm) (t : Fin (cfg0 a).N) := ((cfg0 a).win 9).stage ((cfg0 a).slots t 9)
/-- The buffer that window 10 is on at a point. -/
abbrev st0_10 (a : (pcfg0 (F := F)).Adm) (t : Fin (cfg0 a).N) := ((cfg0 a).win 10).stage ((cfg0 a).slots t 10)
/-- The buffer that window 11 is on at a point. -/
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tree_decode (grid0.coords t) (Memref.whole main_arg7) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

end Cert.Kernel.Own

end
-- ==== Proof.K.Runs.lean ====
module

public import proofs.«01_k».proof.Proof.Gen.Kernel.Launch
public import proofs.«01_k».proof.Proof.Gen.Kernel.Skeleton
public import proofs.«01_k».proof.Proof.K.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the call makes a fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it of any contents. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the contents of the tables. -/
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg7
/-- The first table's memref is its whole buffer. -/
abbrev htbM0_0 : tbM0_0.IsWhole := Memref.isWhole_whole _
/-- The second table, the parents of the new tokens, as the body is handed it. -/
abbrev tbM0_1 : Memref sig .tc .smem S4x48 .i32 := Memref.whole main_v0
/-- The second table's memref is its whole buffer. -/
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table's buffer held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_Kernel`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: a subtype the run finds -/

/-- Each window's current staging memref at point `t`, spelled as the pipeline passes it (`bodyAt0`), and its wholeness. -/
abbrev ms0_0 (hO : Ok m) (t : Fin (cfgM m hO).N) : Memref sig .tc .vmem S1x4x24x96 .bf16 := spec0_0.stage ((cfgM m hO).slots t 0)
/-- The buffer of window 0 is a whole one. -/
abbrev hs0_0 (hO : Ok m) (t : Fin (cfgM m hO).N) : (ms0_0 m hO t).IsWhole := hstage0_0 (((cfgM m hO).slots t 0).cast nbuf0_0)
/-- The buffer of window 1 at a point, as the body is handed it. -/
abbrev ms0_1 (hO : Ok m) (t : Fin (cfgM m hO).N) : Memref sig .tc .vmem S1x3x4x96 .bf16 := spec0_1.stage ((cfgM m hO).slots t 1)
/-- The buffer of window 1 is a whole one. -/
abbrev hs0_1 (hO : Ok m) (t : Fin (cfgM m hO).N) : (ms0_1 m hO t).IsWhole := hstage0_1 (((cfgM m hO).slots t 1).cast nbuf0_1)
/-- The buffer of window 2 at a point, as the body is handed it. -/
abbrev ms0_2 (hO : Ok m) (t : Fin (cfgM m hO).N) : Memref sig .tc .vmem S1x3x4x96 .bf16 := spec0_2.stage ((cfgM m hO).slots t 2)
/-- The buffer of window 2 is a whole one. -/
abbrev hs0_2 (hO : Ok m) (t : Fin (cfgM m hO).N) : (ms0_2 m hO t).IsWhole := hstage0_2 (((cfgM m hO).slots t 2).cast nbuf0_2)
/-- The buffer of window 3 at a point, as the body is handed it. -/
abbrev ms0_3 (hO : Ok m) (t : Fin (cfgM m hO).N) : Memref sig .tc .vmem S1x3x96x2048 .fp8e4m3 := spec0_3.stage ((cfgM m hO).slots t 3)
/-- The buffer of window 3 is a whole one. -/
abbrev hs0_3 (hO : Ok m) (t : Fin (cfgM m hO).N) : (ms0_3 m hO t).IsWhole := hstage0_3 (((cfgM m hO).slots t 3).cast nbuf0_3)
/-- The buffer of window 4 at a point, as the body is handed it. -/
abbrev ms0_4 (hO : Ok m) (t : Fin (cfgM m hO).N) : Memref sig .tc .vmem S1x3x96x2048 .fp8e4m3 := spec0_4.stage ((cfgM m hO).slots t 4)
/-- The buffer of window 4 is a whole one. -/
abbrev hs0_4 (hO : Ok m) (t : Fin (cfgM m hO).N) : (ms0_4 m hO t).IsWhole := hstage0_4 (((cfgM m hO).slots t 4).cast nbuf0_4)
/-- The buffer of window 5 at a point, as the body is handed it. -/
abbrev ms0_5 (hO : Ok m) (t : Fin (cfgM m hO).N) : Memref sig .tc .vmem S3x8x2048 .f32 := spec0_5.stage ((cfgM m hO).slots t 5)
/-- The buffer of window 5 is a whole one. -/
abbrev hs0_5 (hO : Ok m) (t : Fin (cfgM m hO).N) : (ms0_5 m hO t).IsWhole := hstage0_5 (((cfgM m hO).slots t 5).cast nbuf0_5)
/-- The buffer of window 6 at a point, as the body is handed it. -/
abbrev ms0_6 (hO : Ok m) (t : Fin (cfgM m hO).N) : Memref sig .tc .vmem S3x8x2048 .f32 := spec0_6.stage ((cfgM m hO).slots t 6)
/-- The buffer of window 6 is a whole one. -/
abbrev hs0_6 (hO : Ok m) (t : Fin (cfgM m hO).N) : (ms0_6 m hO t).IsWhole := hstage0_6 (((cfgM m hO).slots t 6).cast nbuf0_6)
/-- The buffer of window 7 at a point, as the body is handed it. -/
abbrev ms0_7 (hO : Ok m) (t : Fin (cfgM m hO).N) : Memref sig .tc .vmem S1x4x2304 .bf16 := spec0_7.stage ((cfgM m hO).slots t 7)
/-- The buffer of window 7 is a whole one. -/
abbrev hs0_7 (hO : Ok m) (t : Fin (cfgM m hO).N) : (ms0_7 m hO t).IsWhole := hstage0_7 (((cfgM m hO).slots t 7).cast nbuf0_7)
/-- The buffer of window 8 at a point, as the body is handed it. -/
abbrev ms0_8 (hO : Ok m) (t : Fin (cfgM m hO).N) : Memref sig .tc .vmem S1x3x4x96 .fp8e4m3 := spec0_8.stage ((cfgM m hO).slots t 8)
/-- The buffer of window 8 is a whole one. -/
abbrev hs0_8 (hO : Ok m) (t : Fin (cfgM m hO).N) : (ms0_8 m hO t).IsWhole := hstage0_8 (((cfgM m hO).slots t 8).cast nbuf0_8)
/-- The buffer of window 9 at a point, as the body is handed it. -/
abbrev ms0_9 (hO : Ok m) (t : Fin (cfgM m hO).N) : Memref sig .tc .vmem S3x4x48 .f32 := spec0_9.stage ((cfgM m hO).slots t 9)
/-- The buffer of window 9 is a whole one. -/
abbrev hs0_9 (hO : Ok m) (t : Fin (cfgM m hO).N) : (ms0_9 m hO t).IsWhole := hstage0_9 (((cfgM m hO).slots t 9).cast nbuf0_9)
/-- The buffer of window 10 at a point, as the body is handed it. -/
abbrev ms0_10 (hO : Ok m) (t : Fin (cfgM m hO).N) : Memref sig .tc .vmem S1x3x4x96 .fp8e4m3 := spec0_10.stage ((cfgM m hO).slots t 10)
/-- The buffer of window 10 is a whole one. -/
abbrev hs0_10 (hO : Ok m) (t : Fin (cfgM m hO).N) : (ms0_10 m hO t).IsWhole := hstage0_10 (((cfgM m hO).slots t 10).cast nbuf0_10)
/-- The buffer of window 11 at a point, as the body is handed it. -/
abbrev ms0_11 (hO : Ok m) (t : Fin (cfgM m hO).N) : Memref sig .tc .vmem S3x4x48 .f32 := spec0_11.stage ((cfgM m hO).slots t 11)
/-- The buffer of window 11 is a whole one. -/
abbrev hs0_11 (hO : Ok m) (t : Fin (cfgM m hO).N) : (ms0_11 m hO t).IsWhole := hstage0_11 (((cfgM m hO).slots t 11).cast nbuf0_11)

end Cert.Kernel.Own

end
-- ==== Proof.K.RunA.lean ====
module

public import proofs.«01_k».proof.Proof.K.Runs

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

-- (the run's proof term is large: checking it walks past the default budget)
set_option maxHeartbeats 1000000 in
/-- The body's triple: on whole staging memrefs — the inputs' at their contents,
    the FORGOTTEN outputs' (7, 8, 9, 10, 11) at anything, handed back at some contents nothing names —
    the body runs to the continuation holding the inputs' as they were: the printed functions are their skeletons (`Gen.*_eq_skeleton`),
    which `sl_exec` runs (Lib/Exec.lean). -/
theorem run0_A (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) :
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ (∃ d, owns (c : Thread nD τ) arg12 fullShare d) ∗ (∃ d, owns (c : Thread nD τ) arg13 fullShare d) ∗ (∃ d, owns (c : Thread nD τ) arg14 fullShare d) ∗ tbPt0 c tbM0_0 xt0 ∗ tbPt0 c tbM0_1 xt1) -∗ K ⟨⟩))
          ⊢ wp frame (wpE (defs₀ (F := F)) Variants.none c none) E (cc0_tree_decode i tbM0_0 htbM0_0 tbM0_1 htbM0_1 arg3 harg3 arg4 harg4 arg5 harg5 arg6 harg6 arg7 harg7 arg8 harg8 arg9 harg9 arg10 harg10 arg11 harg11 arg12 harg12 arg13 harg13 arg14 harg14) K := by
    intro E K
    simp only [cc0_tree_decode_eq_skeleton]; unfold cc0_tree_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%d9, %f9, -, H9⟩, ⟨%d10, %f10, -, H10⟩, ⟨%d11, %f11, -, H11⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]
    · iexists _, _; isplitr; swap; · iexact H7
      ipureintro; rfl
    isplitl [H8]
    · iexists _, _; isplitr; swap; · iexact H8
      ipureintro; rfl
    isplitl [H9]
    · iexists _, _; isplitr; swap; · iexact H9
      ipureintro; rfl
    isplitl [H10]
    · iexists _, _; isplitr; swap; · iexact H10
      ipureintro; rfl
    isplitl [H11]
    · iexists _, _; isplitr; swap; · iexact H11
      ipureintro; rfl
    isplitl [HT0]; · iexact HT0
    iexact HT1

end Cert.Kernel.Own

end
-- ==== Proof.K.Frame.lean ====
module

public import proofs.«01_k».proof.Proof.K.RunA
public import Idealize.ShloMosaic.Lib.Claim

@[expose] public section

-- membership in a rectangle of production extents (`View.cover_of_tiled`): the elaborator's structural look
-- recurses once per coordinate of the long axes
set_option maxRecDepth 16384

noncomputable section

namespace Cert.Kernel.Own

open Cert.Kernel.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)
/-! ## The pipeline's proof data -/

/-- The output windows this certificate FORGETS (7, 8, 9, 10, 11): nothing reads what the kernel leaves in them, so nothing
    of it is named (Lib/Pipeline/Dat.lean `Dat.toRForget`). -/
def forgets0 : Fin 12 → Bool := fun w => w.val == 7 || w.val == 8 || w.val == 9 || w.val == 10 || w.val == 11

/-- The proof data of the one pipeline on core `c`: the arrays as the region finds them (`V`); after the body at
    point `t` each input's buffer at its block and the outputs, FORGOTTEN, at `Dat.unnamed`; the invariant the class's
    (Lib/Pipeline/Frame.lean `ΦA`: the scoped rest and the generator register) and the tables' halves (`ΦT`); nothing owed;
    full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, h⟩ => Pipeline.Dat.unnamed (cfg := (cfgM m hO)) ⟨7, h⟩ t
    | ⟨8, h⟩ => Pipeline.Dat.unnamed (cfg := (cfgM m hO)) ⟨8, h⟩ t
    | ⟨9, h⟩ => Pipeline.Dat.unnamed (cfg := (cfgM m hO)) ⟨9, h⟩ t
    | ⟨10, h⟩ => Pipeline.Dat.unnamed (cfg := (cfgM m hO)) ⟨10, h⟩ t
    | ⟨11, h⟩ => Pipeline.Dat.unnamed (cfg := (cfgM m hO)) ⟨11, h⟩ t
  Φ _ := iprop(Pipeline.ΦA spec0 c ∗ Pipeline.ΦT pre0 (tbl m) c)
  q _ := fullShare
  owed _ := 0

/-- The proof data's arrays are the region-entry contents: the proof data's definition projected (`dsimp`), so that
    `V` — a fold over @main's host prefix, long for some programs — is never unfolded to check it. -/
theorem A_eq (hO : Ok m) (c : Dev nD) (w : Fin (cfgM m hO).W) : (dats m hO 0 c).A w = V m c (Pipeline.arrRef spec0 w) := by
  dsimp only [dats]

/-- What the body leaves, window by window (the proof data's `match` reduced by `dsimp`). -/
theorem after0_0 (hO : Ok m) (c : Dev nD) (t : Fin (cfgM m hO).N) : (dats m hO 0 c).after 0 t = iblk m hO c 0 t := by dsimp only [dats]; try rfl
/-- After the body window 1's buffer holds its block. -/
theorem after0_1 (hO : Ok m) (c : Dev nD) (t : Fin (cfgM m hO).N) : (dats m hO 0 c).after 1 t = iblk m hO c 1 t := by dsimp only [dats]; try rfl
/-- After the body window 2's buffer holds its block. -/
theorem after0_2 (hO : Ok m) (c : Dev nD) (t : Fin (cfgM m hO).N) : (dats m hO 0 c).after 2 t = iblk m hO c 2 t := by dsimp only [dats]; try rfl
/-- After the body window 3's buffer holds its block. -/
theorem after0_3 (hO : Ok m) (c : Dev nD) (t : Fin (cfgM m hO).N) : (dats m hO 0 c).after 3 t = iblk m hO c 3 t := by dsimp only [dats]; try rfl
/-- After the body window 4's buffer holds its block. -/
theorem after0_4 (hO : Ok m) (c : Dev nD) (t : Fin (cfgM m hO).N) : (dats m hO 0 c).after 4 t = iblk m hO c 4 t := by dsimp only [dats]; try rfl
/-- After the body window 5's buffer holds its block. -/
theorem after0_5 (hO : Ok m) (c : Dev nD) (t : Fin (cfgM m hO).N) : (dats m hO 0 c).after 5 t = iblk m hO c 5 t := by dsimp only [dats]; try rfl
/-- After the body window 6's buffer holds its block. -/
theorem after0_6 (hO : Ok m) (c : Dev nD) (t : Fin (cfgM m hO).N) : (dats m hO 0 c).after 6 t = iblk m hO c 6 t := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before the body window 1's buffer holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before the body window 2's buffer holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before the body window 3's buffer holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Before the body window 4's buffer holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- Before the body window 5's buffer holds its block. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- Before the body window 6's buffer holds its block. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ (∃ d, owns (c : Thread nD τ) (ms0_7 m hO t) fullShare d)
    ∗ (∃ d, owns (c : Thread nD τ) (ms0_8 m hO t) fullShare d)
    ∗ (∃ d, owns (c : Thread nD τ) (ms0_9 m hO t) fullShare d)
    ∗ (∃ d, owns (c : Thread nD τ) (ms0_10 m hO t) fullShare d)
    ∗ (∃ d, owns (c : Thread nD τ) (ms0_11 m hO t) fullShare d))

set_option maxHeartbeats 1200000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩, ⟨%d10, H10⟩, ⟨%d11, H11⟩⟩
  iapply ((run0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1)) Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexists _; iexact H9
  isplitl [H10]; · iexists _; iexact H10
  isplitl [H11]; · iexists _; iexact H11
  isplitl [HT0]; · iexact HT0
  isplitl [HT1]; · iexact HT1
  iintro ⟨H0, H1, H2, H3, H4, H5, H6, H7, H8, H9, H10, H11, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  iexact H11

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : BodyObligation (dats (F := F) m hO 0 c) (defs₀ (F := F)) Variants.none () Set.univ forgets0 := fun t => by
  rw [bigSep_W0, bigSep_W0, defs₀_row m hO]
  exact triple_restated (sound_body m hO c t) rfl .rfl fun _ => .rfl

/-! ## The run and the frame -/

-- `θ_run_frameP_forget`'s implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (fun c => (dats m hO 0 c).toRForget forgets0) (V m)) r ∧ r.2.sem = fun _ => 0) :=
  Pipeline.θ_run_frameP_forget (Q' := _) pcfgs (fun _ => adm m hO) (dats m hO) (0 : Fin 1) launch0 defs₀ Variants.none forgets0 m ρ main
    (hbody := fun c => (body_obligation m hO c).loose) (hshare := fun c => (dats m hO 0 c).share_full fun _ => rfl)
    (howed := fun _ _ => rfl) (V := V m) (hmain := hmain m Variants.none) (hA := A_eq m hO) (hpf := V_pre m) (hΦ := fun _ _ => rfl)

/-- At the compiled mesh, for any values, from any memory with zero counters: every weakly fair execution of @main on the
    TensorCores terminates, and every final state has every INPUT array of the pipeline unchanged, nothing stated of the
    FORGOTTEN outputs (windows 7, 8, 9, 10, 11) (Lib/Pipeline/Frame.lean `RDat.FramePost` over the proof data with those windows
    forgotten, Dat.lean `Dat.toRForget`), and every other unscoped buffer at its region-entry contents. -/
theorem run_main (hO : Ok m) : θ_run defs (onTc (τ := τ) (main (F := F))) (s₀ m ρ) (Pipeline.RDat.FramePost ((Pipeline.pin pcfgs fun _ => adm m hO) 0) (fun c => (dats m hO 0 c).toRForget forgets0) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (fun c => (dats m hO 0 c).toRForget forgets0) (A_eq m hO) (run_main m ρ hO)

/-- THE FRAME: `Cert.quiescent_Kernel`'s statement (Defs.lean) at any `F` — Proof.lean cites it at `Bits`:
    `theorem Cert.Proof.claim : Cert.Claim := ⟨Cert.Kernel.Gen.facts, fun m ρ _ => Cert.Kernel.Gen.frame m ρ⟩`; here for every contents of the PREFETCHED TABLES, UNDER `Gen.Ok m` (the pipeline's side condition of
    them), which Proof.lean proves from the precondition: `⟨…, fun m ρ h => Cert.Kernel.Gen.frame m ρ (ok_of_pre m h)⟩`. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.Kernel.Own

end
-- ==== Proof.KI.Points.lean ====
module

public import proofs.«01_k».proof.Proof.Gen.KernelIdeal
public import Idealize.ShloMosaic.Lib.Pipeline.Kit

@[expose] public section

noncomputable section

namespace Cert.KernelIdeal.Own

open Cert.KernelIdeal.Gen

open Idealize.ShloMosaic Idealize.ShloMosaic.TcCoe
open Idealize.SL Idealize.SL.Sem

variable {F : FTy → Type} [FloatOps F] [Named F]
/-! ## custom_call 0 -/

/-! A call with PREFETCHED TABLES: its memrefs and body are stated over the pipeline at ANY admissible contents `a`
    of the tables (a certificate instantiates them at the contents it reads off the launch memory). A window whose
    index map reads no table has the same schedule at every `a`: stated over the grid, the window's direction and
    that map alone (Lib/Pipeline/Kit.lean `Window.fetchOf` / `flushOf`), proved from the map and the fact about the
    axes it reads (`hreadsK_W`) or decided, and restated over the pinned window, which unfolds to them. A window whose
    map reads a table gets none here. -/

/-- Window 0 (operand 2 (%arg0)) is fetched at every point, at any contents of the tables (its index map reads none). -/
theorem fetch0_0 (a : (pcfg0 (F := F)).Adm) : ∀ t : Fin (cfg0 a).N, ((cfg0 a).win 0).fetch t = true :=
  (fun t => (Pipeline.Window.fetchOf_reads cc0_transform_0 reads0_0 hreads0_0 0 (by decide) (by decide) (Pipeline.Window.sep_of_coord cc0_transform_0 0 0 (fun _ => rfl) (by decide)) (P := 1) (by decide) t).mpr (Nat.mod_one _) : ∀ t : Fin grid0.N, Pipeline.Window.fetchOf grid0 false cc0_transform_0 t = true)
/-- Window 1 (operand 3 (%1)) is fetched at every point, at any contents of the tables (its index map reads none). -/
theorem fetch0_1 (a : (pcfg0 (F := F)).Adm) : ∀ t : Fin (cfg0 a).N, ((cfg0 a).win 1).fetch t = true :=
  (fun t => (Pipeline.Window.fetchOf_reads cc0_transform_1 reads0_1 hreads0_1 0 (by decide) (by decide) (Pipeline.Window.sep_of_coord cc0_transform_1 0 0 (fun _ => rfl) (by decide)) (P := 1) (by decide) t).mpr (Nat.mod_one _) : ∀ t : Fin grid0.N, Pipeline.Window.fetchOf grid0 false cc0_transform_1 t = true)
/-- Window 2 (operand 4 (%2)) is fetched at every point, at any contents of the tables (its index map reads none). -/
theorem fetch0_2 (a : (pcfg0 (F := F)).Adm) : ∀ t : Fin (cfg0 a).N, ((cfg0 a).win 2).fetch t = true :=
  (fun t => (Pipeline.Window.fetchOf_reads cc0_transform_2 reads0_2 hreads0_2 0 (by decide) (by decide) (Pipeline.Window.sep_of_coord cc0_transform_2 0 0 (fun _ => rfl) (by decide)) (P := 1) (by decide) t).mpr (Nat.mod_one _) : ∀ t : Fin grid0.N, Pipeline.Window.fetchOf grid0 false cc0_transform_2 t = true)
/-- Window 3 (operand 5 (%3)) is fetched at every point, at any contents of the tables (its index map reads none). -/
theorem fetch0_3 (a : (pcfg0 (F := F)).Adm) : ∀ t : Fin (cfg0 a).N, ((cfg0 a).win 3).fetch t = true :=
  (fun t => (Pipeline.Window.fetchOf_reads cc0_transform_3 reads0_3 hreads0_3 0 (by decide) (by decide) (Pipeline.Window.sep_of_coord cc0_transform_3 0 0 (fun _ => rfl) (by decide)) (P := 1) (by decide) t).mpr (Nat.mod_one _) : ∀ t : Fin grid0.N, Pipeline.Window.fetchOf grid0 false cc0_transform_3 t = true)
/-- Window 4 (operand 6 (%4)) is fetched at every point, at any contents of the tables (its index map reads none). -/
theorem fetch0_4 (a : (pcfg0 (F := F)).Adm) : ∀ t : Fin (cfg0 a).N, ((cfg0 a).win 4).fetch t = true :=
  (fun t => (Pipeline.Window.fetchOf_reads cc0_transform_4 reads0_4 hreads0_4 0 (by decide) (by decide) (Pipeline.Window.sep_of_coord cc0_transform_4 0 0 (fun _ => rfl) (by decide)) (P := 1) (by decide) t).mpr (Nat.mod_one _) : ∀ t : Fin grid0.N, Pipeline.Window.fetchOf grid0 false cc0_transform_4 t = true)
/-- Window 5 (operand 7 (%5)) is fetched at the points ≡ 0 (mod 8), at any contents of the tables (its index map reads none). -/
theorem fetch0_5 (a : (pcfg0 (F := F)).Adm) : ∀ t : Fin (cfg0 a).N, ((cfg0 a).win 5).fetch t = true ↔ t.val % 8 = 0 :=
  (by decide +kernel : ∀ t : Fin grid0.N, Pipeline.Window.fetchOf grid0 false cc0_transform_5 t = true ↔ t.val % 8 = 0)
/-- Window 6 (operand 8 (%6)) is fetched at the points ≡ 0 (mod 8), at any contents of the tables (its index map reads none). -/
theorem fetch0_6 (a : (pcfg0 (F := F)).Adm) : ∀ t : Fin (cfg0 a).N, ((cfg0 a).win 6).fetch t = true ↔ t.val % 8 = 0 :=
  (by decide +kernel : ∀ t : Fin grid0.N, Pipeline.Window.fetchOf grid0 false cc0_transform_6 t = true ↔ t.val % 8 = 0)
/-- Window 7 (result 0 (%7#0)) is written back at every point, at any contents of the tables (its index map reads none). -/
theorem flush0_7 (a : (pcfg0 (F := F)).Adm) : ∀ t : Fin (cfg0 a).N, ((cfg0 a).win 7).flush t = true :=
  (fun t => (Pipeline.Window.flushOf_reads cc0_transform_7 reads0_7 hreads0_7 0 (by decide) (by decide) (Pipeline.Window.sep_of_coord cc0_transform_7 0 0 (fun _ => rfl) (by decide)) (P := 1) (m := 0) (by decide) rfl t).mpr (Nat.mod_one _) : ∀ t : Fin grid0.N, Pipeline.Window.flushOf grid0 true cc0_transform_7 t = true)
/-- Window 8 (result 1 (%7#1)) is written back at every point, at any contents of the tables (its index map reads none). -/
theorem flush0_8 (a : (pcfg0 (F := F)).Adm) : ∀ t : Fin (cfg0 a).N, ((cfg0 a).win 8).flush t = true :=
  (fun t => (Pipeline.Window.flushOf_reads cc0_transform_8 reads0_8 hreads0_8 0 (by decide) (by decide) (Pipeline.Window.sep_of_coord cc0_transform_8 0 0 (fun _ => rfl) (by decide)) (P := 1) (m := 0) (by decide) rfl t).mpr (Nat.mod_one _) : ∀ t : Fin grid0.N, Pipeline.Window.flushOf grid0 true cc0_transform_8 t = true)
/-- Window 9 (result 2 (%7#2)) is written back at the last point only, at any contents of the tables (its index map reads none). -/
theorem flush0_9 (a : (pcfg0 (F := F)).Adm) : ∀ t : Fin (cfg0 a).N, ((cfg0 a).win 9).flush t = true ↔ t.val % 48 = 47 :=
  (fun t => Pipeline.Window.flushOf_const cc0_transform_9 (fun _ _ => rfl) (n := 48) (by decide) rfl t : ∀ t : Fin grid0.N, Pipeline.Window.flushOf grid0 true cc0_transform_9 t = true ↔ t.val % 48 = 47)
/-- Window 10 (result 3 (%7#3)) is written back at every point, at any contents of the tables (its index map reads none). -/
theorem flush0_10 (a : (pcfg0 (F := F)).Adm) : ∀ t : Fin (cfg0 a).N, ((cfg0 a).win 10).flush t = true :=
  (fun t => (Pipeline.Window.flushOf_reads cc0_transform_10 reads0_10 hreads0_10 0 (by decide) (by decide) (Pipeline.Window.sep_of_coord cc0_transform_10 0 0 (fun _ => rfl) (by decide)) (P := 1) (m := 0) (by decide) rfl t).mpr (Nat.mod_one _) : ∀ t : Fin grid0.N, Pipeline.Window.flushOf grid0 true cc0_transform_10 t = true)
/-- Window 11 (result 4 (%7#4)) is written back at the last point only, at any contents of the tables (its index map reads none). -/
theorem flush0_11 (a : (pcfg0 (F := F)).Adm) : ∀ t : Fin (cfg0 a).N, ((cfg0 a).win 11).flush t = true ↔ t.val % 48 = 47 :=
  (fun t => Pipeline.Window.flushOf_const cc0_transform_11 (fun _ _ => rfl) (n := 48) (by decide) rfl t : ∀ t : Fin grid0.N, Pipeline.Window.flushOf grid0 true cc0_transform_11 t = true ↔ t.val % 48 = 47)

/-- The current staging memref of each window at point `t`: which of its buffers it is on. -/
abbrev st0_0 (a : (pcfg0 (F := F)).Adm) (t : Fin (cfg0 a).N) := ((cfg0 a).win 0).stage ((cfg0 a).slots t 0)
/-- The buffer that window 1 is on at a point. -/
abbrev st0_1 (a : (pcfg0 (F := F)).Adm) (t : Fin (cfg0 a).N) := ((cfg0 a).win 1).stage ((cfg0 a).slots t 1)
/-- The buffer that window 2 is on at a point. -/
abbrev st0_2 (a : (pcfg0 (F := F)).Adm) (t : Fin (cfg0 a).N) := ((cfg0 a).win 2).stage ((cfg0 a).slots t 2)
/-- The buffer that window 3 is on at a point. -/
abbrev st0_3 (a : (pcfg0 (F := F)).Adm) (t : Fin (cfg0 a).N) := ((cfg0 a).win 3).stage ((cfg0 a).slots t 3)
/-- The buffer that window 4 is on at a point. -/
abbrev st0_4 (a : (pcfg0 (F := F)).Adm) (t : Fin (cfg0 a).N) := ((cfg0 a).win 4).stage ((cfg0 a).slots t 4)
/-- The buffer that window 5 is on at a point. -/
abbrev st0_5 (a : (pcfg0 (F := F)).Adm) (t : Fin (cfg0 a).N) := ((cfg0 a).win 5).stage ((cfg0 a).slots t 5)
/-- The buffer that window 6 is on at a point. -/
abbrev st0_6 (a : (pcfg0 (F := F)).Adm) (t : Fin (cfg0 a).N) := ((cfg0 a).win 6).stage ((cfg0 a).slots t 6)
/-- The buffer that window 7 is on at a point. -/
abbrev st0_7 (a : (pcfg0 (F := F)).Adm) (t : Fin (cfg0 a).N) := ((cfg0 a).win 7).stage ((cfg0 a).slots t 7)
/-- The buffer that window 8 is on at a point. -/
abbrev st0_8 (a : (pcfg0 (F := F)).Adm) (t : Fin (cfg0 a).N) := ((cfg0 a).win 8).stage ((cfg0 a).slots t 8)
/-- The buffer that window 9 is on at a point. -/
abbrev st0_9 (a : (pcfg0 (F := F)).Adm) (t : Fin (cfg0 a).N) := ((cfg0 a).win 9).stage ((cfg0 a).slots t 9)
/-- The buffer that window 10 is on at a point. -/
abbrev st0_10 (a : (pcfg0 (F := F)).Adm) (t : Fin (cfg0 a).N) := ((cfg0 a).win 10).stage ((cfg0 a).slots t 10)
/-- The buffer that window 11 is on at a point. -/
abbrev st0_11 (a : (pcfg0 (F := F)).Adm) (t : Fin (cfg0 a).N) := ((cfg0 a).win 11).stage ((cfg0 a).slots t 11)

/-- The kernel body at point `t`, on what the pipeline calls it with (`defs₀`'s row at the slots). -/
abbrev bodyAt0 (a : (pcfg0 (F := F)).Adm) (t : Fin (cfg0 a).N) : Prog (TpuEff nD τ sig (Elt F) Λ₀ .tc) PUnit :=
  cc0_tree_decode (grid0.coords t) (Memref.whole main_arg7) (Memref.isWhole_whole _) (Memref.whole main_v0) (Memref.isWhole_whole _) (spec0_0.stage ((cfg0 a).slots t 0)) (hstage0_0 (((cfg0 a).slots t 0).cast nbuf0_0)) (spec0_1.stage ((cfg0 a).slots t 1)) (hstage0_1 (((cfg0 a).slots t 1).cast nbuf0_1)) (spec0_2.stage ((cfg0 a).slots t 2)) (hstage0_2 (((cfg0 a).slots t 2).cast nbuf0_2)) (spec0_3.stage ((cfg0 a).slots t 3)) (hstage0_3 (((cfg0 a).slots t 3).cast nbuf0_3)) (spec0_4.stage ((cfg0 a).slots t 4)) (hstage0_4 (((cfg0 a).slots t 4).cast nbuf0_4)) (spec0_5.stage ((cfg0 a).slots t 5)) (hstage0_5 (((cfg0 a).slots t 5).cast nbuf0_5)) (spec0_6.stage ((cfg0 a).slots t 6)) (hstage0_6 (((cfg0 a).slots t 6).cast nbuf0_6)) (spec0_7.stage ((cfg0 a).slots t 7)) (hstage0_7 (((cfg0 a).slots t 7).cast nbuf0_7)) (spec0_8.stage ((cfg0 a).slots t 8)) (hstage0_8 (((cfg0 a).slots t 8).cast nbuf0_8)) (spec0_9.stage ((cfg0 a).slots t 9)) (hstage0_9 (((cfg0 a).slots t 9).cast nbuf0_9)) (spec0_10.stage ((cfg0 a).slots t 10)) (hstage0_10 (((cfg0 a).slots t 10).cast nbuf0_10)) (spec0_11.stage ((cfg0 a).slots t 11)) (hstage0_11 (((cfg0 a).slots t 11).cast nbuf0_11))

end Cert.KernelIdeal.Own

end
-- ==== Proof.KI.Runs.lean ====
module

public import proofs.«01_k».proof.Proof.Gen.KernelIdeal.Launch
public import proofs.«01_k».proof.Proof.Gen.KernelIdeal.Skeleton
public import proofs.«01_k».proof.Proof.KI.Points
public import Idealize.ShloMosaic.Lib.Pipeline.FrameBody
public import Idealize.ShloMosaic.Lib.Ring
public import Idealize.ShloMosaic.Lib.Tactic
public import Idealize.ShloMosaic.Lib.WordCmp

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## @main up to the region -/

/-- Core `c`'s TensorCore buffers when the region is entered: after the host operations `hostOps0` (Launch.lean). -/
abbrev V (c : Dev nD) (b : Ref sig .tc) : Buf (Elt F) ((c : Thread nD τ).loc b) := StableHlo.after hostOps0 (fun b => m (c, b)) b

/-- No host operation before the call makes a fresh buffer. -/
theorem hostOps0_fresh : (hostOps0 : List (HloOp τ sig (Elt F))).Forall fun op => op.fresh = ∅ := by
  simp only [List.Forall]; repeat' constructor

set_option maxHeartbeats 800000 in
/-- @main up to the region, at the certificate's variants `𝒱₀`: the host operations then the region
    (`Pipeline.hmain_prefix`: `StableHlo.wp_seq` over the unscoped buffers, off `main_chain`). -/
theorem hmain (𝒱₀ : Variants) : Pipeline.HMainP (Ix := Unit) (Name := ℕ) (U := UR sig nD τ) (Lvl := ℕ) pcfgs 0 defs₀ 𝒱₀ m (main (F := F)) (V m) :=
  Pipeline.hmainP_prefix pcfgs 0 defs₀ 𝒱₀ m main hostOps0 hostOps0_sub hostOps0_fresh main_chain

/-- No host operation before the region writes `main_arg0`: the region finds it as launched. -/
theorem V_main_arg0 (c : Dev nD) : V m c main_arg0 = m ((c : Thread nD τ).loc main_arg0) :=
  StableHlo.after_of_forall_not_mem (b := Proc.devRef .tc main_arg0) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg1`: the region finds it as launched. -/
theorem V_main_arg1 (c : Dev nD) : V m c main_arg1 = m ((c : Thread nD τ).loc main_arg1) :=
  StableHlo.after_of_forall_not_mem (b := Proc.devRef .tc main_arg1) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg2`: the region finds it as launched. -/
theorem V_main_arg2 (c : Dev nD) : V m c main_arg2 = m ((c : Thread nD τ).loc main_arg2) :=
  StableHlo.after_of_forall_not_mem (b := Proc.devRef .tc main_arg2) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg3`: the region finds it as launched. -/
theorem V_main_arg3 (c : Dev nD) : V m c main_arg3 = m ((c : Thread nD τ).loc main_arg3) :=
  StableHlo.after_of_forall_not_mem (b := Proc.devRef .tc main_arg3) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg4`: the region finds it as launched. -/
theorem V_main_arg4 (c : Dev nD) : V m c main_arg4 = m ((c : Thread nD τ).loc main_arg4) :=
  StableHlo.after_of_forall_not_mem (b := Proc.devRef .tc main_arg4) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg5`: the region finds it as launched. -/
theorem V_main_arg5 (c : Dev nD) : V m c main_arg5 = m ((c : Thread nD τ).loc main_arg5) :=
  StableHlo.after_of_forall_not_mem (b := Proc.devRef .tc main_arg5) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg6`: the region finds it as launched. -/
theorem V_main_arg6 (c : Dev nD) : V m c main_arg6 = m ((c : Thread nD τ).loc main_arg6) :=
  StableHlo.after_of_forall_not_mem (b := Proc.devRef .tc main_arg6) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg7`: the region finds it as launched. -/
theorem V_main_arg7 (c : Dev nD) : V m c main_arg7 = m ((c : Thread nD τ).loc main_arg7) :=
  StableHlo.after_of_forall_not_mem (b := Proc.devRef .tc main_arg7) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))
/-- No host operation before the region writes `main_arg8`: the region finds it as launched. -/
theorem V_main_arg8 (c : Dev nD) : V m c main_arg8 = m ((c : Thread nD τ).loc main_arg8) :=
  StableHlo.after_of_forall_not_mem (b := Proc.devRef .tc main_arg8) _ _ (List.forall_iff_forall_mem.mp (by
    simp only [hostOps0, List.flatten_cons, List.flatten_nil, List.append_nil, List.cons_append,
      List.nil_append, List.Forall, StableHlo.nullary_writes, StableHlo.unary_writes, StableHlo.binary_writes, StableHlo.ternary_writes, StableHlo.quaternary_writes, StableHlo.reshape_writes, StableHlo.binaryIndexed_writes, Finset.mem_singleton]
    repeat' apply And.intro
    all_goals exact StableHlo.devRef_ne_of_ne (by decide)))

/-! ## The prefetched tables, read off the launch memory -/

/-- The tables' contents when the region is entered (`V`; the program runs on ONE device: device 0's). -/
def tbl : pre0.Contents (Elt F) := fun j => V m (0 : Dev nD) (pre0.ref j)
/-- On every device the tables hold those contents (there is one device). -/
theorem V_pre (c : Dev nD) (j : Fin 2) : V m c (pre0.ref j) = tbl m j := by
  obtain rfl : c = 0 := Subsingleton.elim _ _; rfl
/-- The pipeline's side condition of the tables' contents: every window whose index map reads a table has its block
    inside the array at every point (the printed `ok0`; `True` when no map reads a table). The frame holds
    under it; Proof.lean proves it of any contents. -/
abbrev Ok : Prop := ok0 (F := F) (tbl m)
/-- The tables' contents as ADMISSIBLE contents, and the pipeline at them: what the launch theorem runs
    (Lib/Pipeline/Frame.lean `θ_run_frameP`). -/
abbrev adm (hO : Ok m) : (pcfg0 (F := F)).Adm := ⟨tbl m, hO⟩
/-- The pipeline at the contents of the tables. -/
abbrev cfgM (hO : Ok m) : Pipeline.Cfg sig Λ₀ := cfg0 (adm m hO)

/-- Each table as the body is handed it: its whole buffer as a memref, and that memref's wholeness. -/
abbrev tbM0_0 : Memref sig .tc .smem S48 .i32 := Memref.whole main_arg7
/-- The first table's memref is its whole buffer. -/
abbrev htbM0_0 : tbM0_0.IsWhole := Memref.isWhole_whole _
/-- The second table, the parents of the new tokens, as the body is handed it. -/
abbrev tbM0_1 : Memref sig .tc .smem S4x48 .i32 := Memref.whole main_v0
/-- The second table's memref is its whole buffer. -/
abbrev htbM0_1 : tbM0_1.IsWhole := Memref.isWhole_whole _

/-- A table memref's buffer on core `c`: its contents type, and it held at HALF the full share at `f` — behind this
    abbreviation, so that the run's rewriting of the goal leaves `Memref.view` intact (the form the executor reads a held
    buffer in); read-only: the pipeline keeps the other half. -/
abbrev TbBuf0 (c : Dev nD) {S : Shape} {e : EltTy} (M : Memref sig .tc .smem S e) : Type := Buf (Elt F) (M.view.loc (c : Thread nD τ))
/-- The table's buffer held at half the full share. -/
abbrev tbPt0 (c : Dev nD) {S : Shape} {e : EltTy} (M : Memref sig .tc .smem S e) (f : TbBuf0 (F := F) c M) : sProp 𝕄 :=
  M.view.loc (c : Thread nD τ) ↦{fullShare.right} f

/-- The tables' halves the region hands the body (Lib/Pipeline/Frame.lean `ΦT`), table by table: what the body
    obligation hands the run and takes back. -/
theorem PhiT0_eq (c : Dev nD) : (Pipeline.ΦT pre0 (tbl m) c : sProp 𝕄) = iprop(tbPt0 c tbM0_0 (tbl m 0) ∗ tbPt0 c tbM0_1 (tbl m 1)) := by
  unfold Pipeline.ΦT Pipeline.prefHeld
  rw [show (Finset.univ : Finset (Fin 2)) = insert (0 : Fin 2) {(1 : Fin 2)} from by decide,
    bigSep_insert (by decide), bigSep_singleton]
  rfl

/-! ## The windows' blocks -/

/-- Window `w`'s block at point `t`, read off its array as the region finds it (`V`) — for a window whose index map reads a
    table, a function of the tables' words (`hO`: the pipeline at them). -/
def iblk (hO : Ok m) (c : Dev nD) (w : Fin (cfgM m hO).W) (t : Fin (cfgM m hO).N) : (((cfgM m hO).win w).xblock ((cfgM m hO).grid.coords t)).Idx → Elt F ((cfgM m hO).win w).elt :=
  (((cfgM m hO).win w).blk t).view.read (Elt F) (V m c (Pipeline.arrRef spec0 w))

/-- Input window 0's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_0_of (hO : Ok m) {c : Dev nD} (dat : Dat τ (Elt F) Unit ℕ (UR sig nD τ) ℕ (cfgM m hO) c) (hA : dat.A 0 = V m c (Pipeline.arrRef spec0 0))
    (hafter : ∀ t, dat.after 0 t = iblk m hO c 0 t) (t : Fin (cfgM m hO).N) (d) : dat.before 0 t d = iblk m hO c 0 t :=
  (dat.before_in_eq_fetched 0 rfl (fun _ => rfl) (fun _ _ _ => rfl) (fun t => by rw [hafter]; unfold Dat.blockOf iblk; rw [hA]; try rfl) t d).trans
    (by unfold Dat.fetched Dat.blockOf iblk; rw [hA]; try rfl)
/-- Input window 1's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_1_of (hO : Ok m) {c : Dev nD} (dat : Dat τ (Elt F) Unit ℕ (UR sig nD τ) ℕ (cfgM m hO) c) (hA : dat.A 1 = V m c (Pipeline.arrRef spec0 1))
    (hafter : ∀ t, dat.after 1 t = iblk m hO c 1 t) (t : Fin (cfgM m hO).N) (d) : dat.before 1 t d = iblk m hO c 1 t :=
  (dat.before_in_eq_fetched 1 rfl (fun _ => rfl) (fun _ _ _ => rfl) (fun t => by rw [hafter]; unfold Dat.blockOf iblk; rw [hA]; try rfl) t d).trans
    (by unfold Dat.fetched Dat.blockOf iblk; rw [hA]; try rfl)
/-- Input window 2's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_2_of (hO : Ok m) {c : Dev nD} (dat : Dat τ (Elt F) Unit ℕ (UR sig nD τ) ℕ (cfgM m hO) c) (hA : dat.A 2 = V m c (Pipeline.arrRef spec0 2))
    (hafter : ∀ t, dat.after 2 t = iblk m hO c 2 t) (t : Fin (cfgM m hO).N) (d) : dat.before 2 t d = iblk m hO c 2 t :=
  (dat.before_in_eq_fetched 2 rfl (fun _ => rfl) (fun _ _ _ => rfl) (fun t => by rw [hafter]; unfold Dat.blockOf iblk; rw [hA]; try rfl) t d).trans
    (by unfold Dat.fetched Dat.blockOf iblk; rw [hA]; try rfl)
/-- Input window 3's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_3_of (hO : Ok m) {c : Dev nD} (dat : Dat τ (Elt F) Unit ℕ (UR sig nD τ) ℕ (cfgM m hO) c) (hA : dat.A 3 = V m c (Pipeline.arrRef spec0 3))
    (hafter : ∀ t, dat.after 3 t = iblk m hO c 3 t) (t : Fin (cfgM m hO).N) (d) : dat.before 3 t d = iblk m hO c 3 t :=
  (dat.before_in_eq_fetched 3 rfl (fun _ => rfl) (fun _ _ _ => rfl) (fun t => by rw [hafter]; unfold Dat.blockOf iblk; rw [hA]; try rfl) t d).trans
    (by unfold Dat.fetched Dat.blockOf iblk; rw [hA]; try rfl)
/-- Input window 4's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_4_of (hO : Ok m) {c : Dev nD} (dat : Dat τ (Elt F) Unit ℕ (UR sig nD τ) ℕ (cfgM m hO) c) (hA : dat.A 4 = V m c (Pipeline.arrRef spec0 4))
    (hafter : ∀ t, dat.after 4 t = iblk m hO c 4 t) (t : Fin (cfgM m hO).N) (d) : dat.before 4 t d = iblk m hO c 4 t :=
  (dat.before_in_eq_fetched 4 rfl (fun _ => rfl) (fun _ _ _ => rfl) (fun t => by rw [hafter]; unfold Dat.blockOf iblk; rw [hA]; try rfl) t d).trans
    (by unfold Dat.fetched Dat.blockOf iblk; rw [hA]; try rfl)
/-- Input window 5's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_5_of (hO : Ok m) {c : Dev nD} (dat : Dat τ (Elt F) Unit ℕ (UR sig nD τ) ℕ (cfgM m hO) c) (hA : dat.A 5 = V m c (Pipeline.arrRef spec0 5))
    (hafter : ∀ t, dat.after 5 t = iblk m hO c 5 t) (t : Fin (cfgM m hO).N) (d) : dat.before 5 t d = iblk m hO c 5 t :=
  (dat.before_in_eq_fetched 5 rfl (fun _ => rfl) (fun _ _ _ => rfl) (fun t => by rw [hafter]; unfold Dat.blockOf iblk; rw [hA]; try rfl) t d).trans
    (by unfold Dat.fetched Dat.blockOf iblk; rw [hA]; try rfl)
/-- Input window 6's current staging buffer holds its block at every point, fetched there or not, for ANY proof
    data whose array is `V`'s (`hA`) and whose body leaves the block in place (`hafter`): Lib/Pipeline/FrameBody.lean
    `Dat.before_in_eq_fetched` (unfetched, the index has not moved), the window uncut and never idle. -/
theorem before0_6_of (hO : Ok m) {c : Dev nD} (dat : Dat τ (Elt F) Unit ℕ (UR sig nD τ) ℕ (cfgM m hO) c) (hA : dat.A 6 = V m c (Pipeline.arrRef spec0 6))
    (hafter : ∀ t, dat.after 6 t = iblk m hO c 6 t) (t : Fin (cfgM m hO).N) (d) : dat.before 6 t d = iblk m hO c 6 t :=
  (dat.before_in_eq_fetched 6 rfl (fun _ => rfl) (fun _ _ _ => rfl) (fun t => by rw [hafter]; unfold Dat.blockOf iblk; rw [hA]; try rfl) t d).trans
    (by unfold Dat.fetched Dat.blockOf iblk; rw [hA]; try rfl)

/-! ## The frame claim's post from the frame run's -/

/-- THE FRAME from a frame run: for any proof data whose arrays are the region-entry contents (`hA`), a run to
    Lib/Pipeline/Frame.lean's `RDat.FramePost` read at the argument arrays — a staged input by the library's
    `RDat.FramePost.arr_in`, an array no window stages by the post's second clause, each then by `V_…` — is the frame
    claim's post (`Cert.frame_KernelIdeal`, Defs.lean, at any `F`). -/
theorem frame_of (hO : Ok m) (rdat : (c : Dev nD) → Pipeline.RDat τ (Elt F) Unit ℕ (UR sig nD τ) ℕ ((Pipeline.pin pcfgs fun _ => adm m hO) 0) c)
    (hA : ∀ c w, (rdat c).A w = V m c (Pipeline.arrRef spec0 w))
    (h : θ_run defs (onTc (τ := τ) (main (F := F))) (s₀ m ρ) (Pipeline.RDat.FramePost ((Pipeline.pin pcfgs fun _ => adm m hO) 0) rdat (V m))) :
    θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  (θ_run defs _ _).mono (fun _ h c => ⟨(Pipeline.RDat.FramePost.arr_in h c 0 rfl).trans ((hA c 0).trans (V_main_arg0 m c)),
      ((h c).2 main_arg1 (by decide : main_arg1 ∈ Pipeline.restRefs sig spec0)).trans (V_main_arg1 m c),
      ((h c).2 main_arg2 (by decide : main_arg2 ∈ Pipeline.restRefs sig spec0)).trans (V_main_arg2 m c),
      ((h c).2 main_arg3 (by decide : main_arg3 ∈ Pipeline.restRefs sig spec0)).trans (V_main_arg3 m c),
      ((h c).2 main_arg4 (by decide : main_arg4 ∈ Pipeline.restRefs sig spec0)).trans (V_main_arg4 m c),
      ((h c).2 main_arg5 (by decide : main_arg5 ∈ Pipeline.restRefs sig spec0)).trans (V_main_arg5 m c),
      ((h c).2 main_arg6 (by decide : main_arg6 ∈ Pipeline.restRefs sig spec0)).trans (V_main_arg6 m c),
      ((h c).2 main_arg7 (by decide : main_arg7 ∈ Pipeline.restRefs sig spec0)).trans (V_main_arg7 m c),
      ((h c).2 main_arg8 (by decide : main_arg8 ∈ Pipeline.restRefs sig spec0)).trans (V_main_arg8 m c)⟩) h

/-! ## The kernel body on any staging memrefs: a subtype the run finds -/

/-- One staging buffer of output window 7, through which its contents are stated (`View.read_writes_of_cover`: the
    choice does not matter). -/
abbrev VO0_7 : View sig .tc .vmem S1x4x2304 .bf16 := (Memref.whole cc0_stg7_0 : Memref sig .tc .vmem S1x4x2304 .bf16).view
/-- One staging buffer of output window 8, through which its contents are stated (`View.read_writes_of_cover`: the
    choice does not matter). -/
abbrev VO0_8 : View sig .tc .vmem S1x3x4x96 .fp8e4m3 := (Memref.whole cc0_stg8_0 : Memref sig .tc .vmem S1x3x4x96 .fp8e4m3).view
/-- One staging buffer of output window 10, through which its contents are stated (`View.read_writes_of_cover`: the
    choice does not matter). -/
abbrev VO0_10 : View sig .tc .vmem S1x3x4x96 .fp8e4m3 := (Memref.whole cc0_stg10_0 : Memref sig .tc .vmem S1x3x4x96 .fp8e4m3).view
/-- Each window's current staging memref at point `t`, spelled as the pipeline passes it (`bodyAt0`), and its wholeness. -/
abbrev ms0_0 (hO : Ok m) (t : Fin (cfgM m hO).N) : Memref sig .tc .vmem S1x4x24x96 .bf16 := spec0_0.stage ((cfgM m hO).slots t 0)
/-- The buffer of window 0 is a whole one. -/
abbrev hs0_0 (hO : Ok m) (t : Fin (cfgM m hO).N) : (ms0_0 m hO t).IsWhole := hstage0_0 (((cfgM m hO).slots t 0).cast nbuf0_0)
/-- The buffer of window 1 at a point, as the body is handed it. -/
abbrev ms0_1 (hO : Ok m) (t : Fin (cfgM m hO).N) : Memref sig .tc .vmem S1x3x4x96 .bf16 := spec0_1.stage ((cfgM m hO).slots t 1)
/-- The buffer of window 1 is a whole one. -/
abbrev hs0_1 (hO : Ok m) (t : Fin (cfgM m hO).N) : (ms0_1 m hO t).IsWhole := hstage0_1 (((cfgM m hO).slots t 1).cast nbuf0_1)
/-- The buffer of window 2 at a point, as the body is handed it. -/
abbrev ms0_2 (hO : Ok m) (t : Fin (cfgM m hO).N) : Memref sig .tc .vmem S1x3x4x96 .bf16 := spec0_2.stage ((cfgM m hO).slots t 2)
/-- The buffer of window 2 is a whole one. -/
abbrev hs0_2 (hO : Ok m) (t : Fin (cfgM m hO).N) : (ms0_2 m hO t).IsWhole := hstage0_2 (((cfgM m hO).slots t 2).cast nbuf0_2)
/-- The buffer of window 3 at a point, as the body is handed it. -/
abbrev ms0_3 (hO : Ok m) (t : Fin (cfgM m hO).N) : Memref sig .tc .vmem S1x3x96x2048 .fp8e4m3 := spec0_3.stage ((cfgM m hO).slots t 3)
/-- The buffer of window 3 is a whole one. -/
abbrev hs0_3 (hO : Ok m) (t : Fin (cfgM m hO).N) : (ms0_3 m hO t).IsWhole := hstage0_3 (((cfgM m hO).slots t 3).cast nbuf0_3)
/-- The buffer of window 4 at a point, as the body is handed it. -/
abbrev ms0_4 (hO : Ok m) (t : Fin (cfgM m hO).N) : Memref sig .tc .vmem S1x3x96x2048 .fp8e4m3 := spec0_4.stage ((cfgM m hO).slots t 4)
/-- The buffer of window 4 is a whole one. -/
abbrev hs0_4 (hO : Ok m) (t : Fin (cfgM m hO).N) : (ms0_4 m hO t).IsWhole := hstage0_4 (((cfgM m hO).slots t 4).cast nbuf0_4)
/-- The buffer of window 5 at a point, as the body is handed it. -/
abbrev ms0_5 (hO : Ok m) (t : Fin (cfgM m hO).N) : Memref sig .tc .vmem S3x8x2048 .f32 := spec0_5.stage ((cfgM m hO).slots t 5)
/-- The buffer of window 5 is a whole one. -/
abbrev hs0_5 (hO : Ok m) (t : Fin (cfgM m hO).N) : (ms0_5 m hO t).IsWhole := hstage0_5 (((cfgM m hO).slots t 5).cast nbuf0_5)
/-- The buffer of window 6 at a point, as the body is handed it. -/
abbrev ms0_6 (hO : Ok m) (t : Fin (cfgM m hO).N) : Memref sig .tc .vmem S3x8x2048 .f32 := spec0_6.stage ((cfgM m hO).slots t 6)
/-- The buffer of window 6 is a whole one. -/
abbrev hs0_6 (hO : Ok m) (t : Fin (cfgM m hO).N) : (ms0_6 m hO t).IsWhole := hstage0_6 (((cfgM m hO).slots t 6).cast nbuf0_6)
/-- The buffer of window 7 at a point, as the body is handed it. -/
abbrev ms0_7 (hO : Ok m) (t : Fin (cfgM m hO).N) : Memref sig .tc .vmem S1x4x2304 .bf16 := spec0_7.stage ((cfgM m hO).slots t 7)
/-- The buffer of window 7 is a whole one. -/
abbrev hs0_7 (hO : Ok m) (t : Fin (cfgM m hO).N) : (ms0_7 m hO t).IsWhole := hstage0_7 (((cfgM m hO).slots t 7).cast nbuf0_7)
/-- The buffer of window 8 at a point, as the body is handed it. -/
abbrev ms0_8 (hO : Ok m) (t : Fin (cfgM m hO).N) : Memref sig .tc .vmem S1x3x4x96 .fp8e4m3 := spec0_8.stage ((cfgM m hO).slots t 8)
/-- The buffer of window 8 is a whole one. -/
abbrev hs0_8 (hO : Ok m) (t : Fin (cfgM m hO).N) : (ms0_8 m hO t).IsWhole := hstage0_8 (((cfgM m hO).slots t 8).cast nbuf0_8)
/-- The buffer of window 9 at a point, as the body is handed it. -/
abbrev ms0_9 (hO : Ok m) (t : Fin (cfgM m hO).N) : Memref sig .tc .vmem S3x4x48 .f32 := spec0_9.stage ((cfgM m hO).slots t 9)
/-- The buffer of window 9 is a whole one. -/
abbrev hs0_9 (hO : Ok m) (t : Fin (cfgM m hO).N) : (ms0_9 m hO t).IsWhole := hstage0_9 (((cfgM m hO).slots t 9).cast nbuf0_9)
/-- The buffer of window 10 at a point, as the body is handed it. -/
abbrev ms0_10 (hO : Ok m) (t : Fin (cfgM m hO).N) : Memref sig .tc .vmem S1x3x4x96 .fp8e4m3 := spec0_10.stage ((cfgM m hO).slots t 10)
/-- The buffer of window 10 is a whole one. -/
abbrev hs0_10 (hO : Ok m) (t : Fin (cfgM m hO).N) : (ms0_10 m hO t).IsWhole := hstage0_10 (((cfgM m hO).slots t 10).cast nbuf0_10)
/-- The buffer of window 11 at a point, as the body is handed it. -/
abbrev ms0_11 (hO : Ok m) (t : Fin (cfgM m hO).N) : Memref sig .tc .vmem S3x4x48 .f32 := spec0_11.stage ((cfgM m hO).slots t 11)
/-- The buffer of window 11 is a whole one. -/
abbrev hs0_11 (hO : Ok m) (t : Fin (cfgM m hO).N) : (ms0_11 m hO t).IsWhole := hstage0_11 (((cfgM m hO).slots t 11).cast nbuf0_11)

end Cert.KernelIdeal.Own

end
-- ==== Proof.KI.RunA.lean ====
module

public import proofs.«01_k».proof.Proof.KI.Runs

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)

-- (the run's proof term is large: the definition's epilogue — `abstractNestedProofs` — walks it past the default budget)
set_option maxHeartbeats 1000000 in
/-- What the body's stores leave in each output's staging memref, as pieces (last first), WITH the
    proof that on whole staging memrefs — the inputs' at their contents, the other outputs' at
    anything, the body runs to the continuation holding the inputs' as they were,
    each output's buffer with its pieces written (outputs 9 and 11, which the body reads first, at contents `x9` and `x11`): the printed functions are their skeletons
    (`Gen.*_eq_skeleton`), which `sl_exec` runs (Lib/Exec.lean); the pieces are
    the witness that run finds (assigned when `iexact` hands the buffer to the continuation). -/
noncomputable def run0_A (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) :
    Σ' (L7 : List (View.Piece (Elt F) S1x4x2304 .bf16)), Σ' (L8 : List (View.Piece (Elt F) S1x3x4x96 .fp8e4m3)), Σ' (L9 : List (View.Piece (Elt F) S3x4x48 .f32)), Σ' (L10 : List (View.Piece (Elt F) S1x3x4x96 .fp8e4m3)), { L11 : List (View.Piece (Elt F) S3x4x48 .f32) //
      ∀ (E : Set ℕ) (K : PUnit → sProp 𝕄),
        iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ d, owns (c : Thread nD τ) arg10 fullShare d) ∗ (∃ d, owns (c : Thread nD τ) arg11 fullShare d) ∗ owns (c : Thread nD τ) arg12 fullShare x9 ∗ (∃ d, owns (c : Thread nD τ) arg13 fullShare d) ∗ owns (c : Thread nD τ) arg14 fullShare x11 ∗ tbPt0 c tbM0_0 xt0 ∗ tbPt0 c tbM0_1 xt1
            ∗ (iprop(owns (c : Thread nD τ) arg3 fullShare x0 ∗ owns (c : Thread nD τ) arg4 fullShare x1 ∗ owns (c : Thread nD τ) arg5 fullShare x2 ∗ owns (c : Thread nD τ) arg6 fullShare x3 ∗ owns (c : Thread nD τ) arg7 fullShare x4 ∗ owns (c : Thread nD τ) arg8 fullShare x5 ∗ owns (c : Thread nD τ) arg9 fullShare x6 ∗ (∃ f, arg10.view.loc (c : Thread nD τ) ↦[arg10.view.set]{fullShare} arg10.view.writes (Elt F) f L7) ∗ (∃ f, arg11.view.loc (c : Thread nD τ) ↦[arg11.view.set]{fullShare} arg11.view.writes (Elt F) f L8) ∗ (∃ f, arg12.view.loc (c : Thread nD τ) ↦[arg12.view.set]{fullShare} arg12.view.writes (Elt F) f L9) ∗ (∃ f, arg13.view.loc (c : Thread nD τ) ↦[arg13.view.set]{fullShare} arg13.view.writes (Elt F) f L10) ∗ (∃ f, arg14.view.loc (c : Thread nD τ) ↦[arg14.view.set]{fullShare} arg14.view.writes (Elt F) f L11) ∗ tbPt0 c tbM0_0 xt0 ∗ tbPt0 c tbM0_1 xt1) -∗ K ⟨⟩))
          ⊢ wp frame (wpE (defs₀ (F := F)) Variants.none c none) E (cc0_tree_decode i tbM0_0 htbM0_0 tbM0_1 htbM0_1 arg3 harg3 arg4 harg4 arg5 harg5 arg6 harg6 arg7 harg7 arg8 harg8 arg9 harg9 arg10 harg10 arg11 harg11 arg12 harg12 arg13 harg13 arg14 harg14) K } := by
  refine ⟨?_, ?_, ?_, ?_, ?_, fun E K => ?run⟩
  case run =>
    simp only [cc0_tree_decode_eq_skeleton]; unfold cc0_tree_decode_skel
    simp only [k0_part1_eq_skeleton, k0_part2_eq_skeleton, k0_part3_eq_skeleton, k0_part4_eq_skeleton, k0_part5_eq_skeleton, k0_part6_eq_skeleton, k0_part7_eq_skeleton, k0_part8_eq_skeleton, k0_part9_eq_skeleton, k0_part10_eq_skeleton, k0_part11_eq_skeleton, k0_part12_eq_skeleton, k0_part13_eq_skeleton, k0_part14_eq_skeleton, k0_part15_eq_skeleton, k0_part16_eq_skeleton, k0_part17_eq_skeleton, k0_part18_eq_skeleton, k0_part19_eq_skeleton, k0_part20_eq_skeleton, k0_part21_eq_skeleton, k0_part22_eq_skeleton, k0_part23_eq_skeleton, k0_part24_eq_skeleton, k0_part25_eq_skeleton, k0_part26_eq_skeleton, k0_part27_eq_skeleton]
    unfold owns
    iintro ⟨⟨%f0, %hf0, H0⟩, ⟨%f1, %hf1, H1⟩, ⟨%f2, %hf2, H2⟩, ⟨%f3, %hf3, H3⟩, ⟨%f4, %hf4, H4⟩, ⟨%f5, %hf5, H5⟩, ⟨%f6, %hf6, H6⟩, ⟨%d7, %f7, -, H7⟩, ⟨%d8, %f8, -, H8⟩, ⟨%f9, %hf9, H9⟩, ⟨%d10, %f10, -, H10⟩, ⟨%f11, %hf11, H11⟩, HT0, HT1, Hk⟩
    obtain rfl := harg3.eq_unread hf0; obtain rfl := harg4.eq_unread hf1; obtain rfl := harg5.eq_unread hf2; obtain rfl := harg6.eq_unread hf3; obtain rfl := harg7.eq_unread hf4; obtain rfl := harg8.eq_unread hf5; obtain rfl := harg9.eq_unread hf6; obtain rfl := harg14.eq_unread hf11; obtain rfl := harg12.eq_unread hf9
    sl_exec
    sl_step
    iapply Hk
    isplitl [H0]
    · iexists _; isplitr; · ipureintro; exact harg3.read_unread _
      iexact H0
    isplitl [H1]
    · iexists _; isplitr; · ipureintro; exact harg4.read_unread _
      iexact H1
    isplitl [H2]
    · iexists _; isplitr; · ipureintro; exact harg5.read_unread _
      iexact H2
    isplitl [H3]
    · iexists _; isplitr; · ipureintro; exact harg6.read_unread _
      iexact H3
    isplitl [H4]
    · iexists _; isplitr; · ipureintro; exact harg7.read_unread _
      iexact H4
    isplitl [H5]
    · iexists _; isplitr; · ipureintro; exact harg8.read_unread _
      iexact H5
    isplitl [H6]
    · iexists _; isplitr; · ipureintro; exact harg9.read_unread _
      iexact H6
    isplitl [H7]; · iexists _; iexact H7
    isplitl [H8]; · iexists _; iexact H8
    isplitl [H9]; · iexists _; iexact H9
    isplitl [H10]; · iexists _; iexact H10
    isplitl [H11]; · iexists _; iexact H11
    isplitl [HT0]; · iexact HT0
    iexact HT1

end Cert.KernelIdeal.Own

end
-- ==== Proof.KI.Blocks.lean ====
module

public import proofs.«01_k».proof.Proof.KI.RunA

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F] [Named F]

/-! # The blocks that one grid point computes, as functions of the blocks it reads -/

/-- One step of the search for the exponent field of a positive number: `k` is added unless the number lies below the
    power of two of that field. -/
def fieldStep (y : FVec F S4x1 .f32) (n : IVec S4x1 32) (k : BitVec 32) : IVec S4x1 32 :=
  select (cmpf .olt y (bitcastToFloat .f32 (shli (addi n (broadcast S4x1 k)) (broadcast S4x1 23#32)))) n (addi n (broadcast S4x1 k))

/-- The exponent field, by eight steps. -/
def fieldOf (y : FVec F S4x1 .f32) : IVec S4x1 32 :=
  fieldStep y (fieldStep y (fieldStep y (fieldStep y (fieldStep y (fieldStep y (fieldStep y (fieldStep y (broadcast S4x1 0#32) 128#32) 64#32) 32#32) 16#32) 8#32) 4#32) 2#32) 1#32

/-- The exponent of the quantiser: 0 at the field 0, else the field less 126. -/
def expoOf (n : IVec S4x1 32) : IVec S4x1 32 :=
  select (cmpi .eq n (broadcast S4x1 0#32)) (broadcast S4x1 0#32) (subi n (broadcast S4x1 126#32))

/-- The quantiser's scale of each row of a block of four rows. -/
def qScale (w : Vec F S1x1x4x96 .bf16) : FVec F S4x1 .f32 :=
  bitcastToFloat .f32 (shli (addi (expoOf (fieldOf (k0_pay8 w))) (broadcast S4x1 127#32)) (broadcast S4x1 23#32))

/-- The quantiser's codes of a block of four rows. -/
def qCodes (w : Vec F S1x1x4x96 .bf16) : FVec F S4x96 .fp8e4m3 :=
  truncf .fp8e4m3 (minimumf (broadcast S4x96 (Scalar.ofBits .f32 0x43E00000#32)) (maximumf (broadcast S4x96 (Scalar.ofBits .f32 0xC3E00000#32))
    (mulf (k0_pay7 w) (broadcastTo S4x96 (bitcastToFloat .f32 (shli (subi (broadcast S4x1 127#32) (expoOf (fieldOf (k0_pay8 w)))) (broadcast S4x1 23#32))) broadcasts_S4x1_S4x96)))) bitsLt_fp8e4m3_f32

/-- A row of lanes with the scales put into the lane `b`. -/
def laneRow (b : BitVec 32) (s : FVec F S4x1 .f32) (old : Vec F S1x4x48 .f32) : FVec F S1x4x48 .f32 :=
  k0_pay26 b (iota .tc S4x48 32 [1] iota_S4x48_d1_w32) s old

/-- The scales of the new keys of head 0 are computed by the one quantiser. -/
theorem qScale_0k (w : Vec F S1x1x4x96 .bf16) : k0_pay14 (k0_pay8 w) (k0_pay11 (k0_pay8 w) (k0_pay9 w) (k0_pay10 w) 23#32) (k0_pay12 (k0_pay8 w) (k0_pay9 w) (k0_pay10 w) 23#32) 23#32 = qScale w := rfl
/-- The codes of the new keys of head 0 are computed by the one quantiser. -/
theorem qCodes_0k (w : Vec F S1x1x4x96 .bf16) : k0_pay15 (k0_pay7 w) (k0_pay8 w) (k0_pay11 (k0_pay8 w) (k0_pay9 w) (k0_pay10 w) 23#32) (k0_pay12 (k0_pay8 w) (k0_pay9 w) (k0_pay10 w) 23#32) 23#32 = qCodes w := rfl
/-- The scales of the new values of head 0 are computed by the one quantiser. -/
theorem qScale_0v (w : Vec F S1x1x4x96 .bf16) : k0_pay22 (k0_pay18 (k0_pay17 w)) (k0_pay19 (k0_pay17 w)) (k0_pay20 (k0_pay17 w)) 23#32 = qScale w := rfl
/-- The codes of the new values of head 0 are computed by the one quantiser. -/
theorem qCodes_0v (w : Vec F S1x1x4x96 .bf16) : k0_pay23 (k0_pay16 w) (k0_pay21 (k0_pay18 (k0_pay17 w)) (k0_pay19 (k0_pay17 w)) (k0_pay20 (k0_pay17 w)) 23#32) = qCodes w := rfl
/-- The scales of the new keys of head 1 are computed by the one quantiser. -/
theorem qScale_1k (w : Vec F S1x1x4x96 .bf16) : k0_pay52 (k0_pay49 (k0_pay45 w) (k0_pay46 w) (k0_pay47 w)) (k0_pay50 (k0_pay45 w) (k0_pay46 w) (k0_pay47 w)) 0#32 = qScale w := rfl
/-- The codes of the new keys of head 1 are computed by the one quantiser. -/
theorem qCodes_1k (w : Vec F S1x1x4x96 .bf16) : k0_pay53 (k0_pay44 w) (k0_pay49 (k0_pay45 w) (k0_pay46 w) (k0_pay47 w)) (k0_pay50 (k0_pay45 w) (k0_pay46 w) (k0_pay47 w)) 0#32 = qCodes w := rfl
/-- The scales of the new values of head 1 are computed by the one quantiser. -/
theorem qScale_1v (w : Vec F S1x1x4x96 .bf16) : k0_pay61 (k0_pay55 w) (k0_pay58 (k0_pay55 w) (k0_pay56 w) (k0_pay57 w)) (k0_pay59 (k0_pay55 w) (k0_pay56 w) (k0_pay57 w)) = qScale w := rfl
/-- The codes of the new values of head 1 are computed by the one quantiser. -/
theorem qCodes_1v (w : Vec F S1x1x4x96 .bf16) : k0_pay62 (k0_pay54 w) (k0_pay55 w) (k0_pay58 (k0_pay55 w) (k0_pay56 w) (k0_pay57 w)) (k0_pay59 (k0_pay55 w) (k0_pay56 w) (k0_pay57 w)) = qCodes w := rfl
/-- The scales of the new keys of head 2 are computed by the one quantiser. -/
theorem qScale_2k (w : Vec F S1x1x4x96 .bf16) : k0_pay97 (k0_pay89 w) (k0_pay93 (k0_pay89 w) k0_pay90 (k0_pay91 w) k0_pay92) (k0_pay94 (k0_pay89 w) k0_pay90 (k0_pay91 w) k0_pay92) k0_pay95 = qScale w := rfl
/-- The codes of the new keys of head 2 are computed by the one quantiser. -/
theorem qCodes_2k (w : Vec F S1x1x4x96 .bf16) : k0_pay98 (k0_pay88 w) (k0_pay89 w) (k0_pay93 (k0_pay89 w) k0_pay90 (k0_pay91 w) k0_pay92) (k0_pay94 (k0_pay89 w) k0_pay90 (k0_pay91 w) k0_pay92) k0_pay95 = qCodes w := rfl
/-- The scales of the new values of head 2 are computed by the one quantiser. -/
theorem qScale_2v (w : Vec F S1x1x4x96 .bf16) : k0_pay105 (k0_pay104 (k0_pay100 w) (k0_pay101 w) (k0_pay102 w) k0_pay103) 127#32 = qScale w := rfl
/-- The codes of the new values of head 2 are computed by the one quantiser. -/
theorem qCodes_2v (w : Vec F S1x1x4x96 .bf16) : k0_pay106 (k0_pay99 w) (k0_pay104 (k0_pay100 w) (k0_pay101 w) (k0_pay102 w) k0_pay103) = qCodes w := rfl

/-- Which of the four new tokens each of the 32 query rows sees, from the parents of the tokens 1, 2 and 3. -/
def visM (p1 p2 p3 : Elt F .i32) : IVec S32x4 1 :=
  k0_pay5 (iota .tc S32x4 32 [1] iota_S32x4_d1_w32) k0_pay2 (k0_pay3 (F := F) p1 p2 p3) k0_pay4

/-- The attention of the 32 query rows of one key/value head over the cache and the new tokens. -/
def attnBlk (vis : IVec S32x4 1) (valid : IVec S1x2048 1) (q : Vec F S1x4x8x96 .bf16) (kt : Vec F S1x1x96x2048 .fp8e4m3) (ks : Vec F S1x1x2048 .f32)
    (vt : Vec F S1x1x96x2048 .fp8e4m3) (vs : Vec F S1x1x2048 .f32) (k v : Vec F S1x1x4x96 .bf16) : FVec F S4x8x96 .f32 :=
  k0_pay35 (qCodes v) (k0_pay30 valid q kt ks) (k0_pay31 (qScale v)) (k0_pay32 vis (qScale k) (qCodes k) q) (k0_pay33 valid q kt ks)
    (k0_pay34 vis (qScale k) (qCodes k) q) vs vt

section
variable (vis : IVec S32x4 1) (valid : IVec S1x2048 1) (q : Vec F S1x4x8x96 .bf16) (kt : Vec F S1x1x96x2048 .fp8e4m3) (ks : Vec F S1x1x2048 .f32)
    (vt : Vec F S1x1x96x2048 .fp8e4m3) (vs : Vec F S1x1x2048 .f32) (k v : Vec F S1x1x4x96 .bf16)
/-- Head 0 is computed by the one attention block. -/
theorem attn_0 : k0_pay35 (qCodes v) (k0_pay30 valid q kt ks) (k0_pay31 (qScale v)) (k0_pay32 vis (qScale k) (qCodes k) q) (k0_pay33 valid q kt ks)
    (k0_pay34 vis (qScale k) (qCodes k) q) vs vt = attnBlk vis valid q kt ks vt vs k v := rfl
/-- Head 1 is computed by the one attention block. -/
theorem attn_1 : k0_pay78 (qCodes v) (k0_pay75 vis valid (qScale k) (qCodes k) (k0_pay67 q) (k0_pay68 q kt) (k0_pay69 ks) (Named.named κ "sm_log2e" 0x3E16C740#32))
    (k0_pay76 vis valid (qScale k) (qCodes k) (k0_pay67 q) (k0_pay68 q kt) (k0_pay69 ks) (Named.named κ "sm_log2e" 0x3E16C740#32) vs)
    (k0_pay77 vis valid (qScale k) (qCodes k) (qScale v) (k0_pay67 q) (k0_pay68 q kt) (k0_pay69 ks) (Named.named κ "sm_log2e" 0x3E16C740#32)) vt
    = attnBlk vis valid q kt ks vt vs k v := rfl
/-- Head 2 is computed by the one attention block. -/
theorem attn_2 : k0_pay117 vis (qCodes v) (k0_pay113 valid q kt ks) (k0_pay114 (qScale v)) (k0_pay115 (qScale k) (qCodes k) q) k0_pay116 vs vt
    = attnBlk vis valid q kt ks vt vs k v := rfl
end

end Cert.KernelIdeal.Own

end
-- ==== Proof.KI.Out.lean ====
module

public import proofs.«01_k».proof.Proof.KI.Blocks
public import Idealize.ShloMosaic.Lib.WholeRead
public import Idealize.ShloMosaic.Lib.Pipeline.ValueKit.Tiles
public import Idealize.ShloMosaic.Lib.ValueLayout
public import Idealize.ShloMosaic.Lib.ValueLayoutCasts
public import Idealize.ShloMosaic.Lib.ValueIdxCoords
public import Idealize.ShloMosaic.Lib.Pipeline.ValueKit.Geometry
public import Idealize.ShloMosaic.Lib.ValueIdxCore

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-- One buffer of each of the two constant output blocks, as a view. -/
abbrev VO0_9 : View sig .tc .vmem S3x4x48 .f32 := (Memref.whole cc0_stg9_0 : Memref sig .tc .vmem S3x4x48 .f32).view
/-- One buffer of the second of the two constant output blocks, as a view. -/
abbrev VO0_11 : View sig .tc .vmem S3x4x48 .f32 := (Memref.whole cc0_stg11_0 : Memref sig .tc .vmem S3x4x48 .f32).view

/-- Head `k` of a block of new keys or values. -/
def rowOf {e : EltTy} (X : Vec F S1x3x4x96 e) (k : Fin 3) : Vec F S1x1x4x96 e := fun j => X (ix4 u0 k (j 2) (j 3))
/-- The query rows of the key/value head `k`. -/
def qOf (X : Vec F S1x4x24x96 .bf16) (k : Fin 3) : Vec F S1x4x8x96 .bf16 :=
  fun j => X (ix4 u0 (j 1) ⟨8 * k.val + (j 2).val, by have := (j 2).isLt; have : (j 2).val < 8 := this; omega⟩ (j 3))
/-- Head `k` of a block of the cache. -/
def ktOf (X : Vec F S1x3x96x2048 .fp8e4m3) (k : Fin 3) : Vec F S1x1x96x2048 .fp8e4m3 := fun j => X (ix4 u0 k (j 2) (j 3))
/-- Head `k`, row `r`, of a block of the cache's scales. -/
def scOf (X : Vec F S3x8x2048 .f32) (k : Fin 3) (r : Fin 8) : Vec F S1x1x2048 .f32 := fun j => X (ix3 k r (j 2))
/-- Row `k` of a block of lanes. -/
def lnOf (X : Vec F S3x4x48 .f32) (k : Fin 3) : Vec F S1x4x48 .f32 := fun j => X (ix3 k (j 1) (j 2))
/-- The number of cached tokens of the sequence `b`. -/
def lenW {c : Dev nD} (xt0 : TbBuf0 (F := F) c tbM0_0) (b : Fin 48) : Elt F .i32 := tbM0_0.view.read (Elt F) xt0 (ix1 b)
/-- The parent of the token `j` of the sequence `b`. -/
def parW {c : Dev nD} (xt1 : TbBuf0 (F := F) c tbM0_1) (j : Fin 4) (b : Fin 48) : Elt F .i32 := tbM0_1.view.read (Elt F) xt1 (ix2 j b)

/-- A read of one head of a block. -/
theorem readAt_row {e : EltTy} (M : Memref sig .tc .vmem S1x3x4x96 e) (h : M.IsWhole) (X : Vec F S1x3x4x96 e) (o : ℕ) (ho : o < 3) (inb) :
    View.readAt (Elt F) M.view (Rect.unit ![0, o, 0, 0] ![1, 1, 4, 96] inb).toLoadRect (h.unread X) = rowOf X ⟨o, ho⟩ := by
  funext x
  rw [h.readAt_unread]
  refine congrArg X (funext fun d => Fin.ext ?_)
  refine (Rect.idx_unit_val _ _ _ _ _).trans ?_
  match d with
  | ⟨0, _⟩ => have := (x 0).isLt; have : (x 0).val < 1 := this; show 0 + (x 0).val = 0; omega
  | ⟨1, _⟩ => have := (x 1).isLt; have : (x 1).val < 1 := this; show o + (x 1).val = o; omega
  | ⟨2, _⟩ => show 0 + (x 2).val = (x 2).val; omega
  | ⟨3, _⟩ => show 0 + (x 3).val = (x 3).val; omega
/-- A read of the query rows of one key/value head. -/
theorem readAt_q (M : Memref sig .tc .vmem S1x4x24x96 .bf16) (h : M.IsWhole) (X : Vec F S1x4x24x96 .bf16) (k : Fin 3) (o : ℕ) (ho : o = 8 * k.val) (inb) :
    View.readAt (Elt F) M.view (Rect.unit ![0, 0, o, 0] ![1, 4, 8, 96] inb).toLoadRect (h.unread X) = qOf X k := by
  funext x
  rw [h.readAt_unread]
  refine congrArg X (funext fun d => Fin.ext ?_)
  refine (Rect.idx_unit_val _ _ _ _ _).trans ?_
  match d with
  | ⟨0, _⟩ => have := (x 0).isLt; have : (x 0).val < 1 := this; show 0 + (x 0).val = 0; omega
  | ⟨1, _⟩ => show 0 + (x 1).val = (x 1).val; omega
  | ⟨2, _⟩ => show o + (x 2).val = 8 * k.val + (x 2).val; omega
  | ⟨3, _⟩ => show 0 + (x 3).val = (x 3).val; omega
/-- A read of one head of a block of the cache. -/
theorem readAt_kt (M : Memref sig .tc .vmem S1x3x96x2048 .fp8e4m3) (h : M.IsWhole) (X : Vec F S1x3x96x2048 .fp8e4m3) (o : ℕ) (ho : o < 3) (inb) :
    View.readAt (Elt F) M.view (Rect.unit ![0, o, 0, 0] ![1, 1, 96, 2048] inb).toLoadRect (h.unread X) = ktOf X ⟨o, ho⟩ := by
  funext x
  rw [h.readAt_unread]
  refine congrArg X (funext fun d => Fin.ext ?_)
  refine (Rect.idx_unit_val _ _ _ _ _).trans ?_
  match d with
  | ⟨0, _⟩ => have := (x 0).isLt; have : (x 0).val < 1 := this; show 0 + (x 0).val = 0; omega
  | ⟨1, _⟩ => have := (x 1).isLt; have : (x 1).val < 1 := this; show o + (x 1).val = o; omega
  | ⟨2, _⟩ => show 0 + (x 2).val = (x 2).val; omega
  | ⟨3, _⟩ => show 0 + (x 3).val = (x 3).val; omega
/-- A read of one row of the cache's scales. -/
theorem readAt_sc (M : Memref sig .tc .vmem S3x8x2048 .f32) (h : M.IsWhole) (X : Vec F S3x8x2048 .f32) (k : Fin 3) (r : Fin 8) (off : Fin 3 → ℕ)
    (h0 : off = ![k.val, r.val, 0]) (inb) :
    View.readAt (Elt F) M.view (Rect.unit off ![1, 1, 2048] inb).toLoadRect (h.unread X) = scOf X k r := by
  subst h0
  funext x
  rw [h.readAt_unread]
  refine congrArg X (funext fun d => Fin.ext ?_)
  refine (Rect.idx_unit_val _ _ _ _ _).trans ?_
  match d with
  | ⟨0, _⟩ => have := (x 0).isLt; have : (x 0).val < 1 := this; show k.val + (x 0).val = k.val; omega
  | ⟨1, _⟩ => have := (x 1).isLt; have : (x 1).val < 1 := this; show r.val + (x 1).val = r.val; omega
  | ⟨2, _⟩ => show 0 + (x 2).val = (x 2).val; omega
/-- A read of one row of lanes. -/
theorem readAt_ln (M : Memref sig .tc .vmem S3x4x48 .f32) (h : M.IsWhole) (X : Vec F S3x4x48 .f32) (o : ℕ) (ho : o < 3) (inb) :
    View.readAt (Elt F) M.view (Rect.unit ![o, 0, 0] ![1, 4, 48] inb).toLoadRect (h.unread X) = lnOf X ⟨o, ho⟩ := by
  funext x
  rw [h.readAt_unread]
  refine congrArg X (funext fun d => Fin.ext ?_)
  refine (Rect.idx_unit_val _ _ _ _ _).trans ?_
  match d with
  | ⟨0, _⟩ => have := (x 0).isLt; have : (x 0).val < 1 := this; show o + (x 0).val = o; omega
  | ⟨1, _⟩ => show 0 + (x 1).val = (x 1).val; omega
  | ⟨2, _⟩ => show 0 + (x 2).val = (x 2).val; omega

/-- A row of lanes at an index: the scale in the lane `b`, the old contents elsewhere. -/
theorem laneRow_apply (b : Fin 48) (s : FVec F S4x1 .f32) (old : Vec F S1x4x48 .f32) (x : S1x4x48.Idx) :
    laneRow (BitVec.ofNat 32 b.val) s old x = if (x 2).val = b.val then s (ix2 (x 1) u0) else old x := by
  unfold laneRow k0_pay26
  obtain ⟨a, p, l, rfl⟩ : ∃ (a : Fin 1) (p : Fin 4) (l : Fin 48), x = ix3 a p l := ⟨x 0, x 1, x 2, eq_ix3 x⟩
  refine (shapeCast_ab_1ab_apply _ _ _ _ _).trans ?_
  rw [select_apply]
  have hc : cmpi .eq (iota .tc S4x48 32 [1] iota_S4x48_d1_w32) (broadcast S4x48 (BitVec.ofNat 32 b.val)) (ix2 p l)
      = if l.val = b.val then 1#1 else 0#1 := by
    have : ∀ (l b : Fin 48), IntOp.cmpi .eq (BitVec.ofNat 32 l.val) (BitVec.ofNat 32 b.val) = if l.val = b.val then 1#1 else 0#1 := by decide +kernel
    have hi := iota_single_apply .tc S4x48 32 1 iota_S4x48_d1_w32 (ix2 p l)
    refine (congrArg (fun z => IntOp.cmpi .eq z (BitVec.ofNat 32 b.val)) hi).trans (this l b)
  rw [hc]
  show _ = if l.val = b.val then s (ix2 p u0) else old (ix3 a p l)
  by_cases h : l.val = b.val
  · rw [if_pos h, if_pos h, select_one]
    refine (broadcastTo_apply _ _ (ix2 p l) (ix2 p u0) fun ax => ?_).trans (congrFun (shapeCast_self _ _) _)
    match ax with
    | ⟨0, _⟩ => rfl
    | ⟨1, _⟩ => rfl
  · rw [if_neg h, if_neg h, select_zero, Fin.fin_one_eq_zero a]
    exact shapeCast_1ab_ab_apply _ _ _ _

/-- One stored row of lanes: the scales of the head `o` in the lane of the grid point, the old lanes elsewhere. -/
theorem lane_piece (b : Fin 48) (Mr : Memref sig .tc .vmem S1x3x4x96 .bf16) (hr : Mr.IsWhole) (X : Vec F S1x3x4x96 .bf16)
    (Ml : Memref sig .tc .vmem S3x4x48 .f32) (hl : Ml.IsWhole) (Y : Vec F S3x4x48 .f32) (o : ℕ) (ho : o < 3) (inb inb' inb'')
    (x : S1x4x48.Idx) :
    laneRow (BitVec.ofNat 32 b.val) (qScale (View.readAt (Elt F) Mr.view (Rect.unit ![0, o, 0, 0] ![1, 1, 4, 96] inb).toLoadRect (hr.unread X)))
        (View.readAt (Elt F) Ml.view (Rect.unit ![o, 0, 0] ![1, 4, 48] inb').toLoadRect (hl.unread Y)) x
      = if ((Rect.unit (s := S3x4x48) ![o, 0, 0] ![1, 4, 48] inb'').emb x 2).val = b.val
        then qScale (rowOf X ((Rect.unit (s := S3x4x48) ![o, 0, 0] ![1, 4, 48] inb'').emb x 0)) (ix2 ((Rect.unit (s := S3x4x48) ![o, 0, 0] ![1, 4, 48] inb'').emb x 1) u0)
        else Y ((Rect.unit (s := S3x4x48) ![o, 0, 0] ![1, 4, 48] inb'').emb x) := by
  rw [readAt_row Mr hr X o ho, readAt_ln Ml hl Y o ho, laneRow_apply]
  have h0 : (x 0).val = 0 := by have := (x 0).isLt; have : (x 0).val < 1 := this; omega
  have e : (Rect.unit (s := S3x4x48) ![o, 0, 0] ![1, 4, 48] inb'').emb x = ix3 ⟨o, ho⟩ (x 1) (x 2) := by
    funext d
    refine Fin.ext ((Idealize.ShloMosaic.ValueKit.rect_emb_unit_val _ _ _ _ _).trans ?_)
    match d with
    | ⟨0, _⟩ => show o + (x 0).val = o; omega
    | ⟨1, _⟩ => show 0 + (x 1).val = (x 1).val; omega
    | ⟨2, _⟩ => show 0 + (x 2).val = (x 2).val; omega
  rw [e]
  rfl

/-- The codes as stored: one head of the block. -/
def codesPiece (w : Vec F S1x1x4x96 .bf16) : FVec F S1x1x4x96 .fp8e4m3 := shapeCast S1x1x4x96 (qCodes w) shapeCasts_S4x96_S1x1x4x96

/-- One stored head of codes. -/
theorem codes_piece (Mr : Memref sig .tc .vmem S1x3x4x96 .bf16) (hr : Mr.IsWhole) (X : Vec F S1x3x4x96 .bf16) (o : ℕ) (ho : o < 3) (inb inb'')
    (x : S1x1x4x96.Idx) :
    codesPiece (View.readAt (Elt F) Mr.view (Rect.unit ![0, o, 0, 0] ![1, 1, 4, 96] inb).toLoadRect (hr.unread X)) x
      = qCodes (rowOf X ((Rect.unit (s := S1x3x4x96) ![0, o, 0, 0] ![1, 1, 4, 96] inb'').emb x 1))
          (ix2 ((Rect.unit (s := S1x3x4x96) ![0, o, 0, 0] ![1, 1, 4, 96] inb'').emb x 2) ((Rect.unit (s := S1x3x4x96) ![0, o, 0, 0] ![1, 1, 4, 96] inb'').emb x 3)) := by
  rw [readAt_row Mr hr X o ho]
  have h0 : (x 0).val = 0 := by have := (x 0).isLt; have : (x 0).val < 1 := this; omega
  have h1 : (x 1).val = 0 := by have := (x 1).isLt; have : (x 1).val < 1 := this; omega
  have e : (Rect.unit (s := S1x3x4x96) ![0, o, 0, 0] ![1, 1, 4, 96] inb'').emb x = ix4 u0 ⟨o, ho⟩ (x 2) (x 3) := by
    funext d
    refine Fin.ext ((Idealize.ShloMosaic.ValueKit.rect_emb_unit_val _ _ _ _ _).trans ?_)
    match d with
    | ⟨0, _⟩ => show 0 + (x 0).val = 0; omega
    | ⟨1, _⟩ => show o + (x 1).val = o; omega
    | ⟨2, _⟩ => show 0 + (x 2).val = (x 2).val; omega
    | ⟨3, _⟩ => show 0 + (x 3).val = (x 3).val; omega
  rw [e]
  refine shapeCast_apply (qCodes (rowOf X ⟨o, ho⟩)) shapeCasts_S4x96_S1x1x4x96 x (ix2 (x 2) (x 3)) ?_
  rw [Shape.rowMajor_val_four, Shape.rowMajor_val_two]
  show (x 2).val * 96 + (x 3).val = (((x 0).val * 1 + (x 1).val) * 4 + (x 2).val) * 96 + (x 3).val
  rw [h0, h1]; omega

/-- One stored group of query rows: the rows `g` of a block of results. -/
def outPiece (g : ℕ) (h : Shape.Slices (s := S4x8x96) ![0, g, 0] S4x1x96) (A : FVec F S4x8x96 .f32) : FVec F S1x4x96 .bf16 :=
  shapeCast S1x4x96 (truncf .bf16 (shapeCast S4x96 (extractStridedSlice S4x1x96 ![0, g, 0] A h) shapeCasts_S4x1x96_S4x96) bitsLt_bf16_f32) shapeCasts_S4x96_S1x4x96

/-- A block of results at a row, a group and a lane. -/
def atOut (A : Fin 3 → FVec F S4x8x96 .f32) (y : S1x4x2304.Idx) : Elt F .bf16 :=
  truncf .bf16 (A ⟨(y 2).val / 768, by have := (y 2).isLt; have : (y 2).val < 2304 := this; omega⟩) bitsLt_bf16_f32
    (ix3 (y 1) ⟨(y 2).val / 96 % 8, by omega⟩ ⟨(y 2).val % 96, by omega⟩)

/-- A piece stored for one head of queries is its part of the block of results. -/
theorem out_piece (A : Fin 3 → FVec F S4x8x96 .f32) (k : ℕ) (hk : k < 3) (g : ℕ) (hg : g < 8) (h) (B : FVec F S4x8x96 .f32) (hB : B = A ⟨k, hk⟩)
    (off : ℕ) (ho : off = 96 * (8 * k + g)) (inb) (x : S1x4x96.Idx) :
    outPiece g h B x = atOut A ((Rect.unit (s := S1x4x2304) ![0, 0, off] ![1, 4, 96] inb).emb x) := by
  subst hB
  have h0 : (x 0).val = 0 := by have := (x 0).isLt; have : (x 0).val < 1 := this; omega
  have h2 : (x 2).val < 96 := (x 2).isLt
  have e : (Rect.unit (s := S1x4x2304) ![0, 0, off] ![1, 4, 96] inb).emb x = ix3 u0 (x 1) ⟨off + (x 2).val, by omega⟩ := by
    funext d
    refine Fin.ext ((Idealize.ShloMosaic.ValueKit.rect_emb_unit_val _ _ _ _ _).trans ?_)
    match d with
    | ⟨0, _⟩ => show 0 + (x 0).val = 0; omega
    | ⟨1, _⟩ => show 0 + (x 1).val = (x 1).val; omega
    | ⟨2, _⟩ => rfl
  rw [e]
  have e1 : (off + (x 2).val) / 768 = k := by omega
  have e2 : (off + (x 2).val) / 96 % 8 = g := by omega
  have e3 : (off + (x 2).val) % 96 = (x 2).val := by omega
  refine (shapeCast_apply _ shapeCasts_S4x96_S1x4x96 x (ix2 (x 1) (x 2)) ?_).trans ?_
  · rw [Shape.rowMajor_val_three, Shape.rowMajor_val_two]
    show (x 1).val * 96 + (x 2).val = ((x 0).val * 4 + (x 1).val) * 96 + (x 2).val
    rw [h0]; omega
  refine congrArg (fun z => FloatOps.truncf .bf16 bitsLt_bf16_f32 z) ?_
  refine (shapeCast_apply _ shapeCasts_S4x1x96_S4x96 (ix2 (x 1) (x 2)) (ix3 (x 1) u0 (x 2)) ?_).trans ?_
  · rw [Shape.rowMajor_val_three, Shape.rowMajor_val_two]
    show ((x 1).val * 1 + 0) * 96 + (x 2).val = (x 1).val * 96 + (x 2).val
    omega
  show A ⟨k, hk⟩ _ = A ⟨(off + (x 2).val) / 768, _⟩ (ix3 (x 1) ⟨(off + (x 2).val) / 96 % 8, _⟩ ⟨(off + (x 2).val) % 96, _⟩)
  simp only [e1, e2, e3]
  refine congrArg (A ⟨k, hk⟩) (funext fun d => Fin.ext ?_)
  match d with
  | ⟨0, _⟩ => show 0 + (x 1).val = (x 1).val; omega
  | ⟨1, _⟩ => show g + 0 = g; omega
  | ⟨2, _⟩ => show 0 + (x 2).val = (x 2).val; omega

/-- The pieces that the run stores into the block of output 7 cover it. -/
theorem cover0_A_7 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x4x2304.Idx) :
    ∃ pc ∈ (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).1, y ∈ pc.1.set :=
  View.cover_of_tiledL (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).1 S1x4x96.size (by sl_kernel_rfl) y

/-- What the run leaves in the block of output 7. -/
def out0_A_7 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) : Vec F S1x4x2304 .bf16 :=
  VO0_7.read (Elt F) (VO0_7.writes (Elt F) VO0_7.junk (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).1)

/-- The pieces that the run stores into the block of output 8 cover it. -/
theorem cover0_A_8 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x3x4x96.Idx) :
    ∃ pc ∈ (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.1, y ∈ pc.1.set :=
  View.cover_of_tiledL (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.1 S1x1x4x96.size (by sl_kernel_rfl) y

/-- What the run leaves in the block of output 8. -/
def out0_A_8 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) : Vec F S1x3x4x96 .fp8e4m3 :=
  VO0_8.read (Elt F) (VO0_8.writes (Elt F) VO0_8.junk (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.1)

/-- The pieces that the run stores into the block of output 9 cover it. -/
theorem cover0_A_9 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S3x4x48.Idx) :
    ∃ pc ∈ (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.1, y ∈ pc.1.set :=
  View.cover_of_tiledL (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.1 S1x4x48.size (by sl_kernel_rfl) y

/-- What the run leaves in the block of output 9. -/
def out0_A_9 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) : Vec F S3x4x48 .f32 :=
  VO0_9.read (Elt F) (VO0_9.writes (Elt F) VO0_9.junk (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.1)

/-- The pieces that the run stores into the block of output 10 cover it. -/
theorem cover0_A_10 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x3x4x96.Idx) :
    ∃ pc ∈ (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.1, y ∈ pc.1.set :=
  View.cover_of_tiledL (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.1 S1x1x4x96.size (by sl_kernel_rfl) y

/-- What the run leaves in the block of output 10. -/
def out0_A_10 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) : Vec F S1x3x4x96 .fp8e4m3 :=
  VO0_10.read (Elt F) (VO0_10.writes (Elt F) VO0_10.junk (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.1)

/-- The pieces that the run stores into the block of output 11 cover it. -/
theorem cover0_A_11 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S3x4x48.Idx) :
    ∃ pc ∈ (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.2.1, y ∈ pc.1.set :=
  View.cover_of_tiledL (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.2.1 S1x4x48.size (by sl_kernel_rfl) y

/-- What the run leaves in the block of output 11. -/
def out0_A_11 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) : Vec F S3x4x48 .f32 :=
  VO0_11.read (Elt F) (VO0_11.writes (Elt F) VO0_11.junk (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.2.1)

/-- What the run leaves in the block of output 9: the scales in the lane of the grid point, the old lanes elsewhere. -/
theorem out0_A_9_apply (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S3x4x48.Idx) :
    out0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y = if (y 2).val = (i 0).val then qScale (rowOf x1 (y 0)) (ix2 (y 1) u0) else x9 y := by
  unfold out0_A_9
  rw [View.read_writes_junk_apply_eq_canon]
  refine View.canon_apply_of_pieces (fun y : S3x4x48.Idx => if (y 2).val = (i 0).val then qScale (rowOf x1 (y 0)) (ix2 (y 1) u0) else x9 y) _ ?_ y (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)
  unfold run0_A; dsimp only; sl_unfold_words
  simp only [List.forall_mem_cons]
  refine ⟨fun x => lane_piece (i 0) arg4 harg4 x1 arg12 harg12 x9 2 (by omega) _ _ _ x, fun x => lane_piece (i 0) arg4 harg4 x1 arg12 harg12 x9 1 (by omega) _ _ _ x, fun x => lane_piece (i 0) arg4 harg4 x1 arg12 harg12 x9 0 (by omega) _ _ _ x, fun _ h => absurd h List.not_mem_nil⟩

/-- What the run leaves in the block of output 11: the scales in the lane of the grid point, the old lanes elsewhere. -/
theorem out0_A_11_apply (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S3x4x48.Idx) :
    out0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y = if (y 2).val = (i 0).val then qScale (rowOf x2 (y 0)) (ix2 (y 1) u0) else x11 y := by
  unfold out0_A_11
  rw [View.read_writes_junk_apply_eq_canon]
  refine View.canon_apply_of_pieces (fun y : S3x4x48.Idx => if (y 2).val = (i 0).val then qScale (rowOf x2 (y 0)) (ix2 (y 1) u0) else x11 y) _ ?_ y (cover0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)
  unfold run0_A; dsimp only; sl_unfold_words
  simp only [List.forall_mem_cons]
  refine ⟨fun x => lane_piece (i 0) arg5 harg5 x2 arg14 harg14 x11 2 (by omega) _ _ _ x, fun x => lane_piece (i 0) arg5 harg5 x2 arg14 harg14 x11 1 (by omega) _ _ _ x, fun x => lane_piece (i 0) arg5 harg5 x2 arg14 harg14 x11 0 (by omega) _ _ _ x, fun _ h => absurd h List.not_mem_nil⟩

/-- What the run leaves in the block of output 8: the codes of every head. -/
theorem out0_A_8_apply (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x3x4x96.Idx) :
    out0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y = qCodes (rowOf x1 (y 1)) (ix2 (y 2) (y 3)) := by
  unfold out0_A_8
  rw [View.read_writes_junk_apply_eq_canon]
  refine View.canon_apply_of_pieces (fun y : S1x3x4x96.Idx => qCodes (rowOf x1 (y 1)) (ix2 (y 2) (y 3))) _ ?_ y (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)
  unfold run0_A; dsimp only; sl_unfold_words
  simp only [List.forall_mem_cons]
  refine ⟨fun x => codes_piece arg4 harg4 x1 2 (by omega) _ _ x, fun x => codes_piece arg4 harg4 x1 1 (by omega) _ _ x, fun x => codes_piece arg4 harg4 x1 0 (by omega) _ _ x, fun _ h => absurd h List.not_mem_nil⟩

/-- What the run leaves in the block of output 10: the codes of every head. -/
theorem out0_A_10_apply (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x3x4x96.Idx) :
    out0_A_10 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y = qCodes (rowOf x2 (y 1)) (ix2 (y 2) (y 3)) := by
  unfold out0_A_10
  rw [View.read_writes_junk_apply_eq_canon]
  refine View.canon_apply_of_pieces (fun y : S1x3x4x96.Idx => qCodes (rowOf x2 (y 1)) (ix2 (y 2) (y 3))) _ ?_ y (cover0_A_10 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)
  unfold run0_A; dsimp only; sl_unfold_words
  simp only [List.forall_mem_cons]
  refine ⟨fun x => codes_piece arg5 harg5 x2 2 (by omega) _ _ x, fun x => codes_piece arg5 harg5 x2 1 (by omega) _ _ x, fun x => codes_piece arg5 harg5 x2 0 (by omega) _ _ x, fun _ h => absurd h List.not_mem_nil⟩

end Cert.KernelIdeal.Own

end
-- ==== Proof.KI.Out7.lean ====
module

public import proofs.«01_k».proof.Proof.KI.Out
public import Idealize.ShloMosaic.Lib.WholeRead
public import Idealize.ShloMosaic.Lib.Pipeline.ValueKit.Tiles
public import Idealize.ShloMosaic.Lib.ValueLayout
public import Idealize.ShloMosaic.Lib.ValueLayoutCasts
public import Idealize.ShloMosaic.Lib.ValueIdxCoords
public import Idealize.ShloMosaic.Lib.Pipeline.ValueKit.Geometry
public import Idealize.ShloMosaic.Lib.ValueIdxCore

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

/-- The row of the block of scales that the grid point `b` reads, as a word. -/
def rowWord (b : BitVec 32) : BitVec 32 :=
  Scalar.indexCast
    (Scalar.select
      (Scalar.andi
        (Scalar.xori (Scalar.cmpi .slt (Scalar.remsi b (Scalar.select (Scalar.cmpi .eq 8#32 0#32) 1#32 8#32)) 0#32)
          (Scalar.cmpi .slt (Scalar.select (Scalar.cmpi .eq 8#32 0#32) 1#32 8#32) 0#32))
        (Scalar.cmpi .ne (Scalar.remsi b (Scalar.select (Scalar.cmpi .eq 8#32 0#32) 1#32 8#32)) 0#32))
      (Scalar.addi (Scalar.remsi b (Scalar.select (Scalar.cmpi .eq 8#32 0#32) 1#32 8#32))
        (Scalar.select (Scalar.cmpi .eq 8#32 0#32) 1#32 8#32))
      (Scalar.remsi b (Scalar.select (Scalar.cmpi .eq 8#32 0#32) 1#32 8#32)))

/-- The row is the grid point modulo eight. -/
theorem rowWord_toNat : ∀ b : Fin 48, (rowWord (BitVec.ofNat 32 b.val)).toNat = b.val % 8 := by decide +kernel

/-- The grid point's own index, as a word. -/
theorem ptWord_toNat : ∀ b : Fin 48, (Scalar.indexCast (BitVec.ofNat 32 b.val) : BitVec 32).toNat = b.val := by decide +kernel

/-- The block of results of the key/value head `k` at the grid point `b`. -/
def headOut {c : Dev nD} (b : Fin 48) (x0 : Vec F S1x4x24x96 .bf16) (x1 x2 : Vec F S1x3x4x96 .bf16) (x3 x4 : Vec F S1x3x96x2048 .fp8e4m3)
    (x5 x6 : Vec F S3x8x2048 .f32) (xt0 : TbBuf0 (F := F) c tbM0_0) (xt1 : TbBuf0 (F := F) c tbM0_1) (k : Fin 3) : FVec F S4x8x96 .f32 :=
  attnBlk (visM (F := F) (parW xt1 1 b) (parW xt1 2 b) (parW xt1 3 b)) (k0_pay6 (F := F) (lenW xt0 b))
    (qOf x0 k) (ktOf x3 k) (scOf x5 k ⟨b.val % 8, by omega⟩) (ktOf x4 k) (scOf x6 k ⟨b.val % 8, by omega⟩) (rowOf x1 k) (rowOf x2 k)

/-- The body's reading of the second table is the parent of a token of the point's sequence. -/
theorem par_read {c : Dev nD} (b : Fin 48) (xt1 : TbBuf0 (F := F) c tbM0_1) (j : ℕ) (hj : j < 4) (inb hf) :
    View.readAt (Elt F) tbM0_1.view (Rect.unit ![j, (Scalar.indexCast (BitVec.ofNat 32 b.val) : BitVec 32).toNat] ![1, 1] inb).toLoadRect xt1 (Shape.Idx.first hf)
      = parW xt1 ⟨j, hj⟩ b := by
  rw [View.readAt_apply]
  refine congrArg (tbM0_1.view.read (Elt F) xt1) (funext fun d => Fin.ext ?_)
  refine (Rect.idx_unit_val _ _ _ _ _).trans ?_
  match d with
  | ⟨0, _⟩ => show j + 0 = j; omega
  | ⟨1, _⟩ => show (Scalar.indexCast (BitVec.ofNat 32 b.val) : BitVec 32).toNat + 0 = b.val; rw [ptWord_toNat]; omega

/-- The body's reading of the first table is the length of the point's cache. -/
theorem len_read {c : Dev nD} (b : Fin 48) (xt0 : TbBuf0 (F := F) c tbM0_0) (inb hf) :
    View.readAt (Elt F) tbM0_0.view (Rect.unit ![(Scalar.indexCast (BitVec.ofNat 32 b.val) : BitVec 32).toNat] ![1] inb).toLoadRect xt0 (Shape.Idx.first hf)
      = lenW xt0 b := by
  rw [View.readAt_apply]
  refine congrArg (tbM0_0.view.read (Elt F) xt0) (funext fun d => Fin.ext ?_)
  refine (Rect.idx_unit_val _ _ _ _ _).trans ?_
  match d with
  | ⟨0, _⟩ => show (Scalar.indexCast (BitVec.ofNat 32 b.val) : BitVec 32).toNat + 0 = b.val; rw [ptWord_toNat]; omega

/-- The attention block on what the body reads is the attention block on the parts of the windows' blocks. -/
theorem blk_read {c : Dev nD} (b : Fin 48) (arg3 : Memref sig .tc .vmem S1x4x24x96 .bf16) (harg3 : arg3.IsWhole) (arg4 arg5 : Memref sig .tc .vmem S1x3x4x96 .bf16)
    (harg4 : arg4.IsWhole) (harg5 : arg5.IsWhole) (arg6 arg7 : Memref sig .tc .vmem S1x3x96x2048 .fp8e4m3) (harg6 : arg6.IsWhole) (harg7 : arg7.IsWhole)
    (arg8 arg9 : Memref sig .tc .vmem S3x8x2048 .f32) (harg8 : arg8.IsWhole) (harg9 : arg9.IsWhole)
    (x0 : Vec F S1x4x24x96 .bf16) (x1 x2 : Vec F S1x3x4x96 .bf16) (x3 x4 : Vec F S1x3x96x2048 .fp8e4m3)
    (x5 x6 : Vec F S3x8x2048 .f32) (xt0 : TbBuf0 (F := F) c tbM0_0) (xt1 : TbBuf0 (F := F) c tbM0_1) (k : ℕ) (hk : k < 3) (o : ℕ) (ho : o = 8 * k)
    (i1 i2 i3 i4 i5 i6 i7 i8 i9 i10 i11 f1 f2 f3 f4) :
    attnBlk
      (visM (F := F) (View.readAt (Elt F) tbM0_1.view (Rect.unit ![1, (Scalar.indexCast (BitVec.ofNat 32 b.val) : BitVec 32).toNat] ![1, 1] i1).toLoadRect xt1 (Shape.Idx.first f1))
        (View.readAt (Elt F) tbM0_1.view (Rect.unit ![2, (Scalar.indexCast (BitVec.ofNat 32 b.val) : BitVec 32).toNat] ![1, 1] i2).toLoadRect xt1 (Shape.Idx.first f2))
        (View.readAt (Elt F) tbM0_1.view (Rect.unit ![3, (Scalar.indexCast (BitVec.ofNat 32 b.val) : BitVec 32).toNat] ![1, 1] i3).toLoadRect xt1 (Shape.Idx.first f3)))
      (k0_pay6 (F := F) (View.readAt (Elt F) tbM0_0.view (Rect.unit ![(Scalar.indexCast (BitVec.ofNat 32 b.val) : BitVec 32).toNat] ![1] i4).toLoadRect xt0 (Shape.Idx.first f4)))
      (View.readAt (Elt F) arg3.view (Rect.unit ![0, 0, o, 0] ![1, 4, 8, 96] i5).toLoadRect (harg3.unread x0))
      (View.readAt (Elt F) arg6.view (Rect.unit ![0, k, 0, 0] ![1, 1, 96, 2048] i6).toLoadRect (harg6.unread x3))
      (View.readAt (Elt F) arg8.view (Rect.unit ![k, (rowWord (BitVec.ofNat 32 b.val)).toNat, 0] ![1, 1, 2048] i7).toLoadRect (harg8.unread x5))
      (View.readAt (Elt F) arg7.view (Rect.unit ![0, k, 0, 0] ![1, 1, 96, 2048] i8).toLoadRect (harg7.unread x4))
      (View.readAt (Elt F) arg9.view (Rect.unit ![k, (rowWord (BitVec.ofNat 32 b.val)).toNat, 0] ![1, 1, 2048] i9).toLoadRect (harg9.unread x6))
      (View.readAt (Elt F) arg4.view (Rect.unit ![0, k, 0, 0] ![1, 1, 4, 96] i10).toLoadRect (harg4.unread x1))
      (View.readAt (Elt F) arg5.view (Rect.unit ![0, k, 0, 0] ![1, 1, 4, 96] i11).toLoadRect (harg5.unread x2))
    = headOut b x0 x1 x2 x3 x4 x5 x6 xt0 xt1 ⟨k, hk⟩ := by
  have hr : ![k, (rowWord (BitVec.ofNat 32 b.val)).toNat, 0] = ![(⟨k, hk⟩ : Fin 3).val, (⟨b.val % 8, by omega⟩ : Fin 8).val, 0] := by
    rw [rowWord_toNat]
  rw [par_read b xt1 1 (by omega), par_read b xt1 2 (by omega), par_read b xt1 3 (by omega), len_read b xt0,
    readAt_q arg3 harg3 x0 ⟨k, hk⟩ o ho, readAt_kt arg6 harg6 x3 k hk, readAt_kt arg7 harg7 x4 k hk,
    readAt_sc arg8 harg8 x5 ⟨k, hk⟩ ⟨b.val % 8, by omega⟩ _ hr, readAt_sc arg9 harg9 x6 ⟨k, hk⟩ ⟨b.val % 8, by omega⟩ _ hr,
    readAt_row arg4 harg4 x1 k hk, readAt_row arg5 harg5 x2 k hk]
  rfl

set_option maxHeartbeats 4000000 in
/-- What the run leaves in the block of output 7: the results of every head. -/
theorem out0_A_7_apply (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (y : S1x4x2304.Idx) : out0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y = atOut (headOut (i 0) x0 x1 x2 x3 x4 x5 x6 xt0 xt1) y := by
  unfold out0_A_7
  rw [View.read_writes_junk_apply_eq_canon]
  refine View.canon_apply_of_pieces (fun y : S1x4x2304.Idx => atOut (headOut (i 0) x0 x1 x2 x3 x4 x5 x6 xt0 xt1) y) _ ?_ y (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)
  unfold run0_A; dsimp only; sl_unfold_words
  simp only [List.forall_mem_cons]
  refine ⟨fun x => out_piece (headOut (i 0) x0 x1 x2 x3 x4 x5 x6 xt0 xt1) 2 (by omega) 7 (by omega) slices_S4x8x96_o0_7_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 2208 rfl _ x,
    fun x => out_piece (headOut (i 0) x0 x1 x2 x3 x4 x5 x6 xt0 xt1) 2 (by omega) 6 (by omega) slices_S4x8x96_o0_6_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 2112 rfl _ x,
    fun x => out_piece (headOut (i 0) x0 x1 x2 x3 x4 x5 x6 xt0 xt1) 2 (by omega) 5 (by omega) slices_S4x8x96_o0_5_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 2016 rfl _ x,
    fun x => out_piece (headOut (i 0) x0 x1 x2 x3 x4 x5 x6 xt0 xt1) 2 (by omega) 4 (by omega) slices_S4x8x96_o0_4_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 1920 rfl _ x,
    fun x => out_piece (headOut (i 0) x0 x1 x2 x3 x4 x5 x6 xt0 xt1) 2 (by omega) 3 (by omega) slices_S4x8x96_o0_3_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 1824 rfl _ x,
    fun x => out_piece (headOut (i 0) x0 x1 x2 x3 x4 x5 x6 xt0 xt1) 2 (by omega) 2 (by omega) slices_S4x8x96_o0_2_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 1728 rfl _ x,
    fun x => out_piece (headOut (i 0) x0 x1 x2 x3 x4 x5 x6 xt0 xt1) 2 (by omega) 1 (by omega) slices_S4x8x96_o0_1_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 1632 rfl _ x,
    fun x => out_piece (headOut (i 0) x0 x1 x2 x3 x4 x5 x6 xt0 xt1) 2 (by omega) 0 (by omega) slices_S4x8x96_o0_0_0_S4x1x96 _ (blk_read (i 0) arg3 harg3 arg4 arg5 harg4 harg5 arg6 arg7 harg6 harg7 arg8 arg9 harg8 harg9 x0 x1 x2 x3 x4 x5 x6 xt0 xt1 2 (by omega) 16 rfl _ _ _ _ _ _ _ _ _ _ _ _ _ _ _) 1536 rfl _ x,
    fun x => out_piece (headOut (i 0) x0 x1 x2 x3 x4 x5 x6 xt0 xt1) 1 (by omega) 7 (by omega) slices_S4x8x96_o0_7_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 1440 rfl _ x,
    fun x => out_piece (headOut (i 0) x0 x1 x2 x3 x4 x5 x6 xt0 xt1) 1 (by omega) 6 (by omega) slices_S4x8x96_o0_6_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 1344 rfl _ x,
    fun x => out_piece (headOut (i 0) x0 x1 x2 x3 x4 x5 x6 xt0 xt1) 1 (by omega) 5 (by omega) slices_S4x8x96_o0_5_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 1248 rfl _ x,
    fun x => out_piece (headOut (i 0) x0 x1 x2 x3 x4 x5 x6 xt0 xt1) 1 (by omega) 4 (by omega) slices_S4x8x96_o0_4_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 1152 rfl _ x,
    fun x => out_piece (headOut (i 0) x0 x1 x2 x3 x4 x5 x6 xt0 xt1) 1 (by omega) 3 (by omega) slices_S4x8x96_o0_3_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 1056 rfl _ x,
    fun x => out_piece (headOut (i 0) x0 x1 x2 x3 x4 x5 x6 xt0 xt1) 1 (by omega) 2 (by omega) slices_S4x8x96_o0_2_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 960 rfl _ x,
    fun x => out_piece (headOut (i 0) x0 x1 x2 x3 x4 x5 x6 xt0 xt1) 1 (by omega) 1 (by omega) slices_S4x8x96_o0_1_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 864 rfl _ x,
    fun x => out_piece (headOut (i 0) x0 x1 x2 x3 x4 x5 x6 xt0 xt1) 1 (by omega) 0 (by omega) slices_S4x8x96_o0_0_0_S4x1x96 _ (blk_read (i 0) arg3 harg3 arg4 arg5 harg4 harg5 arg6 arg7 harg6 harg7 arg8 arg9 harg8 harg9 x0 x1 x2 x3 x4 x5 x6 xt0 xt1 1 (by omega) 8 rfl _ _ _ _ _ _ _ _ _ _ _ _ _ _ _) 768 rfl _ x,
    fun x => out_piece (headOut (i 0) x0 x1 x2 x3 x4 x5 x6 xt0 xt1) 0 (by omega) 7 (by omega) slices_S4x8x96_o0_7_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 672 rfl _ x,
    fun x => out_piece (headOut (i 0) x0 x1 x2 x3 x4 x5 x6 xt0 xt1) 0 (by omega) 6 (by omega) slices_S4x8x96_o0_6_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 576 rfl _ x,
    fun x => out_piece (headOut (i 0) x0 x1 x2 x3 x4 x5 x6 xt0 xt1) 0 (by omega) 5 (by omega) slices_S4x8x96_o0_5_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 480 rfl _ x,
    fun x => out_piece (headOut (i 0) x0 x1 x2 x3 x4 x5 x6 xt0 xt1) 0 (by omega) 4 (by omega) slices_S4x8x96_o0_4_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 384 rfl _ x,
    fun x => out_piece (headOut (i 0) x0 x1 x2 x3 x4 x5 x6 xt0 xt1) 0 (by omega) 3 (by omega) slices_S4x8x96_o0_3_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 288 rfl _ x,
    fun x => out_piece (headOut (i 0) x0 x1 x2 x3 x4 x5 x6 xt0 xt1) 0 (by omega) 2 (by omega) slices_S4x8x96_o0_2_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 192 rfl _ x,
    fun x => out_piece (headOut (i 0) x0 x1 x2 x3 x4 x5 x6 xt0 xt1) 0 (by omega) 1 (by omega) slices_S4x8x96_o0_1_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 96 rfl _ x,
    fun x => out_piece (headOut (i 0) x0 x1 x2 x3 x4 x5 x6 xt0 xt1) 0 (by omega) 0 (by omega) slices_S4x8x96_o0_0_0_S4x1x96 _ (blk_read (i 0) arg3 harg3 arg4 arg5 harg4 harg5 arg6 arg7 harg6 harg7 arg8 arg9 harg8 harg9 x0 x1 x2 x3 x4 x5 x6 xt0 xt1 0 (by omega) 0 rfl _ _ _ _ _ _ _ _ _ _ _ _ _ _ _) 0 rfl _ x, fun _ h => absurd h List.not_mem_nil⟩

end Cert.KernelIdeal.Own

end
-- ==== Proof.KI.Left.lean ====
module

public import proofs.«01_k».proof.Proof.KI.Out7
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## The outputs' buffers after the run -/
set_option maxHeartbeats 1000000 in
/-- Output 7's buffer after the run holds the run's result. -/
theorem left0_7 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (f : arg10.view.ty.Contents (Elt F)) :
    arg10.view.read (Elt F) (arg10.view.writes (Elt F) f (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).1) = (fun y => atOut (headOut (i 0) x0 x1 x2 x3 x4 x5 x6 xt0 xt1) y : Vec F S1x4x2304 .bf16) :=
  (View.read_writes_of_cover arg10.view f VO0_7 VO0_7.junk _ (cover0_A_7 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11)).trans
    (funext fun y => out0_A_7_apply c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)

set_option maxHeartbeats 1000000 in
/-- Output 8's buffer after the run holds the run's result. -/
theorem left0_8 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (f : arg11.view.ty.Contents (Elt F)) :
    arg11.view.read (Elt F) (arg11.view.writes (Elt F) f (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.1) = (fun y => qCodes (rowOf x1 (y 1)) (ix2 (y 2) (y 3)) : Vec F S1x3x4x96 .fp8e4m3) :=
  (View.read_writes_of_cover arg11.view f VO0_8 VO0_8.junk _ (cover0_A_8 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11)).trans
    (funext fun y => out0_A_8_apply c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)

set_option maxHeartbeats 1000000 in
/-- Output 9's buffer after the run holds the run's result. -/
theorem left0_9 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (f : arg12.view.ty.Contents (Elt F)) :
    arg12.view.read (Elt F) (arg12.view.writes (Elt F) f (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.1) = (out0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 : Vec F S3x4x48 .f32) :=
  View.read_writes_of_cover arg12.view f VO0_9 VO0_9.junk _ (cover0_A_9 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11)

set_option maxHeartbeats 1000000 in
/-- Output 10's buffer after the run holds the run's result. -/
theorem left0_10 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (f : arg13.view.ty.Contents (Elt F)) :
    arg13.view.read (Elt F) (arg13.view.writes (Elt F) f (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.1) = (fun y => qCodes (rowOf x2 (y 1)) (ix2 (y 2) (y 3)) : Vec F S1x3x4x96 .fp8e4m3) :=
  (View.read_writes_of_cover arg13.view f VO0_10 VO0_10.junk _ (cover0_A_10 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11)).trans
    (funext fun y => out0_A_10_apply c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 y)

set_option maxHeartbeats 1000000 in
/-- Output 11's buffer after the run holds the run's result. -/
theorem left0_11 (c : Dev nD) (i : grid0.Coords) (arg3 : Memref sig .tc .vmem S1x4x24x96 .bf16) (harg3 : arg3.IsWhole) (arg4 : Memref sig .tc .vmem S1x3x4x96 .bf16) (harg4 : arg4.IsWhole) (arg5 : Memref sig .tc .vmem S1x3x4x96 .bf16) (harg5 : arg5.IsWhole) (arg6 : Memref sig .tc .vmem S1x3x96x2048 .fp8e4m3) (harg6 : arg6.IsWhole) (arg7 : Memref sig .tc .vmem S1x3x96x2048 .fp8e4m3) (harg7 : arg7.IsWhole) (arg8 : Memref sig .tc .vmem S3x8x2048 .f32) (harg8 : arg8.IsWhole) (arg9 : Memref sig .tc .vmem S3x8x2048 .f32) (harg9 : arg9.IsWhole) (arg10 : Memref sig .tc .vmem S1x4x2304 .bf16) (harg10 : arg10.IsWhole) (arg11 : Memref sig .tc .vmem S1x3x4x96 .fp8e4m3) (harg11 : arg11.IsWhole) (arg12 : Memref sig .tc .vmem S3x4x48 .f32) (harg12 : arg12.IsWhole) (arg13 : Memref sig .tc .vmem S1x3x4x96 .fp8e4m3) (harg13 : arg13.IsWhole) (arg14 : Memref sig .tc .vmem S3x4x48 .f32) (harg14 : arg14.IsWhole)
    (x0 : Vec F S1x4x24x96 .bf16) (x1 : Vec F S1x3x4x96 .bf16) (x2 : Vec F S1x3x4x96 .bf16) (x3 : Vec F S1x3x96x2048 .fp8e4m3) (x4 : Vec F S1x3x96x2048 .fp8e4m3) (x5 : Vec F S3x8x2048 .f32) (x6 : Vec F S3x8x2048 .f32) (xt0 : TbBuf0 (F := F) c tbM0_0) (xt1 : TbBuf0 (F := F) c tbM0_1) (x9 : Vec F S3x4x48 .f32) (x11 : Vec F S3x4x48 .f32) (f : arg14.view.ty.Contents (Elt F)) :
    arg14.view.read (Elt F) (arg14.view.writes (Elt F) f (run0_A c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11).2.2.2.2.1) = (out0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11 : Vec F S3x4x48 .f32) :=
  View.read_writes_of_cover arg14.view f VO0_11 VO0_11.junk _ (cover0_A_11 c i arg3 harg3 arg4 harg4 arg5 harg5 arg6 harg6 arg7 harg7 arg8 harg8 arg9 harg9 arg10 harg10 arg11 harg11 arg12 harg12 arg13 harg13 arg14 harg14 x0 x1 x2 x3 x4 x5 x6 xt0 xt1 x9 x11)

end Cert.KernelIdeal.Own

end
-- ==== Proof.KI.Frame.lean ====
module

public import proofs.«01_k».proof.Proof.KI.Left
public import Idealize.ShloMosaic.Lib.Claim
public import Idealize.ShloMosaic.Lib.Pipeline.DatRel

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! ## What the outputs hold after each point -/

/-- The grid point of a lane. -/
def ptOf (l : Fin 48) : Fin grid0.N := ⟨l.val, l.isLt⟩

/-- The one coordinate of a grid point is its position. -/
theorem coord0 : ∀ t : Fin grid0.N, (grid0.coords t 0).val = t.val := by decide +kernel

/-- The results of every head at the point `t`. -/
def res7 (hO : Ok m) (c : Dev nD) (t : Fin (cfgM m hO).N) : Vec F S1x4x2304 .bf16 := fun y =>
  atOut (headOut (c := c) (grid0.coords t 0) (iblk m hO c 0 t) (iblk m hO c 1 t) (iblk m hO c 2 t) (iblk m hO c 3 t) (iblk m hO c 4 t) (iblk m hO c 5 t) (iblk m hO c 6 t) (tbl m 0) (tbl m 1)) y
/-- The codes of the new keys at the point `t`. -/
def res8 (hO : Ok m) (c : Dev nD) (t : Fin (cfgM m hO).N) : Vec F S1x3x4x96 .fp8e4m3 := fun y => qCodes (rowOf (iblk m hO c 1 t : Vec F S1x3x4x96 .bf16) (y 1)) (ix2 (y 2) (y 3))
/-- The codes of the new values at the point `t`. -/
def res10 (hO : Ok m) (c : Dev nD) (t : Fin (cfgM m hO).N) : Vec F S1x3x4x96 .fp8e4m3 := fun y => qCodes (rowOf (iblk m hO c 2 t : Vec F S1x3x4x96 .bf16) (y 1)) (ix2 (y 2) (y 3))
/-- The scales of the new keys of every point, one lane a point. -/
def res9 (hO : Ok m) (c : Dev nD) : Vec F S3x4x48 .f32 := fun y => qScale (rowOf (iblk m hO c 1 (ptOf (y 2)) : Vec F S1x3x4x96 .bf16) (y 0)) (ix2 (y 1) u0)
/-- The scales of the new values of every point, one lane a point. -/
def res11 (hO : Ok m) (c : Dev nD) : Vec F S3x4x48 .f32 := fun y => qScale (rowOf (iblk m hO c 2 (ptOf (y 2)) : Vec F S1x3x4x96 .bf16) (y 0)) (ix2 (y 1) u0)

/-! ## The pipeline's proof data -/

/-- The two output windows whose one block is filled a lane a point (9, 11): held to a relation, not to one contents. -/
def lanes0 : Fin 12 → Bool := fun w => w.val == 9 || w.val == 11
/-- Window 9 is one of the two. -/
theorem lanes0_9 : lanes0 (9 : Fin 12) = true := by decide
/-- Window 11 is one of the two. -/
theorem lanes0_11 : lanes0 (11 : Fin 12) = true := by decide

/-- The proof data of the one pipeline on core `c`: the arrays as the region finds them (`V`); after the body at
    point `t` each input's buffer at its block and the outputs' at the results above; nothing owed; full shares. -/
def dats (hO : Ok m) (_ : Fin 1) (c : Dev nD) : Dat τ (Elt F) Unit ℕ (UR sig nD τ) ℕ (cfgM m hO) c where
  A w := V m c (Pipeline.arrRef spec0 w)
  after w t := match w with
    | ⟨0, _⟩ => iblk m hO c 0 t
    | ⟨1, _⟩ => iblk m hO c 1 t
    | ⟨2, _⟩ => iblk m hO c 2 t
    | ⟨3, _⟩ => iblk m hO c 3 t
    | ⟨4, _⟩ => iblk m hO c 4 t
    | ⟨5, _⟩ => iblk m hO c 5 t
    | ⟨6, _⟩ => iblk m hO c 6 t
    | ⟨7, _⟩ => res7 m hO c t
    | ⟨8, _⟩ => res8 m hO c t
    | ⟨9, _⟩ => res9 m hO c
    | ⟨10, _⟩ => res10 m hO c t
    | ⟨11, _⟩ => res11 m hO c
  Φ _ := iprop(Pipeline.ΦA spec0 c ∗ Pipeline.ΦT pre0 (tbl m) c)
  q _ := fullShare
  owed _ := 0

/-- What the two lane windows hold after the body at point `t`: the lanes of the points up to `t` are final. -/
def laneRel (hO : Ok m) (c : Dev nD) (w : Fin (cfgM m hO).W) (t : Fin (cfgM m hO).N) (X : ((cfgM m hO).win w).block.Idx → Elt F ((cfgM m hO).win w).elt) : Prop :=
  match w with
  | ⟨9, _⟩ => ∀ y : S3x4x48.Idx, (y 2).val ≤ t.val → X y = res9 m hO c y
  | ⟨11, _⟩ => ∀ y : S3x4x48.Idx, (y 2).val ≤ t.val → X y = res11 m hO c y
  | _ => True

/-- The proof data with the two lane windows held to `laneRel`. -/
abbrev rdat (hO : Ok m) (c : Dev nD) : Pipeline.RDat τ (Elt F) Unit ℕ (UR sig nD τ) ℕ (cfgM m hO) c := (dats m hO 0 c).toRRel lanes0 (laneRel m hO c)

/-- The proof data's arrays are the region-entry contents: the proof data's definition projected. -/
theorem A_eq (hO : Ok m) (c : Dev nD) (w : Fin (cfgM m hO).W) : (dats m hO 0 c).A w = V m c (Pipeline.arrRef spec0 w) := by
  dsimp only [dats]

/-- What the body leaves, window by window. -/
theorem after0_0 (hO : Ok m) (c : Dev nD) (t : Fin (cfgM m hO).N) : (dats m hO 0 c).after 0 t = iblk m hO c 0 t := by dsimp only [dats]; try rfl
/-- After the body window 1's buffer holds its block. -/
theorem after0_1 (hO : Ok m) (c : Dev nD) (t : Fin (cfgM m hO).N) : (dats m hO 0 c).after 1 t = iblk m hO c 1 t := by dsimp only [dats]; try rfl
/-- After the body window 2's buffer holds its block. -/
theorem after0_2 (hO : Ok m) (c : Dev nD) (t : Fin (cfgM m hO).N) : (dats m hO 0 c).after 2 t = iblk m hO c 2 t := by dsimp only [dats]; try rfl
/-- After the body window 3's buffer holds its block. -/
theorem after0_3 (hO : Ok m) (c : Dev nD) (t : Fin (cfgM m hO).N) : (dats m hO 0 c).after 3 t = iblk m hO c 3 t := by dsimp only [dats]; try rfl
/-- After the body window 4's buffer holds its block. -/
theorem after0_4 (hO : Ok m) (c : Dev nD) (t : Fin (cfgM m hO).N) : (dats m hO 0 c).after 4 t = iblk m hO c 4 t := by dsimp only [dats]; try rfl
/-- After the body window 5's buffer holds its block. -/
theorem after0_5 (hO : Ok m) (c : Dev nD) (t : Fin (cfgM m hO).N) : (dats m hO 0 c).after 5 t = iblk m hO c 5 t := by dsimp only [dats]; try rfl
/-- After the body window 6's buffer holds its block. -/
theorem after0_6 (hO : Ok m) (c : Dev nD) (t : Fin (cfgM m hO).N) : (dats m hO 0 c).after 6 t = iblk m hO c 6 t := by dsimp only [dats]; try rfl
/-- After the body window 7's buffer holds its part of the results. -/
theorem after0_7 (hO : Ok m) (c : Dev nD) (t : Fin (cfgM m hO).N) : (dats m hO 0 c).after 7 t = res7 m hO c t := by dsimp only [dats]; try rfl
/-- After the body window 8's buffer holds its part of the results. -/
theorem after0_8 (hO : Ok m) (c : Dev nD) (t : Fin (cfgM m hO).N) : (dats m hO 0 c).after 8 t = res8 m hO c t := by dsimp only [dats]; try rfl
/-- After the body window 9's buffer holds its part of the results. -/
theorem after0_9 (hO : Ok m) (c : Dev nD) (t : Fin (cfgM m hO).N) : (dats m hO 0 c).after 9 t = res9 m hO c := by dsimp only [dats]; try rfl
/-- After the body window 10's buffer holds its part of the results. -/
theorem after0_10 (hO : Ok m) (c : Dev nD) (t : Fin (cfgM m hO).N) : (dats m hO 0 c).after 10 t = res10 m hO c t := by dsimp only [dats]; try rfl
/-- After the body window 11's buffer holds its part of the results. -/
theorem after0_11 (hO : Ok m) (c : Dev nD) (t : Fin (cfgM m hO).N) : (dats m hO 0 c).after 11 t = res11 m hO c := by dsimp only [dats]; try rfl

/-- Each input's current staging buffer holds its block at every point, fetched there or not (`beforeK_W_of`). -/
theorem before0_0 (hO : Ok m) (c : Dev nD) (t : Fin (cfgM m hO).N) (d) : (dats m hO 0 c).before 0 t d = iblk m hO c 0 t :=
  before0_0_of m hO (dats m hO 0 c) (A_eq m hO c 0) (after0_0 m hO c) t d
/-- Before the body window 1's buffer holds its block. -/
theorem before0_1 (hO : Ok m) (c : Dev nD) (t : Fin (cfgM m hO).N) (d) : (dats m hO 0 c).before 1 t d = iblk m hO c 1 t :=
  before0_1_of m hO (dats m hO 0 c) (A_eq m hO c 1) (after0_1 m hO c) t d
/-- Before the body window 2's buffer holds its block. -/
theorem before0_2 (hO : Ok m) (c : Dev nD) (t : Fin (cfgM m hO).N) (d) : (dats m hO 0 c).before 2 t d = iblk m hO c 2 t :=
  before0_2_of m hO (dats m hO 0 c) (A_eq m hO c 2) (after0_2 m hO c) t d
/-- Before the body window 3's buffer holds its block. -/
theorem before0_3 (hO : Ok m) (c : Dev nD) (t : Fin (cfgM m hO).N) (d) : (dats m hO 0 c).before 3 t d = iblk m hO c 3 t :=
  before0_3_of m hO (dats m hO 0 c) (A_eq m hO c 3) (after0_3 m hO c) t d
/-- Before the body window 4's buffer holds its block. -/
theorem before0_4 (hO : Ok m) (c : Dev nD) (t : Fin (cfgM m hO).N) (d) : (dats m hO 0 c).before 4 t d = iblk m hO c 4 t :=
  before0_4_of m hO (dats m hO 0 c) (A_eq m hO c 4) (after0_4 m hO c) t d
/-- Before the body window 5's buffer holds its block. -/
theorem before0_5 (hO : Ok m) (c : Dev nD) (t : Fin (cfgM m hO).N) (d) : (dats m hO 0 c).before 5 t d = iblk m hO c 5 t :=
  before0_5_of m hO (dats m hO 0 c) (A_eq m hO c 5) (after0_5 m hO c) t d
/-- Before the body window 6's buffer holds its block. -/
theorem before0_6 (hO : Ok m) (c : Dev nD) (t : Fin (cfgM m hO).N) (d) : (dats m hO 0 c).before 6 t d = iblk m hO c 6 t :=
  before0_6_of m hO (dats m hO 0 c) (A_eq m hO c 6) (after0_6 m hO c) t d

/-! ## The two lane windows -/

/-- What the body finds in window 9: the lanes of the points before `t` are final. -/
theorem finds0_9 (hO : Ok m) (c : Dev nD) (t : Fin (cfgM m hO).N) (Y : ((cfgM m hO).win 9).block.Idx → Elt F ((cfgM m hO).win 9).elt)
    (h : (rdat m hO c).Finds 9 t Y) (y : S3x4x48.Idx) (hy : (y 2).val < t.val) : Y y = res9 m hO c y := by
  have ht : t.val ≠ 0 := by omega
  have hN : t.val < 48 := t.isLt
  rcases ((rdat m hO c).finds_of_pos (w := 9) (t := t) (((cfgM m hO).win 9).fetch_out rfl t) ht Y).mp h with hf | hl
  · have := (flush0_9 (adm m hO) _).mp hf
    have h2 : (t.val - 1) % 48 = 47 := this
    omega
  · have := (dats m hO 0 c).toRRel_leaves (fgt := lanes0) (Rl := laneRel m hO c) (w := 9) lanes0_9 hl
    exact this y (show (y 2).val ≤ t.val - 1 by omega)

/-- The body at point `t` adds the lane of the point to window 9. -/
theorem step0_9 (hO : Ok m) (c : Dev nD) (t : Fin (cfgM m hO).N) (X Y : Vec F S3x4x48 .f32)
    (hX : ∀ y, X y = if (y 2).val = (grid0.coords t 0).val then qScale (rowOf (iblk m hO c 1 t : Vec F S1x3x4x96 .bf16) (y 0)) (ix2 (y 1) u0) else Y y)
    (h : ∀ y : S3x4x48.Idx, (y 2).val < t.val → Y y = res9 m hO c y) : laneRel m hO c 9 t X := by
  intro y hy
  refine (hX y).trans ?_
  rw [coord0]
  by_cases e : (y 2).val = t.val
  · rw [if_pos e]
    show _ = qScale (rowOf (iblk m hO c 1 (ptOf (y 2)) : Vec F S1x3x4x96 .bf16) (y 0)) (ix2 (y 1) u0)
    rw [show ptOf (y 2) = t from Fin.ext e]
  · rw [if_neg e]
    exact h y (by omega)

/-- What the body finds in window 11: the lanes of the points before `t` are final. -/
theorem finds0_11 (hO : Ok m) (c : Dev nD) (t : Fin (cfgM m hO).N) (Y : ((cfgM m hO).win 11).block.Idx → Elt F ((cfgM m hO).win 11).elt)
    (h : (rdat m hO c).Finds 11 t Y) (y : S3x4x48.Idx) (hy : (y 2).val < t.val) : Y y = res11 m hO c y := by
  have ht : t.val ≠ 0 := by omega
  have hN : t.val < 48 := t.isLt
  rcases ((rdat m hO c).finds_of_pos (w := 11) (t := t) (((cfgM m hO).win 11).fetch_out rfl t) ht Y).mp h with hf | hl
  · have := (flush0_11 (adm m hO) _).mp hf
    have h2 : (t.val - 1) % 48 = 47 := this
    omega
  · have := (dats m hO 0 c).toRRel_leaves (fgt := lanes0) (Rl := laneRel m hO c) (w := 11) lanes0_11 hl
    exact this y (show (y 2).val ≤ t.val - 1 by omega)

/-- The body at point `t` adds the lane of the point to window 11. -/
theorem step0_11 (hO : Ok m) (c : Dev nD) (t : Fin (cfgM m hO).N) (X Y : Vec F S3x4x48 .f32)
    (hX : ∀ y, X y = if (y 2).val = (grid0.coords t 0).val then qScale (rowOf (iblk m hO c 2 t : Vec F S1x3x4x96 .bf16) (y 0)) (ix2 (y 1) u0) else Y y)
    (h : ∀ y : S3x4x48.Idx, (y 2).val < t.val → Y y = res11 m hO c y) : laneRel m hO c 11 t X := by
  intro y hy
  refine (hX y).trans ?_
  rw [coord0]
  by_cases e : (y 2).val = t.val
  · rw [if_pos e]
    show _ = qScale (rowOf (iblk m hO c 2 (ptOf (y 2)) : Vec F S1x3x4x96 .bf16) (y 0)) (ix2 (y 1) u0)
    rw [show ptOf (y 2) = t from Fin.ext e]
  · rw [if_neg e]
    exact h y (by omega)

/-! ## The body obligation, at a generic point -/

/-- What the body is called with at point `t` (Lib/Pipeline.lean `BodyObligation`'s precondition, the windows one by one), -/
def bodyPre (hO : Ok m) (c : Dev nD) (t : Fin (cfgM m hO).N) : sProp 𝕄 :=
  iprop((dats m hO 0 c).Φ t.castSucc ∗ (dats m hO 0 c).owesAt () t.castSucc
    ∗ (∃ d, owns (c : Thread nD τ) (ms0_0 m hO t) fullShare ((dats m hO 0 c).before 0 t d))
    ∗ (∃ d, owns (c : Thread nD τ) (ms0_1 m hO t) fullShare ((dats m hO 0 c).before 1 t d))
    ∗ (∃ d, owns (c : Thread nD τ) (ms0_2 m hO t) fullShare ((dats m hO 0 c).before 2 t d))
    ∗ (∃ d, owns (c : Thread nD τ) (ms0_3 m hO t) fullShare ((dats m hO 0 c).before 3 t d))
    ∗ (∃ d, owns (c : Thread nD τ) (ms0_4 m hO t) fullShare ((dats m hO 0 c).before 4 t d))
    ∗ (∃ d, owns (c : Thread nD τ) (ms0_5 m hO t) fullShare ((dats m hO 0 c).before 5 t d))
    ∗ (∃ d, owns (c : Thread nD τ) (ms0_6 m hO t) fullShare ((dats m hO 0 c).before 6 t d))
    ∗ (∃ d, owns (c : Thread nD τ) (ms0_7 m hO t) fullShare ((dats m hO 0 c).before 7 t d))
    ∗ (∃ d, owns (c : Thread nD τ) (ms0_8 m hO t) fullShare ((dats m hO 0 c).before 8 t d))
    ∗ (∃ Y, ⌜(rdat m hO c).Finds 9 t Y⌝ ∗ owns (c : Thread nD τ) (ms0_9 m hO t) fullShare Y)
    ∗ (∃ d, owns (c : Thread nD τ) (ms0_10 m hO t) fullShare ((dats m hO 0 c).before 10 t d))
    ∗ (∃ Y, ⌜(rdat m hO c).Finds 11 t Y⌝ ∗ owns (c : Thread nD τ) (ms0_11 m hO t) fullShare Y))

/-- and what it returns. -/
def bodyPost (hO : Ok m) (c : Dev nD) (t : Fin (cfgM m hO).N) : sProp 𝕄 :=
  iprop((dats m hO 0 c).Φ t.succ ∗ (dats m hO 0 c).owesAt () t.succ
    ∗ owns (c : Thread nD τ) (ms0_0 m hO t) fullShare ((dats m hO 0 c).after 0 t)
    ∗ owns (c : Thread nD τ) (ms0_1 m hO t) fullShare ((dats m hO 0 c).after 1 t)
    ∗ owns (c : Thread nD τ) (ms0_2 m hO t) fullShare ((dats m hO 0 c).after 2 t)
    ∗ owns (c : Thread nD τ) (ms0_3 m hO t) fullShare ((dats m hO 0 c).after 3 t)
    ∗ owns (c : Thread nD τ) (ms0_4 m hO t) fullShare ((dats m hO 0 c).after 4 t)
    ∗ owns (c : Thread nD τ) (ms0_5 m hO t) fullShare ((dats m hO 0 c).after 5 t)
    ∗ owns (c : Thread nD τ) (ms0_6 m hO t) fullShare ((dats m hO 0 c).after 6 t)
    ∗ owns (c : Thread nD τ) (ms0_7 m hO t) fullShare ((dats m hO 0 c).after 7 t)
    ∗ owns (c : Thread nD τ) (ms0_8 m hO t) fullShare ((dats m hO 0 c).after 8 t)
    ∗ (∃ X, ⌜laneRel m hO c 9 t X⌝ ∗ owns (c : Thread nD τ) (ms0_9 m hO t) fullShare X)
    ∗ owns (c : Thread nD τ) (ms0_10 m hO t) fullShare ((dats m hO 0 c).after 10 t)
    ∗ (∃ X, ⌜laneRel m hO c 11 t X⌝ ∗ owns (c : Thread nD τ) (ms0_11 m hO t) fullShare X))

set_option maxHeartbeats 1200000 in
/-- The body at any point: the inputs' memrefs hold their blocks (`before0_W`); so the
    run applies; the invariant passes through unread; the core owes nothing throughout. -/
theorem sound_body (hO : Ok m) (c : Dev nD) (t : Fin (cfgM m hO).N) :
    bodyPre m hO c t ⊢ wp frame (wpE (defs₀ (F := F)) Variants.none c none) Set.univ (bodyAt0 (adm m hO) t) (fun _ => bodyPost m hO c t) := by
  unfold bodyPre bodyPost bodyAt0
  simp only [before0_0, before0_1, before0_2, before0_3, before0_4, before0_5, before0_6]
  rw [show (dats m hO 0 c).Φ t.succ = (dats m hO 0 c).Φ t.castSucc from rfl,
    show (dats m hO 0 c).owesAt () t.succ = (dats m hO 0 c).owesAt () t.castSucc from rfl,
    after0_0, after0_1, after0_2, after0_3, after0_4, after0_5, after0_6, after0_7, after0_8, after0_10]
  rw [show (dats m hO 0 c).Φ t.castSucc = iprop(Pipeline.ΦA spec0 c ∗ Pipeline.ΦT pre0 (tbl m) c) from rfl, PhiT0_eq]
  iintro ⟨⟨HΦ, ⟨HT0, HT1⟩⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, ⟨%hd9, H9⟩⟩, ⟨%d10, H10⟩, ⟨%d11, ⟨%hd11, H11⟩⟩⟩
  iapply ((run0_A c (grid0.coords t) _ _ _ _ _ _ _ _ _ _ _ _ _ _ _ _ _ _ _ _ _ _ _ _ (iblk m hO c 0 t) (iblk m hO c 1 t) (iblk m hO c 2 t) (iblk m hO c 3 t) (iblk m hO c 4 t) (iblk m hO c 5 t) (iblk m hO c 6 t) (tbl m 0) (tbl m 1) d9 d11).2.2.2.2.2 Set.univ _)
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]; · iexists _; iexact H7
  isplitl [H8]; · iexists _; iexact H8
  isplitl [H9]; · iexact H9
  isplitl [H10]; · iexists _; iexact H10
  isplitl [H11]; · iexact H11
  isplitl [HT0]; · iexact HT0
  isplitl [HT1]; · iexact HT1
  iintro ⟨H0, H1, H2, H3, H4, H5, H6, ⟨%e7, H7⟩, ⟨%e8, H8⟩, ⟨%e9, H9⟩, ⟨%e10, H10⟩, ⟨%e11, H11⟩, HT0, HT1⟩
  isplitl [HΦ HT0 HT1]
  · isplitl [HΦ]
    · iexact HΦ
    isplitl [HT0]; · iexact HT0
    iexact HT1
  isplitl [Ho]; · iexact Ho
  isplitl [H0]; · iexact H0
  isplitl [H1]; · iexact H1
  isplitl [H2]; · iexact H2
  isplitl [H3]; · iexact H3
  isplitl [H4]; · iexact H4
  isplitl [H5]; · iexact H5
  isplitl [H6]; · iexact H6
  isplitl [H7]
  · unfold owns; iexists _; isplitr
    swap; · iexact H7
    ipureintro; exact left0_7 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 _
  isplitl [H8]
  · unfold owns; iexists _; isplitr
    swap; · iexact H8
    ipureintro; exact left0_8 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 _
  isplitl [H9]
  · iexists (out0_A_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11)
    isplitr
    · ipureintro
      exact step0_9 m hO c t _ d9 (fun y => out0_A_9_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 y) (finds0_9 m hO c t d9 hd9)
    · unfold owns; iexists _; isplitr
      swap; · iexact H9
      ipureintro; exact left0_9 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 _
  isplitl [H10]
  · unfold owns; iexists _; isplitr
    swap; · iexact H10
    ipureintro; exact left0_10 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 _
  · iexists (out0_A_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11)
    isplitr
    · ipureintro
      exact step0_11 m hO c t _ d11 (fun y => out0_A_11_apply c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 y) (finds0_11 m hO c t d11 hd11)
    · unfold owns; iexists _; isplitr
      swap; · iexact H11
      ipureintro; exact left0_11 c (grid0.coords t) (ms0_0 m hO t) (hs0_0 m hO t) (ms0_1 m hO t) (hs0_1 m hO t) (ms0_2 m hO t) (hs0_2 m hO t) (ms0_3 m hO t) (hs0_3 m hO t) (ms0_4 m hO t) (hs0_4 m hO t) (ms0_5 m hO t) (hs0_5 m hO t) (ms0_6 m hO t) (hs0_6 m hO t) (ms0_7 m hO t) (hs0_7 m hO t) (ms0_8 m hO t) (hs0_8 m hO t) (ms0_9 m hO t) (hs0_9 m hO t) (ms0_10 m hO t) (hs0_10 m hO t) (ms0_11 m hO t) (hs0_11 m hO t) (iblk m hO c 0 t) (iblk m hO c 1 t) (iblk m hO c 2 t) (iblk m hO c 3 t) (iblk m hO c 4 t) (iblk m hO c 5 t) (iblk m hO c 6 t) (tbl m 0) (tbl m 1) d9 d11 _

/-- The body table's row at point `t`'s slots is the body as `bodyAt0` spells it. -/
theorem defs₀_row (hO : Ok m) (t : Fin (cfgM m hO).N) :
    defs₀ (F := F) .tc (cfgM m hO).body ((cfgM m hO).bodyArgs t ((cfgM m hO).slots t)) = bodyAt0 (adm m hO) t := by
  unfold defs₀; rw [Defs.onTc_tc]

/-- The library's body obligation, at every point: the body's triple restated (Lib/Pipeline/FrameBody.lean `triple_restated`). -/
theorem body_obligation (hO : Ok m) (c : Dev nD) : Pipeline.BodyObligationRel (dats (F := F) m hO 0 c) (defs₀ (F := F)) Variants.none () Set.univ lanes0 (laneRel m hO c) := fun t => by
  rw [bigSep_W0, bigSep_W0, defs₀_row m hO]
  exact triple_restated (sound_body m hO c t) rfl .rfl fun _ => .rfl

/-! ## The run and the frame -/

-- the implicit arguments are found by unifying its conclusion with this one, which takes unfolding plain
-- definitions in a metavariable's type
set_option backward.isDefEq.respectTransparency.types false in
/-- THE LAUNCH: `run_main`'s statement, and every semaphore counter of the machine at zero at every final state. -/
theorem run_main_quiescent (hO : Ok m) : θ_run defs (onTc (τ := τ) (main (F := F))) (s₀ m ρ) (fun r => (Pipeline.RDat.FramePost ((Pipeline.pin pcfgs fun _ => adm m hO) 0) (rdat m hO) (V m)) r ∧ r.2.sem = fun _ => 0) :=
  Pipeline.RDat.θ_run_frameP (Q' := _) pcfgs (fun _ => adm m hO) (0 : Fin 1) launch0 defs₀ Variants.none (rdat m hO) m ρ main
    (hbody := fun c => (body_obligation m hO c).toRRel) (hshare := fun c => (dats m hO 0 c).share_full fun _ => rfl)
    (howed := fun _ _ => rfl) (V := V m) (hmain := hmain m Variants.none) (hA := A_eq m hO) (hpf := V_pre m) (hΦ := fun _ _ => rfl)

/-- From any memory with zero counters every weakly fair execution terminates, and every final state has each array of the
    pipeline at a contents the proof data allows and every other unscoped buffer at its region-entry contents. -/
theorem run_main (hO : Ok m) : θ_run defs (onTc (τ := τ) (main (F := F))) (s₀ m ρ) (Pipeline.RDat.FramePost ((Pipeline.pin pcfgs fun _ => adm m hO) 0) (rdat m hO) (V m)) :=
  (θ_run defs _ _).mono (fun _ h => h.1) (run_main_quiescent m ρ hO)

/-- `frame` without the counters: the argument arrays end unchanged. -/
theorem unchanged (hO : Ok m) : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) :=
  frame_of m ρ hO (rdat m hO) (A_eq m hO) (run_main m ρ hO)

/-- Every execution terminates with the argument arrays unchanged and the counters at zero. -/
theorem frame (hO : Ok m) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  θ_run_and (unchanged m ρ hO) ((θ_run defs _ _).mono (fun _ h => h.2) (run_main_quiescent m ρ hO))

end Cert.KernelIdeal.Own

end
-- ==== Proof.KI.Value.lean ====
module

public import proofs.«01_k».proof.Proof.KI.Frame
public import Idealize.ShloMosaic.Lib.Claim
public import Idealize.ShloMosaic.Lib.Pipeline.ArrRel
public import Idealize.ShloMosaic.Lib.Pipeline.ValueKit.Geometry
public import Idealize.ShloMosaic.Lib.Pipeline.ValueKit.Point

@[expose] public section

-- membership in a rectangle of production extents (`View.cover_of_tiled`): the elaborator's structural look
-- recurses once per coordinate of the long axes
set_option maxRecDepth 16384

noncomputable section

namespace Cert.KernelIdeal.Own

open Cert.KernelIdeal.Gen

open Idealize.ShloMosaic hiding ix0 ix1 ix2 ix3 ix4 ix5 ix6
open Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.ValueIdx
open Idealize.ShloMosaic.Pipeline (Dat Cfg Window BodyObligation cellOf)

variable {F : FTy → Type} [FloatOps F] [Named F]

local notation "𝕄" => MT nD τ sig Unit (Elt F) ℕ (UR sig nD τ) ℕ

variable (m : (ℓ : Loc nD τ sig) → Buf (Elt F) ℓ) (ρ : Dev nD → PrngReg)
/-! # The kernel's results as functions of its arguments -/

/-! ## What the region finds in the transposed arrays -/

/-- The array `main_v0` is the transpose of the argument `main_arg8`. -/
theorem V_v0 (c : Dev nD) : V m c main_v0 = transpose S4x48 [1, 0] (m ((c : Thread nD τ).loc main_arg8) : IVec S48x4 32) transposes_S48x4_S4x48_1_0 := by
  entry_read
  rfl
/-- The array `main_v1` is the transpose of the argument `main_arg1`. -/
theorem V_v1 (c : Dev nD) : V m c main_v1 = transpose S48x3x4x96 [0, 2, 1, 3] (m ((c : Thread nD τ).loc main_arg1) : Vec F S48x4x3x96 .bf16) transposes_S48x4x3x96_S48x3x4x96_0_2_1_3 := by
  entry_read
  rfl
/-- The array `main_v2` is the transpose of the argument `main_arg2`. -/
theorem V_v2 (c : Dev nD) : V m c main_v2 = transpose S48x3x4x96 [0, 2, 1, 3] (m ((c : Thread nD τ).loc main_arg2) : Vec F S48x4x3x96 .bf16) transposes_S48x4x3x96_S48x3x4x96_0_2_1_3 := by
  entry_read
  rfl
/-- The array `main_v3` is the transpose of the argument `main_arg3`. -/
theorem V_v3 (c : Dev nD) : V m c main_v3 = transpose S48x3x96x2048 [0, 2, 3, 1] (m ((c : Thread nD τ).loc main_arg3) : Vec F S48x2048x3x96 .fp8e4m3) transposes_S48x2048x3x96_S48x3x96x2048_0_2_3_1 := by
  entry_read
  rfl
/-- The array `main_v4` is the transpose of the argument `main_arg4`. -/
theorem V_v4 (c : Dev nD) : V m c main_v4 = transpose S48x3x96x2048 [0, 2, 3, 1] (m ((c : Thread nD τ).loc main_arg4) : Vec F S48x2048x3x96 .fp8e4m3) transposes_S48x2048x3x96_S48x3x96x2048_0_2_3_1 := by
  entry_read
  rfl
/-- The array `main_v5` is the transpose of the argument `main_arg5`. -/
theorem V_v5 (c : Dev nD) : V m c main_v5 = transpose S3x48x2048 [2, 0, 1] (m ((c : Thread nD τ).loc main_arg5) : Vec F S48x2048x3 .f32) transposes_S48x2048x3_S3x48x2048_2_0_1 := by
  entry_read
  rfl
/-- The array `main_v6` is the transpose of the argument `main_arg6`. -/
theorem V_v6 (c : Dev nD) : V m c main_v6 = transpose S3x48x2048 [2, 0, 1] (m ((c : Thread nD τ).loc main_arg6) : Vec F S48x2048x3 .f32) transposes_S48x2048x3_S3x48x2048_2_0_1 := by
  entry_read
  rfl

/-! ## The index maps at a point -/

/-- The block of window 0 at a point. -/
theorem map_0 : ∀ t : Fin grid0.N, cc0_transform_0 (grid0.coords t) = ![t.val, 0, 0, 0] := by
  intro t; funext a; revert a t; decide +kernel
/-- The block of window 1 at a point. -/
theorem map_1 : ∀ t : Fin grid0.N, cc0_transform_1 (grid0.coords t) = ![t.val, 0, 0, 0] := by
  intro t; funext a; revert a t; decide +kernel
/-- The block of window 2 at a point. -/
theorem map_2 : ∀ t : Fin grid0.N, cc0_transform_2 (grid0.coords t) = ![t.val, 0, 0, 0] := by
  intro t; funext a; revert a t; decide +kernel
/-- The block of window 3 at a point. -/
theorem map_3 : ∀ t : Fin grid0.N, cc0_transform_3 (grid0.coords t) = ![t.val, 0, 0, 0] := by
  intro t; funext a; revert a t; decide +kernel
/-- The block of window 4 at a point. -/
theorem map_4 : ∀ t : Fin grid0.N, cc0_transform_4 (grid0.coords t) = ![t.val, 0, 0, 0] := by
  intro t; funext a; revert a t; decide +kernel
/-- The block of window 5 at a point. -/
theorem map_5 : ∀ t : Fin grid0.N, cc0_transform_5 (grid0.coords t) = ![0, t.val / 8, 0] := by
  intro t; funext a; revert a t; decide +kernel
/-- The block of window 6 at a point. -/
theorem map_6 : ∀ t : Fin grid0.N, cc0_transform_6 (grid0.coords t) = ![0, t.val / 8, 0] := by
  intro t; funext a; revert a t; decide +kernel
/-- The block of window 7 at a point. -/
theorem map_7 : ∀ t : Fin grid0.N, cc0_transform_7 (grid0.coords t) = ![t.val, 0, 0] := by
  intro t; funext a; revert a t; decide +kernel
/-- The block of window 8 at a point. -/
theorem map_8 : ∀ t : Fin grid0.N, cc0_transform_8 (grid0.coords t) = ![t.val, 0, 0, 0] := by
  intro t; funext a; revert a t; decide +kernel
/-- The block of window 9 at a point. -/
theorem map_9 : ∀ t : Fin grid0.N, cc0_transform_9 (grid0.coords t) = ![0, 0, 0] := by
  intro t; funext a; revert a t; decide +kernel
/-- The block of window 10 at a point. -/
theorem map_10 : ∀ t : Fin grid0.N, cc0_transform_10 (grid0.coords t) = ![t.val, 0, 0, 0] := by
  intro t; funext a; revert a t; decide +kernel
/-- The block of window 11 at a point. -/
theorem map_11 : ∀ t : Fin grid0.N, cc0_transform_11 (grid0.coords t) = ![0, 0, 0] := by
  intro t; funext a; revert a t; decide +kernel

/-! ## The blocks read, as parts of the arguments -/

/-- The new keys or values of one sequence and one head. -/
def newRow (A : Vec F S48x4x3x96 .bf16) (b : Fin 48) (k : Fin 3) : Vec F S1x1x4x96 .bf16 := fun j => A (ix4 b (j 2) k (j 3))
/-- The query rows of one sequence and one key/value head. -/
def qBlk (A : Vec F S48x4x24x96 .bf16) (b : Fin 48) (k : Fin 3) : Vec F S1x4x8x96 .bf16 :=
  fun j => A (ix4 b (j 1) ⟨8 * k.val + (j 2).val, by have := (j 2).isLt; have : (j 2).val < 8 := this; omega⟩ (j 3))
/-- The cache of one sequence and one head, a column a cached token. -/
def cacheBlk (A : Vec F S48x2048x3x96 .fp8e4m3) (b : Fin 48) (k : Fin 3) : Vec F S1x1x96x2048 .fp8e4m3 := fun j => A (ix4 b (j 3) k (j 2))
/-- The cache's scales of one sequence and one head. -/
def scaleBlk (A : Vec F S48x2048x3 .f32) (b : Fin 48) (k : Fin 3) : Vec F S1x1x2048 .f32 := fun j => A (ix3 b (j 2) k)

/-- A grid point as the number of a sequence. -/
abbrev seqOf (t : Fin grid0.N) : Fin 48 := ⟨t.val, t.isLt⟩

/-- An element of the block of window 0. -/
theorem iblk_0 (hO : Ok m) (c : Dev nD) (t : Fin (cfgM m hO).N) (x : S1x4x24x96.Idx) :
    iblk m hO c 0 t x = (V m c main_arg0 : Vec F S48x4x24x96 .bf16) (ix4 (seqOf t) (x 1) (x 2) (x 3)) := by
  show (V m c main_arg0 : Vec F S48x4x24x96 .bf16) ((((cfgM m hO).win 0).blk t).view.emb x) = _
  refine congrArg (V m c main_arg0 : Vec F S48x4x24x96 .bf16) (funext fun a => Fin.ext ?_)
  refine (Pipeline.Window.rect_emb_val ((cfgM m hO).win 0) t x a rfl).trans ?_
  show cc0_transform_0 (grid0.coords t) a * _ + _ = _
  rw [map_0]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- An element of the block of window 1. -/
theorem iblk_1 (hO : Ok m) (c : Dev nD) (t : Fin (cfgM m hO).N) (x : S1x3x4x96.Idx) :
    iblk m hO c 1 t x = (V m c main_v1 : Vec F S48x3x4x96 .bf16) (ix4 (seqOf t) (x 1) (x 2) (x 3)) := by
  show (V m c main_v1 : Vec F S48x3x4x96 .bf16) ((((cfgM m hO).win 1).blk t).view.emb x) = _
  refine congrArg (V m c main_v1 : Vec F S48x3x4x96 .bf16) (funext fun a => Fin.ext ?_)
  refine (Pipeline.Window.rect_emb_val ((cfgM m hO).win 1) t x a rfl).trans ?_
  show cc0_transform_1 (grid0.coords t) a * _ + _ = _
  rw [map_1]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- An element of the block of window 2. -/
theorem iblk_2 (hO : Ok m) (c : Dev nD) (t : Fin (cfgM m hO).N) (x : S1x3x4x96.Idx) :
    iblk m hO c 2 t x = (V m c main_v2 : Vec F S48x3x4x96 .bf16) (ix4 (seqOf t) (x 1) (x 2) (x 3)) := by
  show (V m c main_v2 : Vec F S48x3x4x96 .bf16) ((((cfgM m hO).win 2).blk t).view.emb x) = _
  refine congrArg (V m c main_v2 : Vec F S48x3x4x96 .bf16) (funext fun a => Fin.ext ?_)
  refine (Pipeline.Window.rect_emb_val ((cfgM m hO).win 2) t x a rfl).trans ?_
  show cc0_transform_2 (grid0.coords t) a * _ + _ = _
  rw [map_2]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- An element of the block of window 3. -/
theorem iblk_3 (hO : Ok m) (c : Dev nD) (t : Fin (cfgM m hO).N) (x : S1x3x96x2048.Idx) :
    iblk m hO c 3 t x = (V m c main_v3 : Vec F S48x3x96x2048 .fp8e4m3) (ix4 (seqOf t) (x 1) (x 2) (x 3)) := by
  show (V m c main_v3 : Vec F S48x3x96x2048 .fp8e4m3) ((((cfgM m hO).win 3).blk t).view.emb x) = _
  refine congrArg (V m c main_v3 : Vec F S48x3x96x2048 .fp8e4m3) (funext fun a => Fin.ext ?_)
  refine (Pipeline.Window.rect_emb_val ((cfgM m hO).win 3) t x a rfl).trans ?_
  show cc0_transform_3 (grid0.coords t) a * _ + _ = _
  rw [map_3]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- An element of the block of window 4. -/
theorem iblk_4 (hO : Ok m) (c : Dev nD) (t : Fin (cfgM m hO).N) (x : S1x3x96x2048.Idx) :
    iblk m hO c 4 t x = (V m c main_v4 : Vec F S48x3x96x2048 .fp8e4m3) (ix4 (seqOf t) (x 1) (x 2) (x 3)) := by
  show (V m c main_v4 : Vec F S48x3x96x2048 .fp8e4m3) ((((cfgM m hO).win 4).blk t).view.emb x) = _
  refine congrArg (V m c main_v4 : Vec F S48x3x96x2048 .fp8e4m3) (funext fun a => Fin.ext ?_)
  refine (Pipeline.Window.rect_emb_val ((cfgM m hO).win 4) t x a rfl).trans ?_
  show cc0_transform_4 (grid0.coords t) a * _ + _ = _
  rw [map_4]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- An element of the block of window 5. -/
theorem iblk_5 (hO : Ok m) (c : Dev nD) (t : Fin (cfgM m hO).N) (x : S3x8x2048.Idx) :
    iblk m hO c 5 t x = (V m c main_v5 : Vec F S3x48x2048 .f32) (ix3 (x 0) (⟨8 * (t.val / 8) + (x 1).val, by have h := t.isLt; have h : t.val < 48 := h; have h2 := (x 1).isLt; have h2 : (x 1).val < 8 := h2; omega⟩ : Fin 48) (x 2)) := by
  show (V m c main_v5 : Vec F S3x48x2048 .f32) ((((cfgM m hO).win 5).blk t).view.emb x) = _
  refine congrArg (V m c main_v5 : Vec F S3x48x2048 .f32) (funext fun a => Fin.ext ?_)
  refine (Pipeline.Window.rect_emb_val ((cfgM m hO).win 5) t x a rfl).trans ?_
  show cc0_transform_5 (grid0.coords t) a * _ + _ = _
  rw [map_5]
  match a with
  | ⟨0, _⟩ => show 0 * _ + (x 0).val = (x 0).val; omega
  | ⟨1, _⟩ => show t.val / 8 * 8 + (x 1).val = 8 * (t.val / 8) + (x 1).val; omega
  | ⟨2, _⟩ => show 0 * _ + (x 2).val = (x 2).val; omega
/-- An element of the block of window 6. -/
theorem iblk_6 (hO : Ok m) (c : Dev nD) (t : Fin (cfgM m hO).N) (x : S3x8x2048.Idx) :
    iblk m hO c 6 t x = (V m c main_v6 : Vec F S3x48x2048 .f32) (ix3 (x 0) (⟨8 * (t.val / 8) + (x 1).val, by have h := t.isLt; have h : t.val < 48 := h; have h2 := (x 1).isLt; have h2 : (x 1).val < 8 := h2; omega⟩ : Fin 48) (x 2)) := by
  show (V m c main_v6 : Vec F S3x48x2048 .f32) ((((cfgM m hO).win 6).blk t).view.emb x) = _
  refine congrArg (V m c main_v6 : Vec F S3x48x2048 .f32) (funext fun a => Fin.ext ?_)
  refine (Pipeline.Window.rect_emb_val ((cfgM m hO).win 6) t x a rfl).trans ?_
  show cc0_transform_6 (grid0.coords t) a * _ + _ = _
  rw [map_6]
  match a with
  | ⟨0, _⟩ => show 0 * _ + (x 0).val = (x 0).val; omega
  | ⟨1, _⟩ => show t.val / 8 * 8 + (x 1).val = 8 * (t.val / 8) + (x 1).val; omega
  | ⟨2, _⟩ => show 0 * _ + (x 2).val = (x 2).val; omega

/-- The new keys of a head that a point reads. -/
theorem row_1 (hO : Ok m) (c : Dev nD) (t : Fin (cfgM m hO).N) (k : Fin 3) :
    rowOf (iblk m hO c 1 t : Vec F S1x3x4x96 .bf16) k = newRow (m ((c : Thread nD τ).loc main_arg1) : Vec F S48x4x3x96 .bf16) (seqOf t) k := by
  funext j
  refine (iblk_1 m hO c t _).trans ?_
  rw [V_v1]
  exact transpose_apply _ _ _ _ (ix4 (seqOf t) (j 2) k (j 3)) (fun b => by
    match b with
    | ⟨0, _⟩ => rfl
    | ⟨1, _⟩ => rfl
    | ⟨2, _⟩ => rfl
    | ⟨3, _⟩ => rfl)
/-- The new values of a head that a point reads. -/
theorem row_2 (hO : Ok m) (c : Dev nD) (t : Fin (cfgM m hO).N) (k : Fin 3) :
    rowOf (iblk m hO c 2 t : Vec F S1x3x4x96 .bf16) k = newRow (m ((c : Thread nD τ).loc main_arg2) : Vec F S48x4x3x96 .bf16) (seqOf t) k := by
  funext j
  refine (iblk_2 m hO c t _).trans ?_
  rw [V_v2]
  exact transpose_apply _ _ _ _ (ix4 (seqOf t) (j 2) k (j 3)) (fun b => by
    match b with
    | ⟨0, _⟩ => rfl
    | ⟨1, _⟩ => rfl
    | ⟨2, _⟩ => rfl
    | ⟨3, _⟩ => rfl)
/-- The query rows that a point reads. -/
theorem row_0 (hO : Ok m) (c : Dev nD) (t : Fin (cfgM m hO).N) (k : Fin 3) :
    qOf (iblk m hO c 0 t : Vec F S1x4x24x96 .bf16) k = qBlk (m ((c : Thread nD τ).loc main_arg0) : Vec F S48x4x24x96 .bf16) (seqOf t) k := by
  funext j
  refine (iblk_0 m hO c t _).trans ?_
  rw [V_main_arg0]
  rfl
/-- The cached keys of a head that a point reads. -/
theorem row_3 (hO : Ok m) (c : Dev nD) (t : Fin (cfgM m hO).N) (k : Fin 3) :
    ktOf (iblk m hO c 3 t : Vec F S1x3x96x2048 .fp8e4m3) k = cacheBlk (m ((c : Thread nD τ).loc main_arg3) : Vec F S48x2048x3x96 .fp8e4m3) (seqOf t) k := by
  funext j
  refine (iblk_3 m hO c t _).trans ?_
  rw [V_v3]
  exact transpose_apply _ _ _ _ (ix4 (seqOf t) (j 3) k (j 2)) (fun b => by
    match b with
    | ⟨0, _⟩ => rfl
    | ⟨1, _⟩ => rfl
    | ⟨2, _⟩ => rfl
    | ⟨3, _⟩ => rfl)
/-- The cached values of a head that a point reads. -/
theorem row_4 (hO : Ok m) (c : Dev nD) (t : Fin (cfgM m hO).N) (k : Fin 3) :
    ktOf (iblk m hO c 4 t : Vec F S1x3x96x2048 .fp8e4m3) k = cacheBlk (m ((c : Thread nD τ).loc main_arg4) : Vec F S48x2048x3x96 .fp8e4m3) (seqOf t) k := by
  funext j
  refine (iblk_4 m hO c t _).trans ?_
  rw [V_v4]
  exact transpose_apply _ _ _ _ (ix4 (seqOf t) (j 3) k (j 2)) (fun b => by
    match b with
    | ⟨0, _⟩ => rfl
    | ⟨1, _⟩ => rfl
    | ⟨2, _⟩ => rfl
    | ⟨3, _⟩ => rfl)
/-- The scales of the cached keys of a head that a point reads. -/
theorem row_5 (hO : Ok m) (c : Dev nD) (t : Fin (cfgM m hO).N) (k : Fin 3) (r : Fin 8) (hr : r.val = t.val % 8) :
    scOf (iblk m hO c 5 t : Vec F S3x8x2048 .f32) k r = scaleBlk (m ((c : Thread nD τ).loc main_arg5) : Vec F S48x2048x3 .f32) (seqOf t) k := by
  funext j
  refine (iblk_5 m hO c t _).trans ?_
  rw [V_v5]
  exact transpose_apply _ _ _ _ (ix3 (seqOf t) (j 2) k) (fun b => by
    match b with
    | ⟨0, _⟩ => rfl
    | ⟨1, _⟩ => show t.val = 8 * (t.val / 8) + r.val; omega
    | ⟨2, _⟩ => rfl)
/-- The scales of the cached values of a head that a point reads. -/
theorem row_6 (hO : Ok m) (c : Dev nD) (t : Fin (cfgM m hO).N) (k : Fin 3) (r : Fin 8) (hr : r.val = t.val % 8) :
    scOf (iblk m hO c 6 t : Vec F S3x8x2048 .f32) k r = scaleBlk (m ((c : Thread nD τ).loc main_arg6) : Vec F S48x2048x3 .f32) (seqOf t) k := by
  funext j
  refine (iblk_6 m hO c t _).trans ?_
  rw [V_v6]
  exact transpose_apply _ _ _ _ (ix3 (seqOf t) (j 2) k) (fun b => by
    match b with
    | ⟨0, _⟩ => rfl
    | ⟨1, _⟩ => show t.val = 8 * (t.val / 8) + r.val; omega
    | ⟨2, _⟩ => rfl)
/-- The number of cached tokens that a point reads. -/
theorem len_arg (c : Dev nD) (b : Fin 48) : lenW (F := F) (c := c) (tbl m 0) b = (m ((c : Thread nD τ).loc main_arg7) : IVec S48 32) (ix1 b) := by
  obtain rfl : c = 0 := Subsingleton.elim _ _
  show (V m 0 main_arg7 : IVec S48 32) (ix1 b) = _
  rw [V_main_arg7]
/-- The parent of a token that a point reads. -/
theorem par_arg (c : Dev nD) (j : Fin 4) (b : Fin 48) : parW (F := F) (c := c) (tbl m 1) j b = (m ((c : Thread nD τ).loc main_arg8) : IVec S48x4 32) (ix2 b j) := by
  obtain rfl : c = 0 := Subsingleton.elim _ _
  show (V m 0 main_v0 : IVec S4x48 32) (ix2 j b) = _
  rw [V_v0]
  exact transpose_apply _ _ _ _ (ix2 b j) (fun b => by
    match b with
    | ⟨0, _⟩ => rfl
    | ⟨1, _⟩ => rfl)

/-! ## The results -/

/-- The block of results of one sequence and one key/value head. -/
def headArr (A0 : Vec F S48x4x24x96 .bf16) (A1 A2 : Vec F S48x4x3x96 .bf16) (A3 A4 : Vec F S48x2048x3x96 .fp8e4m3) (A5 A6 : Vec F S48x2048x3 .f32)
    (A7 : IVec S48 32) (A8 : IVec S48x4 32) (b : Fin 48) (k : Fin 3) : FVec F S4x8x96 .f32 :=
  attnBlk (visM (F := F) (A8 (ix2 b 1)) (A8 (ix2 b 2)) (A8 (ix2 b 3))) (k0_pay6 (F := F) (A7 (ix1 b)))
    (qBlk A0 b k) (cacheBlk A3 b k) (scaleBlk A5 b k) (cacheBlk A4 b k) (scaleBlk A6 b k) (newRow A1 b k) (newRow A2 b k)

/-- The attention's results. -/
def outK (A0 : Vec F S48x4x24x96 .bf16) (A1 A2 : Vec F S48x4x3x96 .bf16) (A3 A4 : Vec F S48x2048x3x96 .fp8e4m3) (A5 A6 : Vec F S48x2048x3 .f32)
    (A7 : IVec S48 32) (A8 : IVec S48x4 32) : Vec F S48x4x2304 .bf16 :=
  fun y => atOut (headArr A0 A1 A2 A3 A4 A5 A6 A7 A8 (y 0)) (ix3 u0 (y 1) (y 2))
/-- The codes of the new keys or values. -/
def codesK (A : Vec F S48x4x3x96 .bf16) : Vec F S48x3x4x96 .fp8e4m3 := fun y => qCodes (newRow A (y 0) (y 1)) (ix2 (y 2) (y 3))
/-- The scales of the new keys or values. -/
def scalesK (A : Vec F S48x4x3x96 .bf16) : Vec F S3x4x48 .f32 := fun y => qScale (newRow A (y 2) (y 0)) (ix2 (y 1) u0)

/-- The heads of a point, from the arguments. -/
theorem head_arg (hO : Ok m) (c : Dev nD) (t : Fin (cfgM m hO).N) :
    headOut (c := c) (grid0.coords t 0) (iblk m hO c 0 t) (iblk m hO c 1 t) (iblk m hO c 2 t) (iblk m hO c 3 t) (iblk m hO c 4 t) (iblk m hO c 5 t) (iblk m hO c 6 t) (tbl m 0) (tbl m 1)
      = headArr (m ((c : Thread nD τ).loc main_arg0) : Vec F S48x4x24x96 .bf16) (m ((c : Thread nD τ).loc main_arg1) : Vec F S48x4x3x96 .bf16) (m ((c : Thread nD τ).loc main_arg2) : Vec F S48x4x3x96 .bf16)
          (m ((c : Thread nD τ).loc main_arg3) : Vec F S48x2048x3x96 .fp8e4m3) (m ((c : Thread nD τ).loc main_arg4) : Vec F S48x2048x3x96 .fp8e4m3) (m ((c : Thread nD τ).loc main_arg5) : Vec F S48x2048x3 .f32) (m ((c : Thread nD τ).loc main_arg6) : Vec F S48x2048x3 .f32)
          (m ((c : Thread nD τ).loc main_arg7) : IVec S48 32) (m ((c : Thread nD τ).loc main_arg8) : IVec S48x4 32) (seqOf t) := by
  have h0 : (grid0.coords t 0 : Fin 48) = seqOf t := Fin.ext (coord0 t)
  funext k
  unfold headOut headArr
  have hr : (⟨(grid0.coords t 0).val % 8, by omega⟩ : Fin 8).val = t.val % 8 := congrArg (· % 8) (coord0 t)
  have hp : ∀ j : Fin 4, parW (F := F) (c := c) (tbl m 1) j (grid0.coords t 0) = (m ((c : Thread nD τ).loc main_arg8) : IVec S48x4 32) (ix2 (seqOf t) j) :=
    fun j => (par_arg m c j (grid0.coords t 0)).trans (congrArg (fun b => (m ((c : Thread nD τ).loc main_arg8) : IVec S48x4 32) (ix2 b j)) h0)
  have hl := (len_arg m c (grid0.coords t 0)).trans (congrArg (fun b => (m ((c : Thread nD τ).loc main_arg7) : IVec S48 32) (ix1 b)) h0)
  exact congr (congr (congr (congr (congr (congr (congr (congr (congrArg attnBlk
    (congr (congr (congrArg (visM (F := F)) (hp 1)) (hp 2)) (hp 3))) (congrArg (k0_pay6 (F := F)) hl)) (row_0 m hO c t k)) (row_3 m hO c t k))
    (row_5 m hO c t k _ hr)) (row_4 m hO c t k)) (row_6 m hO c t k _ hr)) (row_1 m hO c t k)) (row_2 m hO c t k)

/-- Where the block of window 7 lies in its array. -/
theorem emb_7 (hO : Ok m) (t : Fin (cfgM m hO).N) (x : S1x4x2304.Idx) : ((((cfgM m hO).win 7).blk t).view.emb x : S48x4x2304.Idx) = ix3 (seqOf t) (x 1) (x 2) := by
  refine funext fun a => Fin.ext ?_
  refine (Pipeline.Window.rect_emb_val ((cfgM m hO).win 7) t x a rfl).trans ?_
  show cc0_transform_7 (grid0.coords t) a * _ + _ = _
  rw [map_7]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
/-- The results of window 7 at a point, from the arguments. -/
theorem val_7 (hO : Ok m) (c : Dev nD) (t : Fin (cfgM m hO).N) (x : S1x4x2304.Idx) :
    res7 m hO c t x = (outK (m ((c : Thread nD τ).loc main_arg0) : Vec F S48x4x24x96 .bf16) (m ((c : Thread nD τ).loc main_arg1) : Vec F S48x4x3x96 .bf16) (m ((c : Thread nD τ).loc main_arg2) : Vec F S48x4x3x96 .bf16) (m ((c : Thread nD τ).loc main_arg3) : Vec F S48x2048x3x96 .fp8e4m3) (m ((c : Thread nD τ).loc main_arg4) : Vec F S48x2048x3x96 .fp8e4m3) (m ((c : Thread nD τ).loc main_arg5) : Vec F S48x2048x3 .f32) (m ((c : Thread nD τ).loc main_arg6) : Vec F S48x2048x3 .f32) (m ((c : Thread nD τ).loc main_arg7) : IVec S48 32) (m ((c : Thread nD τ).loc main_arg8) : IVec S48x4 32) : Vec F S48x4x2304 .bf16) (ix3 (seqOf t) (x 1) (x 2)) :=
  congrArg (fun A => atOut A x) (head_arg m hO c t)
/-- The blocks of window 7 cover its array. -/
theorem cover_7 (hO : Ok m) (i : S48x4x2304.Idx) : ∃ t : Fin (cfgM m hO).N, ((cfgM m hO).win 7).flush t = true ∧ i ∈ (((cfgM m hO).win 7).blk t).view.set :=
  ⟨ptOf (i 0), flush0_7 (adm m hO) _,
    Finset.mem_map.mpr ⟨ix3 u0 (i 1) (i 2), Finset.mem_univ _, (emb_7 m hO (ptOf (i 0)) (ix3 u0 (i 1) (i 2))).trans (ValueIdx.eq_ix3 i).symm⟩⟩

/-- The array of window 7 at the end, for any data whose body leaves the results. -/
theorem arr_7 (hO : Ok m) (c : Dev nD) (dat : Dat τ (Elt F) Unit ℕ (UR sig nD τ) ℕ (cfgM m hO) c)
    (hX : ∀ t, ((cfgM m hO).win 7).flush t = true → dat.after 7 t = res7 m hO c t) :
    dat.arrAt 7 (cfgM m hO).N = (outK (m ((c : Thread nD τ).loc main_arg0) : Vec F S48x4x24x96 .bf16) (m ((c : Thread nD τ).loc main_arg1) : Vec F S48x4x3x96 .bf16) (m ((c : Thread nD τ).loc main_arg2) : Vec F S48x4x3x96 .bf16) (m ((c : Thread nD τ).loc main_arg3) : Vec F S48x2048x3x96 .fp8e4m3) (m ((c : Thread nD τ).loc main_arg4) : Vec F S48x2048x3x96 .fp8e4m3) (m ((c : Thread nD τ).loc main_arg5) : Vec F S48x2048x3 .f32) (m ((c : Thread nD τ).loc main_arg6) : Vec F S48x2048x3 .f32) (m ((c : Thread nD τ).loc main_arg7) : IVec S48 32) (m ((c : Thread nD τ).loc main_arg8) : IVec S48x4 32) : Vec F S48x4x2304 .bf16) := by
  refine dat.arrAt_eq_of_emb 7 _ (fun t hf x => ?_) (fun i => ?_)
  · refine (congrFun (hX t hf) x).trans ?_
    refine (val_7 m hO c t x).trans ?_
    exact congrArg (outK (m ((c : Thread nD τ).loc main_arg0) : Vec F S48x4x24x96 .bf16) (m ((c : Thread nD τ).loc main_arg1) : Vec F S48x4x3x96 .bf16) (m ((c : Thread nD τ).loc main_arg2) : Vec F S48x4x3x96 .bf16) (m ((c : Thread nD τ).loc main_arg3) : Vec F S48x2048x3x96 .fp8e4m3) (m ((c : Thread nD τ).loc main_arg4) : Vec F S48x2048x3x96 .fp8e4m3) (m ((c : Thread nD τ).loc main_arg5) : Vec F S48x2048x3 .f32) (m ((c : Thread nD τ).loc main_arg6) : Vec F S48x2048x3 .f32) (m ((c : Thread nD τ).loc main_arg7) : IVec S48 32) (m ((c : Thread nD τ).loc main_arg8) : IVec S48x4 32) : Vec F S48x4x2304 .bf16) (emb_7 m hO t x).symm
  · exact cover_7 m hO i

/-- Where the block of window 8 lies in its array. -/
theorem emb_8 (hO : Ok m) (t : Fin (cfgM m hO).N) (x : S1x3x4x96.Idx) : ((((cfgM m hO).win 8).blk t).view.emb x : S48x3x4x96.Idx) = ix4 (seqOf t) (x 1) (x 2) (x 3) := by
  refine funext fun a => Fin.ext ?_
  refine (Pipeline.Window.rect_emb_val ((cfgM m hO).win 8) t x a rfl).trans ?_
  show cc0_transform_8 (grid0.coords t) a * _ + _ = _
  rw [map_8]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- The results of window 8 at a point, from the arguments. -/
theorem val_8 (hO : Ok m) (c : Dev nD) (t : Fin (cfgM m hO).N) (x : S1x3x4x96.Idx) :
    res8 m hO c t x = (codesK (m ((c : Thread nD τ).loc main_arg1) : Vec F S48x4x3x96 .bf16) : Vec F S48x3x4x96 .fp8e4m3) (ix4 (seqOf t) (x 1) (x 2) (x 3)) :=
  congrArg (fun w : Vec F S1x1x4x96 .bf16 => qCodes w (ix2 (x 2) (x 3))) (row_1 m hO c t (x 1))
/-- The blocks of window 8 cover its array. -/
theorem cover_8 (hO : Ok m) (i : S48x3x4x96.Idx) : ∃ t : Fin (cfgM m hO).N, ((cfgM m hO).win 8).flush t = true ∧ i ∈ (((cfgM m hO).win 8).blk t).view.set :=
  ⟨ptOf (i 0), flush0_8 (adm m hO) _,
    Finset.mem_map.mpr ⟨ix4 u0 (i 1) (i 2) (i 3), Finset.mem_univ _, (emb_8 m hO (ptOf (i 0)) (ix4 u0 (i 1) (i 2) (i 3))).trans (ValueIdx.eq_ix4 i).symm⟩⟩

/-- The array of window 8 at the end, for any data whose body leaves the results. -/
theorem arr_8 (hO : Ok m) (c : Dev nD) (dat : Dat τ (Elt F) Unit ℕ (UR sig nD τ) ℕ (cfgM m hO) c)
    (hX : ∀ t, ((cfgM m hO).win 8).flush t = true → dat.after 8 t = res8 m hO c t) :
    dat.arrAt 8 (cfgM m hO).N = (codesK (m ((c : Thread nD τ).loc main_arg1) : Vec F S48x4x3x96 .bf16) : Vec F S48x3x4x96 .fp8e4m3) := by
  refine dat.arrAt_eq_of_emb 8 _ (fun t hf x => ?_) (fun i => ?_)
  · refine (congrFun (hX t hf) x).trans ?_
    refine (val_8 m hO c t x).trans ?_
    exact congrArg (codesK (m ((c : Thread nD τ).loc main_arg1) : Vec F S48x4x3x96 .bf16) : Vec F S48x3x4x96 .fp8e4m3) (emb_8 m hO t x).symm
  · exact cover_8 m hO i

/-- Where the block of window 9 lies in its array. -/
theorem emb_9 (hO : Ok m) (t : Fin (cfgM m hO).N) (x : S3x4x48.Idx) : ((((cfgM m hO).win 9).blk t).view.emb x : S3x4x48.Idx) = x := by
  refine funext fun a => Fin.ext ?_
  refine (Pipeline.Window.rect_emb_val ((cfgM m hO).win 9) t x a rfl).trans ?_
  show cc0_transform_9 (grid0.coords t) a * _ + _ = _
  rw [map_9]
  match a with
  | ⟨0, _⟩ => show 0 * _ + (x 0).val = (x 0).val; omega
  | ⟨1, _⟩ => show 0 * _ + (x 1).val = (x 1).val; omega
  | ⟨2, _⟩ => show 0 * _ + (x 2).val = (x 2).val; omega
/-- The results of window 9 at a point, from the arguments. -/
theorem val_9 (hO : Ok m) (c : Dev nD) (t : Fin (cfgM m hO).N) (x : S3x4x48.Idx) :
    res9 m hO c x = (scalesK (m ((c : Thread nD τ).loc main_arg1) : Vec F S48x4x3x96 .bf16) : Vec F S3x4x48 .f32) (x) :=
  congrArg (fun w : Vec F S1x1x4x96 .bf16 => qScale w (ix2 (x 1) u0)) (row_1 m hO c (ptOf (x 2)) (x 0))
/-- The blocks of window 9 cover its array. -/
theorem cover_9 (hO : Ok m) (i : S3x4x48.Idx) : ∃ t : Fin (cfgM m hO).N, ((cfgM m hO).win 9).flush t = true ∧ i ∈ (((cfgM m hO).win 9).blk t).view.set :=
  ⟨ptOf 47, (flush0_9 (adm m hO) (ptOf 47)).mpr (by show 47 % 48 = 47; omega),
    Finset.mem_map.mpr ⟨i, Finset.mem_univ _, emb_9 m hO (ptOf 47) i⟩⟩

/-- The array of window 9 at the end, for any data whose body leaves the results. -/
theorem arr_9 (hO : Ok m) (c : Dev nD) (dat : Dat τ (Elt F) Unit ℕ (UR sig nD τ) ℕ (cfgM m hO) c)
    (hX : ∀ t, ((cfgM m hO).win 9).flush t = true → dat.after 9 t = res9 m hO c) :
    dat.arrAt 9 (cfgM m hO).N = (scalesK (m ((c : Thread nD τ).loc main_arg1) : Vec F S48x4x3x96 .bf16) : Vec F S3x4x48 .f32) := by
  refine dat.arrAt_eq_of_emb 9 _ (fun t hf x => ?_) (fun i => ?_)
  · refine (congrFun (hX t hf) x).trans ?_
    refine (val_9 m hO c t x).trans ?_
    exact congrArg (scalesK (m ((c : Thread nD τ).loc main_arg1) : Vec F S48x4x3x96 .bf16) : Vec F S3x4x48 .f32) (emb_9 m hO t x).symm
  · exact cover_9 m hO i

/-- Where the block of window 10 lies in its array. -/
theorem emb_10 (hO : Ok m) (t : Fin (cfgM m hO).N) (x : S1x3x4x96.Idx) : ((((cfgM m hO).win 10).blk t).view.emb x : S48x3x4x96.Idx) = ix4 (seqOf t) (x 1) (x 2) (x 3) := by
  refine funext fun a => Fin.ext ?_
  refine (Pipeline.Window.rect_emb_val ((cfgM m hO).win 10) t x a rfl).trans ?_
  show cc0_transform_10 (grid0.coords t) a * _ + _ = _
  rw [map_10]
  match a with
  | ⟨0, _⟩ => have h := (x 0).isLt; have h : (x 0).val < 1 := h; show t.val * 1 + (x 0).val = t.val; omega
  | ⟨1, _⟩ => show 0 * _ + (x 1).val = (x 1).val; omega
  | ⟨2, _⟩ => show 0 * _ + (x 2).val = (x 2).val; omega
  | ⟨3, _⟩ => show 0 * _ + (x 3).val = (x 3).val; omega
/-- The results of window 10 at a point, from the arguments. -/
theorem val_10 (hO : Ok m) (c : Dev nD) (t : Fin (cfgM m hO).N) (x : S1x3x4x96.Idx) :
    res10 m hO c t x = (codesK (m ((c : Thread nD τ).loc main_arg2) : Vec F S48x4x3x96 .bf16) : Vec F S48x3x4x96 .fp8e4m3) (ix4 (seqOf t) (x 1) (x 2) (x 3)) :=
  congrArg (fun w : Vec F S1x1x4x96 .bf16 => qCodes w (ix2 (x 2) (x 3))) (row_2 m hO c t (x 1))
/-- The blocks of window 10 cover its array. -/
theorem cover_10 (hO : Ok m) (i : S48x3x4x96.Idx) : ∃ t : Fin (cfgM m hO).N, ((cfgM m hO).win 10).flush t = true ∧ i ∈ (((cfgM m hO).win 10).blk t).view.set :=
  ⟨ptOf (i 0), flush0_10 (adm m hO) _,
    Finset.mem_map.mpr ⟨ix4 u0 (i 1) (i 2) (i 3), Finset.mem_univ _, (emb_10 m hO (ptOf (i 0)) (ix4 u0 (i 1) (i 2) (i 3))).trans (ValueIdx.eq_ix4 i).symm⟩⟩

/-- The array of window 10 at the end, for any data whose body leaves the results. -/
theorem arr_10 (hO : Ok m) (c : Dev nD) (dat : Dat τ (Elt F) Unit ℕ (UR sig nD τ) ℕ (cfgM m hO) c)
    (hX : ∀ t, ((cfgM m hO).win 10).flush t = true → dat.after 10 t = res10 m hO c t) :
    dat.arrAt 10 (cfgM m hO).N = (codesK (m ((c : Thread nD τ).loc main_arg2) : Vec F S48x4x3x96 .bf16) : Vec F S48x3x4x96 .fp8e4m3) := by
  refine dat.arrAt_eq_of_emb 10 _ (fun t hf x => ?_) (fun i => ?_)
  · refine (congrFun (hX t hf) x).trans ?_
    refine (val_10 m hO c t x).trans ?_
    exact congrArg (codesK (m ((c : Thread nD τ).loc main_arg2) : Vec F S48x4x3x96 .bf16) : Vec F S48x3x4x96 .fp8e4m3) (emb_10 m hO t x).symm
  · exact cover_10 m hO i

/-- Where the block of window 11 lies in its array. -/
theorem emb_11 (hO : Ok m) (t : Fin (cfgM m hO).N) (x : S3x4x48.Idx) : ((((cfgM m hO).win 11).blk t).view.emb x : S3x4x48.Idx) = x := by
  refine funext fun a => Fin.ext ?_
  refine (Pipeline.Window.rect_emb_val ((cfgM m hO).win 11) t x a rfl).trans ?_
  show cc0_transform_11 (grid0.coords t) a * _ + _ = _
  rw [map_11]
  match a with
  | ⟨0, _⟩ => show 0 * _ + (x 0).val = (x 0).val; omega
  | ⟨1, _⟩ => show 0 * _ + (x 1).val = (x 1).val; omega
  | ⟨2, _⟩ => show 0 * _ + (x 2).val = (x 2).val; omega
/-- The results of window 11 at a point, from the arguments. -/
theorem val_11 (hO : Ok m) (c : Dev nD) (t : Fin (cfgM m hO).N) (x : S3x4x48.Idx) :
    res11 m hO c x = (scalesK (m ((c : Thread nD τ).loc main_arg2) : Vec F S48x4x3x96 .bf16) : Vec F S3x4x48 .f32) (x) :=
  congrArg (fun w : Vec F S1x1x4x96 .bf16 => qScale w (ix2 (x 1) u0)) (row_2 m hO c (ptOf (x 2)) (x 0))
/-- The blocks of window 11 cover its array. -/
theorem cover_11 (hO : Ok m) (i : S3x4x48.Idx) : ∃ t : Fin (cfgM m hO).N, ((cfgM m hO).win 11).flush t = true ∧ i ∈ (((cfgM m hO).win 11).blk t).view.set :=
  ⟨ptOf 47, (flush0_11 (adm m hO) (ptOf 47)).mpr (by show 47 % 48 = 47; omega),
    Finset.mem_map.mpr ⟨i, Finset.mem_univ _, emb_11 m hO (ptOf 47) i⟩⟩

/-- The array of window 11 at the end, for any data whose body leaves the results. -/
theorem arr_11 (hO : Ok m) (c : Dev nD) (dat : Dat τ (Elt F) Unit ℕ (UR sig nD τ) ℕ (cfgM m hO) c)
    (hX : ∀ t, ((cfgM m hO).win 11).flush t = true → dat.after 11 t = res11 m hO c) :
    dat.arrAt 11 (cfgM m hO).N = (scalesK (m ((c : Thread nD τ).loc main_arg2) : Vec F S48x4x3x96 .bf16) : Vec F S3x4x48 .f32) := by
  refine dat.arrAt_eq_of_emb 11 _ (fun t hf x => ?_) (fun i => ?_)
  · refine (congrFun (hX t hf) x).trans ?_
    refine (val_11 m hO c t x).trans ?_
    exact congrArg (scalesK (m ((c : Thread nD τ).loc main_arg2) : Vec F S48x4x3x96 .bf16) : Vec F S3x4x48 .f32) (emb_11 m hO t x).symm
  · exact cover_11 m hO i

/-- The kernel's run: every weakly fair execution terminates, the results as functions of the arguments, the arguments unchanged. -/
theorem run_values (hO : Ok m) : θ_run defs (onTc (τ := τ) (main (F := F))) ⟨m, fun _ => 0, ρ⟩ (fun r => ∀ c : Dev nD,
      r.2.mem ((c.tc : Thread nD τ).loc main_v7_0) = (outK (m ((c : Thread nD τ).loc main_arg0) : Vec F S48x4x24x96 .bf16) (m ((c : Thread nD τ).loc main_arg1) : Vec F S48x4x3x96 .bf16) (m ((c : Thread nD τ).loc main_arg2) : Vec F S48x4x3x96 .bf16) (m ((c : Thread nD τ).loc main_arg3) : Vec F S48x2048x3x96 .fp8e4m3) (m ((c : Thread nD τ).loc main_arg4) : Vec F S48x2048x3x96 .fp8e4m3) (m ((c : Thread nD τ).loc main_arg5) : Vec F S48x2048x3 .f32) (m ((c : Thread nD τ).loc main_arg6) : Vec F S48x2048x3 .f32) (m ((c : Thread nD τ).loc main_arg7) : IVec S48 32) (m ((c : Thread nD τ).loc main_arg8) : IVec S48x4 32) : Vec F S48x4x2304 .bf16)
      ∧ r.2.mem ((c.tc : Thread nD τ).loc main_v7_1) = (codesK (m ((c : Thread nD τ).loc main_arg1) : Vec F S48x4x3x96 .bf16) : Vec F S48x3x4x96 .fp8e4m3)
      ∧ r.2.mem ((c.tc : Thread nD τ).loc main_v7_2) = (scalesK (m ((c : Thread nD τ).loc main_arg1) : Vec F S48x4x3x96 .bf16) : Vec F S3x4x48 .f32)
      ∧ r.2.mem ((c.tc : Thread nD τ).loc main_v7_3) = (codesK (m ((c : Thread nD τ).loc main_arg2) : Vec F S48x4x3x96 .bf16) : Vec F S48x3x4x96 .fp8e4m3)
      ∧ r.2.mem ((c.tc : Thread nD τ).loc main_v7_4) = (scalesK (m ((c : Thread nD τ).loc main_arg2) : Vec F S48x4x3x96 .bf16) : Vec F S3x4x48 .f32)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (θ_run_and (run_main m ρ hO) (unchanged m ρ hO))
  obtain ⟨h, hu⟩ := h
  have h0 := h c
  obtain ⟨after, hL, hA⟩ := Pipeline.RDat.FramePost.exists_exact h c
  refine ⟨?_, ?_, ?_, ?_, ?_, hu c⟩
  · exact (((dats m hO 0 c).toR_arrAt_iff 7 _ _).mp (((dats m hO 0 c).toR.override_arrAt (w := 7) rfl _ _).mp (h0.1 7))).trans
      (arr_7 m hO c _ fun t _ => after0_7 m hO c t)
  · exact (((dats m hO 0 c).toR_arrAt_iff 8 _ _).mp (((dats m hO 0 c).toR.override_arrAt (w := 8) rfl _ _).mp (h0.1 8))).trans
      (arr_8 m hO c _ fun t _ => after0_8 m hO c t)
  · refine (hA 9).trans (arr_9 m hO c _ fun t hf => ?_)
    have hR := (dats m hO 0 c).toRRel_leaves (fgt := lanes0) (Rl := laneRel m hO c) (w := 9) lanes0_9 (hL 9 t hf)
    have h1 := (flush0_9 (adm m hO) t).mp hf
    have h2 : t.val < 48 := t.isLt
    exact funext fun (y : S3x4x48.Idx) => hR y (by
      have h3 := (y 2).isLt
      have h3 : (y 2).val < 48 := h3
      omega)
  · exact (((dats m hO 0 c).toR_arrAt_iff 10 _ _).mp (((dats m hO 0 c).toR.override_arrAt (w := 10) rfl _ _).mp (h0.1 10))).trans
      (arr_10 m hO c _ fun t _ => after0_10 m hO c t)
  · refine (hA 11).trans (arr_11 m hO c _ fun t hf => ?_)
    have hR := (dats m hO 0 c).toRRel_leaves (fgt := lanes0) (Rl := laneRel m hO c) (w := 11) lanes0_11 (hL 11 t hf)
    have h1 := (flush0_11 (adm m hO) t).mp hf
    have h2 : t.val < 48 := t.isLt
    exact funext fun (y : S3x4x48.Idx) => hR y (by
      have h3 := (y 2).isLt
      have h3 : (y 2).val < 48 := h3
      omega)

end Cert.KernelIdeal.Own

end
-- ==== Proof.Ref.lean ====
module

public import proofs.«01_k».proof.Proof.Gen.ReferenceIdeal.Frame
public import proofs.«01_k».proof.Proof.Gen.ReferenceIdeal.Run
public import Idealize.ShloMosaic.Lib.Pipeline.ValueKit.Geometry
public import Idealize.ShloMosaic.Lib.Pipeline.ValueKit.Basic
public import Idealize.ShloMosaic.Lib.ValueIdx

@[expose] public section

set_option maxRecDepth 16384

noncomputable section

namespace Cert.ReferenceIdeal.Own

open Cert.ReferenceIdeal Cert.ReferenceIdeal.Gen
open Idealize.ShloMosaic Idealize.ShloMosaic.TcCoe
open Idealize.ShloMosaic.Pipeline (Dat Cfg Window)

variable {F : FTy → Type} [FloatOps F] [Named F]
variable (m : (ℓ : Loc nD τ sig) → Buf (Elt F) ℓ)

/-! # What the reference's quantiser leaves in its eight result arrays -/

/-- The one point of the quantiser's launch. -/
abbrev pt : Fin cfg0.N := ⟨0, by decide⟩

/-- The codes of the new keys or values. -/
def codesR (A : Vec F S48x4x3x96 .bf16) : FVec F S48x4x3x96 .fp8e4m3 := k0_pay6 A
/-- The scales of the new keys or values. -/
def scalesR (A : Vec F S48x4x3x96 .bf16) : FVec F S48x4x3 .f32 := k0_pay5 A

/-- The values' codes are computed as the keys'. -/
theorem codesR_v (A : Vec F S48x4x3x96 .bf16) : k0_pay13 (k0_pay7 A) (k0_pay8 A) (k0_pay9 A) k0_pay10 = codesR A := rfl
/-- The values' scales are computed as the keys'. -/
theorem scalesR_v (A : Vec F S48x4x3x96 .bf16) : k0_pay12 (k0_pay8 A) (k0_pay9 A) k0_pay10 = scalesR A := rfl

/-- The block of window 0 is the whole argument. -/
theorem iblk_0 (c : Dev nD) (t : Fin cfg0.N) : iblk m c 0 t = (m ((c : Thread nD τ).loc main_arg1) : Vec F S48x4x3x96 .bf16) := by
  funext x
  show (m ((c : Thread nD τ).loc main_arg1) : Vec F S48x4x3x96 .bf16) (((cfg0.win 0).blk t).view.emb x) = _
  refine congrArg (m ((c : Thread nD τ).loc main_arg1) : Vec F S48x4x3x96 .bf16) (funext fun a => Fin.ext ?_)
  exact Window.rect_emb_val_of_index_zero (cfg0.win 0) t a ((by decide +kernel : ∀ (t : Fin grid0.N) (a : Fin (cfg0.win 0).shape.rank), (cfg0.win 0).index t a = 0) t a) x
/-- The block of window 1 is the whole argument. -/
theorem iblk_1 (c : Dev nD) (t : Fin cfg0.N) : iblk m c 1 t = (m ((c : Thread nD τ).loc main_arg2) : Vec F S48x4x3x96 .bf16) := by
  funext x
  show (m ((c : Thread nD τ).loc main_arg2) : Vec F S48x4x3x96 .bf16) (((cfg0.win 1).blk t).view.emb x) = _
  refine congrArg (m ((c : Thread nD τ).loc main_arg2) : Vec F S48x4x3x96 .bf16) (funext fun a => Fin.ext ?_)
  exact Window.rect_emb_val_of_index_zero (cfg0.win 1) t a ((by decide +kernel : ∀ (t : Fin grid0.N) (a : Fin (cfg0.win 1).shape.rank), (cfg0.win 1).index t a = 0) t a) x
/-- The block of window 2 is the whole argument. -/
theorem iblk_2 (c : Dev nD) (t : Fin cfg0.N) : iblk m c 2 t = (m ((c : Thread nD τ).loc main_arg3) : Vec F S48x2048x3x96 .fp8e4m3) := by
  funext x
  show (m ((c : Thread nD τ).loc main_arg3) : Vec F S48x2048x3x96 .fp8e4m3) (((cfg0.win 2).blk t).view.emb x) = _
  refine congrArg (m ((c : Thread nD τ).loc main_arg3) : Vec F S48x2048x3x96 .fp8e4m3) (funext fun a => Fin.ext ?_)
  exact Window.rect_emb_val_of_index_zero (cfg0.win 2) t a ((by decide +kernel : ∀ (t : Fin grid0.N) (a : Fin (cfg0.win 2).shape.rank), (cfg0.win 2).index t a = 0) t a) x
/-- The block of window 3 is the whole argument. -/
theorem iblk_3 (c : Dev nD) (t : Fin cfg0.N) : iblk m c 3 t = (m ((c : Thread nD τ).loc main_arg4) : Vec F S48x2048x3x96 .fp8e4m3) := by
  funext x
  show (m ((c : Thread nD τ).loc main_arg4) : Vec F S48x2048x3x96 .fp8e4m3) (((cfg0.win 3).blk t).view.emb x) = _
  refine congrArg (m ((c : Thread nD τ).loc main_arg4) : Vec F S48x2048x3x96 .fp8e4m3) (funext fun a => Fin.ext ?_)
  exact Window.rect_emb_val_of_index_zero (cfg0.win 3) t a ((by decide +kernel : ∀ (t : Fin grid0.N) (a : Fin (cfg0.win 3).shape.rank), (cfg0.win 3).index t a = 0) t a) x
/-- What window 4's buffer holds after the body. -/
theorem out_4 (x0 x1 : Vec F S48x4x3x96 .bf16) (x2 x3 : Vec F S48x2048x3x96 .fp8e4m3) : out0_4 x0 x1 x2 x3 = codesR x0 := by
  unfold out0_4 k0_pay16
  rw [View.canon_cons_unit_lit _ _ _ (by decide), View.ld_unit_lit _ _ (by decide)]
  rfl
/-- The quantiser's result array 0. -/
theorem reg_0 (c : Dev nD) : Value.reg_main_v0_0 m c = codesR (m ((c : Thread nD τ).loc main_arg1) : Vec F S48x4x3x96 .bf16) := by
  unfold Value.reg_main_v0_0
  refine Dat.arrAt_eq_of_after_last _ 4 pt (by decide +kernel) _ fun j => ?_
  show (dats m 0 c).after 4 pt _ = _
  rw [after0_4, iblk_0, iblk_1, iblk_2, iblk_3, out_4]
  rfl
/-- What window 5's buffer holds after the body. -/
theorem out_5 (x0 x1 : Vec F S48x4x3x96 .bf16) (x2 x3 : Vec F S48x2048x3x96 .fp8e4m3) : out0_5 x0 x1 x2 x3 = scalesR x0 := by
  unfold out0_5
  rw [View.canon_cons_unit_lit _ _ _ (by decide), View.ld_unit_lit _ _ (by decide)]
  rfl
/-- The quantiser's result array 1. -/
theorem reg_1 (c : Dev nD) : Value.reg_main_v0_1 m c = scalesR (m ((c : Thread nD τ).loc main_arg1) : Vec F S48x4x3x96 .bf16) := by
  unfold Value.reg_main_v0_1
  refine Dat.arrAt_eq_of_after_last _ 5 pt (by decide +kernel) _ fun j => ?_
  show (dats m 0 c).after 5 pt _ = _
  rw [after0_5, iblk_0, iblk_1, iblk_2, iblk_3, out_5]
  rfl
/-- What window 6's buffer holds after the body. -/
theorem out_6 (x0 x1 : Vec F S48x4x3x96 .bf16) (x2 x3 : Vec F S48x2048x3x96 .fp8e4m3) : out0_6 x0 x1 x2 x3 = codesR x1 := by
  unfold out0_6 k0_pay20 k0_pay19 k0_pay18 k0_pay17
  rw [View.canon_cons_unit_lit _ _ _ (by decide), View.ld_unit_lit _ _ (by decide)]
  rfl
/-- The quantiser's result array 2. -/
theorem reg_2 (c : Dev nD) : Value.reg_main_v0_2 m c = codesR (m ((c : Thread nD τ).loc main_arg2) : Vec F S48x4x3x96 .bf16) := by
  unfold Value.reg_main_v0_2
  refine Dat.arrAt_eq_of_after_last _ 6 pt (by decide +kernel) _ fun j => ?_
  show (dats m 0 c).after 6 pt _ = _
  rw [after0_6, iblk_0, iblk_1, iblk_2, iblk_3, out_6]
  rfl
/-- What window 7's buffer holds after the body. -/
theorem out_7 (x0 x1 : Vec F S48x4x3x96 .bf16) (x2 x3 : Vec F S48x2048x3x96 .fp8e4m3) : out0_7 x0 x1 x2 x3 = scalesR x1 := by
  unfold out0_7 k0_pay20 k0_pay19 k0_pay18
  rw [View.canon_cons_unit_lit _ _ _ (by decide), View.ld_unit_lit _ _ (by decide)]
  rfl
/-- The quantiser's result array 3. -/
theorem reg_3 (c : Dev nD) : Value.reg_main_v0_3 m c = scalesR (m ((c : Thread nD τ).loc main_arg2) : Vec F S48x4x3x96 .bf16) := by
  unfold Value.reg_main_v0_3
  refine Dat.arrAt_eq_of_after_last _ 7 pt (by decide +kernel) _ fun j => ?_
  show (dats m 0 c).after 7 pt _ = _
  rw [after0_7, iblk_0, iblk_1, iblk_2, iblk_3, out_7]
  rfl
/-- What window 8's buffer holds after the body. -/
theorem out_8 (x0 x1 : Vec F S48x4x3x96 .bf16) (x2 x3 : Vec F S48x2048x3x96 .fp8e4m3) : out0_8 x0 x1 x2 x3 = k0_pay14 (codesR x0) := by
  unfold out0_8 k0_pay16
  rw [View.canon_cons_unit_lit _ _ _ (by decide), View.ld_unit_lit _ _ (by decide)]
  rfl
/-- The quantiser's result array 4. -/
theorem reg_4 (c : Dev nD) : Value.reg_main_v0_4 m c = k0_pay14 (codesR (m ((c : Thread nD τ).loc main_arg1) : Vec F S48x4x3x96 .bf16)) := by
  unfold Value.reg_main_v0_4
  refine Dat.arrAt_eq_of_after_last _ 8 pt (by decide +kernel) _ fun j => ?_
  show (dats m 0 c).after 8 pt _ = _
  rw [after0_8, iblk_0, iblk_1, iblk_2, iblk_3, out_8]
  rfl
/-- What window 9's buffer holds after the body. -/
theorem out_9 (x0 x1 : Vec F S48x4x3x96 .bf16) (x2 x3 : Vec F S48x2048x3x96 .fp8e4m3) : out0_9 x0 x1 x2 x3 = k0_pay14 (codesR x1) := by
  unfold out0_9 k0_pay20 k0_pay19 k0_pay18 k0_pay17
  rw [View.canon_cons_unit_lit _ _ _ (by decide), View.ld_unit_lit _ _ (by decide)]
  rfl
/-- The quantiser's result array 5. -/
theorem reg_5 (c : Dev nD) : Value.reg_main_v0_5 m c = k0_pay14 (codesR (m ((c : Thread nD τ).loc main_arg2) : Vec F S48x4x3x96 .bf16)) := by
  unfold Value.reg_main_v0_5
  refine Dat.arrAt_eq_of_after_last _ 9 pt (by decide +kernel) _ fun j => ?_
  show (dats m 0 c).after 9 pt _ = _
  rw [after0_9, iblk_0, iblk_1, iblk_2, iblk_3, out_9]
  rfl
/-- What window 10's buffer holds after the body. -/
theorem out_10 (x0 x1 : Vec F S48x4x3x96 .bf16) (x2 x3 : Vec F S48x2048x3x96 .fp8e4m3) : out0_10 x0 x1 x2 x3 = k0_pay1 x2 := by
  unfold out0_10
  rw [View.canon_cons_unit_lit _ _ _ (by decide), View.ld_unit_lit _ _ (by decide)]
/-- The quantiser's result array 6. -/
theorem reg_6 (c : Dev nD) : Value.reg_main_v0_6 m c = k0_pay1 (m ((c : Thread nD τ).loc main_arg3) : Vec F S48x2048x3x96 .fp8e4m3) := by
  unfold Value.reg_main_v0_6
  refine Dat.arrAt_eq_of_after_last _ 10 pt (by decide +kernel) _ fun j => ?_
  show (dats m 0 c).after 10 pt _ = _
  rw [after0_10, iblk_0, iblk_1, iblk_2, iblk_3, out_10]
  rfl
/-- What window 11's buffer holds after the body. -/
theorem out_11 (x0 x1 : Vec F S48x4x3x96 .bf16) (x2 x3 : Vec F S48x2048x3x96 .fp8e4m3) : out0_11 x0 x1 x2 x3 = k0_pay2 x3 := by
  unfold out0_11
  rw [View.canon_cons_unit_lit _ _ _ (by decide), View.ld_unit_lit _ _ (by decide)]
/-- The quantiser's result array 7. -/
theorem reg_7 (c : Dev nD) : Value.reg_main_v0_7 m c = k0_pay2 (m ((c : Thread nD τ).loc main_arg4) : Vec F S48x2048x3x96 .fp8e4m3) := by
  unfold Value.reg_main_v0_7
  refine Dat.arrAt_eq_of_after_last _ 11 pt (by decide +kernel) _ fun j => ?_
  show (dats m 0 c).after 11 pt _ = _
  rw [after0_11, iblk_0, iblk_1, iblk_2, iblk_3, out_11]
  rfl

end Cert.ReferenceIdeal.Own

end
-- ==== Proof.Val.Algebra.lean ====
module

public import Idealize.ShloMosaic.PureOps.Ideal
public import Idealize.ShloMosaic.PureOps.Ideal.Laws
public import Idealize.ShloMosaic.Lib.ValueIdx

@[expose] public section

noncomputable section

/-! # The algebra of one attention row over the extended reals -/

namespace Cert.Val

open Idealize.ShloMosaic
open scoped BigOperators

variable {ι κ : Type} [Fintype ι] [Fintype κ]

/-- A product with a positive real distributes over a sum. -/
theorem add_mul_pos (a b : EReal) {c : ℝ} (hc : 0 < c) : (a + b) * (c : EReal) = a * c + b * c := by
  rw [mul_comm, EReal.left_distrib_of_nonneg_of_ne_top (EReal.coe_nonneg.mpr hc.le) (EReal.coe_ne_top c), mul_comm _ a, mul_comm _ b]

/-- A product with a positive real distributes over a difference. -/
theorem sub_mul_pos (a b : EReal) {c : ℝ} (hc : 0 < c) : (a - b) * (c : EReal) = a * c - b * c := by
  rw [sub_eq_add_neg, sub_eq_add_neg, add_mul_pos _ _ hc, EReal.neg_mul]

/-- A product with a positive real distributes over a finite sum. -/
theorem sum_mul_pos (f : ι → EReal) {c : ℝ} (hc : 0 < c) : ∑ i, f i * (c : EReal) = (∑ i, f i) * c := by
  classical
  have h : ∀ s : Finset ι, ∑ i ∈ s, f i * (c : EReal) = (∑ i ∈ s, f i) * c := fun s => by
    induction s using Finset.induction_on with
    | empty => simp
    | insert a s ha ih => rw [Finset.sum_insert ha, Finset.sum_insert ha, ih, add_mul_pos _ _ hc]
  exact h _

/-- A product with a positive real is monotone. -/
theorem mul_pos_mono {c : ℝ} (hc : 0 < c) : Monotone fun a : EReal => a * (c : EReal) :=
  fun a b h => mul_le_mul_of_nonneg_right h (EReal.coe_nonneg.mpr hc.le)

/-- A positive real factor moves out of a maximum of two. -/
theorem max_mul_pos (a b : EReal) {c : ℝ} (hc : 0 < c) : max (a * (c : EReal)) (b * c) = max a b * c :=
  ((mul_pos_mono hc).map_max).symm

/-- A positive real factor moves out of a finite maximum. -/
theorem sup_mul_pos (f : ι → EReal) {c : ℝ} (hc : 0 < c) :
    (Finset.univ.sup fun i => f i * (c : EReal)) = Finset.univ.sup f * c :=
  (Finset.comp_sup_eq_sup_comp (fun a : EReal => a * (c : EReal)) (fun a b => (mul_pos_mono hc).map_max)
    (EReal.bot_mul_coe_of_pos hc)).symm

/-- The base-two exponential of a number over `log 2` is the exponential. -/
theorem exp2_log2 (x : EReal) : Ideal.exp2 (x * (((Real.log 2)⁻¹ : ℝ) : EReal)) = Ideal.exp x := by
  have hl : 0 < Real.log 2 := Real.log_pos (by norm_num)
  have hc : 0 < (Real.log 2)⁻¹ := inv_pos.mpr hl
  induction x with
  | bot => rw [EReal.bot_mul_coe_of_pos hc]; rfl
  | top => rw [EReal.top_mul_coe_of_pos hc]; rfl
  | coe r =>
    rw [← EReal.coe_mul]
    show ((Real.rpow 2 (r * (Real.log 2)⁻¹) : ℝ) : EReal) = ((Real.exp r : ℝ) : EReal)
    refine congrArg _ ?_
    show (2 : ℝ) ^ (r * (Real.log 2)⁻¹) = _
    rw [Real.rpow_def_of_pos (by norm_num)]
    congr 1
    field_simp

/-- The exponential of a number below another one less that other is a real from 0 to 1. -/
theorem exp_sub_real {s m : EReal} (h : s ≤ m) : ∃ r : ℝ, 0 ≤ r ∧ Ideal.exp (s - m) = (r : EReal) := by
  induction s with
  | bot => exact ⟨0, le_rfl, by rw [sub_eq_add_neg, EReal.bot_add]; rfl⟩
  | top =>
    obtain rfl : m = ⊤ := top_le_iff.mp h
    exact ⟨0, le_rfl, rfl⟩
  | coe a =>
    induction m with
    | bot => exact absurd h (by simp)
    | top => exact ⟨0, le_rfl, by rw [sub_eq_add_neg, EReal.neg_top, EReal.add_bot]; rfl⟩
    | coe b => exact ⟨Real.exp (a - b), (Real.exp_pos _).le, by rw [← EReal.coe_sub]; rfl⟩

/-- A finite sum of reals is the real of the sum. -/
theorem coe_sum (f : ι → ℝ) : ∑ i, ((f i : ℝ) : EReal) = ((∑ i, f i : ℝ) : EReal) := by
  classical
  have h : ∀ s : Finset ι, ∑ i ∈ s, ((f i : ℝ) : EReal) = ((∑ i ∈ s, f i : ℝ) : EReal) := fun s => by
    induction s using Finset.induction_on with
    | empty => simp
    | insert a s ha ih => rw [Finset.sum_insert ha, Finset.sum_insert ha, ih, EReal.coe_add]
  exact h _

/-- The larger of the two parts' greatest scores. -/
def top (s : ι → EReal) (sn : κ → EReal) : EReal := max (Finset.univ.sup s) (Finset.univ.sup sn)

/-- One row of attention as the kernel computes it: base-two exponentials, one division at the end. -/
def rowK (s vs v : ι → EReal) (sn vsn vn : κ → EReal) : EReal :=
  Ideal.div ((∑ t, Ideal.exp2 (s t - top s sn) * vs t * v t) + ∑ j, Ideal.exp2 (sn j - top s sn) * vsn j * vn j)
    ((∑ t, Ideal.exp2 (s t - top s sn)) + ∑ j, Ideal.exp2 (sn j - top s sn))

/-- The denominator of one row as the reference computes it. -/
def denR (s : ι → EReal) (sn : κ → EReal) : EReal :=
  (∑ t, Ideal.exp (s t - top s sn)) + ∑ j, Ideal.exp (sn j - top s sn)

/-- One row of attention as the reference computes it: every weight divided by the sum of the weights, and no value
    where that sum is not positive. -/
def rowR (s vs v : ι → EReal) (sn vsn vn : κ → EReal) : EReal :=
  Scalar.select (Ideal.cmp .ogt (denR s sn) 0)
    ((∑ t, v t * (Ideal.div (Ideal.exp (s t - top s sn)) (denR s sn) * vs t)) +
      ∑ j, vn j * (Ideal.div (Ideal.exp (sn j - top s sn)) (denR s sn) * vsn j)) ⊥

/-- The kernel's row at scores scaled by `1 / log 2` is the reference's row. -/
theorem rowK_eq_rowR (s vs v : ι → EReal) (sn vsn vn : κ → EReal) :
    rowK (fun t => s t * (((Real.log 2)⁻¹ : ℝ) : EReal)) vs v (fun j => sn j * (((Real.log 2)⁻¹ : ℝ) : EReal)) vsn vn
      = rowR s vs v sn vsn vn := by
  have hl : 0 < Real.log 2 := Real.log_pos (by norm_num)
  have hc : 0 < (Real.log 2)⁻¹ := inv_pos.mpr hl
  have htop : top (fun t => s t * (((Real.log 2)⁻¹ : ℝ) : EReal)) (fun j => sn j * (((Real.log 2)⁻¹ : ℝ) : EReal))
      = top s sn * (((Real.log 2)⁻¹ : ℝ) : EReal) := by
    unfold top; rw [sup_mul_pos s hc, sup_mul_pos sn hc, max_mul_pos _ _ hc]
  unfold rowK rowR denR
  simp only [htop, ← sub_mul_pos _ _ hc, exp2_log2]
  have hs : ∀ t, s t ≤ top s sn := fun t => le_max_of_le_left (Finset.le_sup (Finset.mem_univ t))
  have hsn : ∀ j, sn j ≤ top s sn := fun j => le_max_of_le_right (Finset.le_sup (Finset.mem_univ j))
  choose e he0 he using fun t => exp_sub_real (hs t)
  choose en hen0 hen using fun j => exp_sub_real (hsn j)
  simp only [he, hen, coe_sum, ← EReal.coe_add]
  set l : ℝ := ∑ t, e t + ∑ j, en j with hldef
  have h1 : 0 ≤ ∑ t, e t := Finset.sum_nonneg fun t _ => he0 t
  have h2 : 0 ≤ ∑ j, en j := Finset.sum_nonneg fun j _ => hen0 j
  rcases (add_nonneg h1 h2).eq_or_lt with h0 | h0
  · have hl0 : l = 0 := h0.symm
    have hz1 : ∑ t, e t = 0 := by linarith
    have hz2 : ∑ j, en j = 0 := by linarith
    have hz1' : ∀ t, e t = 0 := fun t => (Finset.sum_eq_zero_iff_of_nonneg fun t _ => he0 t).mp hz1 t (Finset.mem_univ t)
    have hz2' : ∀ j, en j = 0 := fun j => (Finset.sum_eq_zero_iff_of_nonneg fun j _ => hen0 j).mp hz2 j (Finset.mem_univ j)
    have hcmp : Ideal.cmp .ogt ((l : ℝ) : EReal) 0 = 0#1 := by rw [hl0]; simp [Ideal.cmp]
    rw [hcmp, ValueIdx.select_zero, hl0]
    simp [hz1', hz2', Ideal.div]
  · have hl0 : 0 < l := h0
    have hne : ((l : ℝ) : EReal) ≠ 0 := by exact_mod_cast hl0.ne'
    have hcmp : Ideal.cmp .ogt ((l : ℝ) : EReal) 0 = 1#1 := by
      simp [Ideal.cmp, hl0]
    rw [hcmp, ValueIdx.select_one]
    unfold Ideal.div
    simp only [if_neg hne]
    rw [← EReal.coe_inv, add_mul_pos _ _ (inv_pos.mpr hl0), ← sum_mul_pos _ (inv_pos.mpr hl0), ← sum_mul_pos _ (inv_pos.mpr hl0)]
    congr 1
    · exact Finset.sum_congr rfl fun t _ => by rw [mul_comm (v t), mul_right_comm _ (((l⁻¹ : ℝ) : EReal)) (vs t), mul_right_comm]
    · exact Finset.sum_congr rfl fun t _ => by rw [mul_comm (vn t), mul_right_comm _ (((l⁻¹ : ℝ) : EReal)) (vsn t), mul_right_comm]

end Cert.Val

end
-- ==== Proof.Val.Exponent.lean ====
module

public import Idealize.ShloMosaic.PureOps.Ideal
public import Idealize.ShloMosaic.PureOps.Ideal.Laws
public import Idealize.ShloMosaic.Lib.ValueIdx
public import Idealize.ShloMosaic.Lib.IdealHost

@[expose] public section

noncomputable section

/-! # The quantiser's exponent: the search by halves against the logarithm -/

namespace Cert.Val

open Idealize.ShloMosaic

/-- The value of the 32-bit float whose exponent field is `E` and whose other bits are zero. -/
def pw (E : ℕ) : EReal := if E = 255 then ⊤ else if E = 0 then 0 else (((2 : ℝ) ^ ((E : ℤ) - 127) : ℝ) : EReal)

/-- The sign, the exponent field and the fraction of a word shifted into the exponent field. -/
theorem pw_bits_fields : ∀ E : Fin 256, ((BitVec.ofNat 32 E.val <<< 23).extractLsb' 31 1 == 1#1) = false
    ∧ ((BitVec.ofNat 32 E.val <<< 23).extractLsb' 23 8).toNat = E.val ∧ ((BitVec.ofNat 32 E.val <<< 23).extractLsb' 0 23).toNat = 0 := by
  decide +kernel

/-- The float of the word `E` shifted into the exponent field. -/
theorem ofBits_pw (E : ℕ) (hE : E < 256) : Ideal.ofBits .f32 (BitVec.ofNat 32 E <<< 23) = pw E := by
  obtain ⟨h1, h2, h3⟩ := pw_bits_fields ⟨E, hE⟩
  simp only at h1 h2 h3
  show Ideal.ieee 8 23 _ = _
  unfold Ideal.ieee pw
  simp only [show 8 + 23 = 31 from rfl, h1, h2, h3]
  by_cases h : E = 255
  · simp [h]
  · by_cases h' : E = 0
    · simp [h']
    · rw [if_neg (show ¬ E = 2 ^ 8 - 1 by omega), if_neg h', if_neg h, if_neg h']
      refine congrArg (fun x : ℝ => (x : EReal)) ?_
      rw [show ((E : ℤ) - (2 ^ (8 - 1) - 1) - ((23 : ℕ) : ℤ)) = ((E : ℤ) - 127) + (-23) by norm_num; ring, zpow_add₀ (by norm_num)]
      generalize (2 : ℝ) ^ ((E : ℤ) - 127) = q
      norm_num
      ring

/-- The kernel's shift of a word below 256 is the shift into the exponent field. -/
theorem shl_word : ∀ E : Fin 256, IntOp.shli .vector (BitVec.ofNat 32 E.val) 23#32 = BitVec.ofNat 32 E.val <<< 23 := by decide +kernel

/-- One step of the search, on one number. -/
def step (y : EReal) (n k : BitVec 32) : BitVec 32 :=
  Scalar.select (Ideal.cmp .olt y (Ideal.ofBits .f32 (IntOp.shli .vector (n + k) 23#32))) n (n + k)

/-- What the search keeps: the number lies from the power of the word found so far up to, if that is a word of the
    field, the power at the distance still to be searched. -/
def Inv (y : EReal) (w : BitVec 32) (d : ℕ) : Prop := ∃ n : ℕ, w = BitVec.ofNat 32 n ∧ n + d ≤ 256 ∧ pw n ≤ y ∧ (n + d = 256 ∨ y < pw (n + d))

/-- One step halves the distance still to be searched. -/
theorem inv_step (y : EReal) (w : BitVec 32) (k : ℕ) (hk : 0 < k) (h : Inv y w (2 * k)) : Inv y (step y w (BitVec.ofNat 32 k)) k := by
  obtain ⟨n, rfl, hn, h1, h2⟩ := h
  have hw : BitVec.ofNat 32 n + BitVec.ofNat 32 k = BitVec.ofNat 32 (n + k) := by
    apply BitVec.eq_of_toNat_eq; simp
  unfold step
  rw [hw, shl_word ⟨n + k, by omega⟩, ofBits_pw _ (by omega)]
  by_cases hlt : y < pw (n + k)
  · have : Ideal.cmp .olt y (pw (n + k)) = 1#1 := by simp [Ideal.cmp, hlt]
    rw [this, ValueIdx.select_one]
    exact ⟨n, rfl, by omega, h1, Or.inr hlt⟩
  · have : Ideal.cmp .olt y (pw (n + k)) = 0#1 := by simp [Ideal.cmp, hlt]
    rw [this, ValueIdx.select_zero]
    refine ⟨n + k, rfl, by omega, not_lt.mp hlt, ?_⟩
    rw [show n + k + k = n + 2 * k by omega]
    exact h2

/-- The exponent field of a number, by eight steps. -/
def field (y : EReal) : BitVec 32 :=
  step y (step y (step y (step y (step y (step y (step y (step y 0#32 128#32) 64#32) 32#32) 16#32) 8#32) 4#32) 2#32) 1#32

/-- The search ends at the exponent field: the number lies between that field's power of two and the next. -/
theorem field_spec (y : EReal) (h0 : 0 ≤ y) (ht : y ≠ ⊤) : ∃ n : ℕ, n < 255 ∧ field y = BitVec.ofNat 32 n ∧ pw n ≤ y ∧ y < pw (n + 1) := by
  have h : Inv y (0#32) (2 * 128) := ⟨0, rfl, by omega, by simpa [pw] using h0, Or.inl rfl⟩
  have h := inv_step y _ 128 (by omega) h
  have h := inv_step y _ 64 (by omega) h
  have h := inv_step y _ 32 (by omega) h
  have h := inv_step y _ 16 (by omega) h
  have h := inv_step y _ 8 (by omega) h
  have h := inv_step y _ 4 (by omega) h
  have h := inv_step y _ 2 (by omega) h
  have h := inv_step y _ 1 (by omega) h
  obtain ⟨n, hn, hb, h1, h2⟩ := h
  have hne : n ≠ 255 := fun e => by
    rw [e] at h1; exact ht (top_le_iff.mp (by simpa [pw] using h1))
  refine ⟨n, by omega, hn, h1, h2.resolve_left (by omega)⟩

/-- The exponent found from the field. -/
def expoK (n : BitVec 32) : BitVec 32 := Scalar.select (IntOp.cmpi .eq n 0#32) 0#32 (n - 126#32)
/-- The scale: the power of two of the exponent. -/
def scaleK (y : EReal) : EReal := Ideal.ofBits .f32 (IntOp.shli .vector (expoK (field y) + 127#32) 23#32)
/-- The inverse of the scale. -/
def invK (y : EReal) : EReal := Ideal.ofBits .f32 (IntOp.shli .vector (127#32 - expoK (field y)) 23#32)

/-- The reference's exponent of a row whose largest magnitude is `a`, and `a` over 448 is `y`: the floor of the base-two logarithm
    of `y` plus one, or 0 for a row of zeros. -/
def expoR (a y : EReal) : EReal :=
  Scalar.select (Ideal.cmp .oeq a (Ideal.ofBits .f32 0x00000000#32)) (Ideal.ofBits .f32 0x00000000#32)
    (Ideal.liftRound Int.floor (Ideal.div (Ideal.log y) ((Real.log 2 : ℝ) : EReal)) + Ideal.ofBits .f32 0x3F800000#32)

/-- The field 0 gives the exponent 0. -/
theorem expoK_zero : expoK (BitVec.ofNat 32 0) = 0#32 := by decide

/-- The words of the scale and of its inverse, for a field that is not 0. -/
theorem words : ∀ n : Fin 254, n.val ≠ 0 → expoK (BitVec.ofNat 32 n.val) + 127#32 = BitVec.ofNat 32 (n.val + 1)
    ∧ 127#32 - expoK (BitVec.ofNat 32 n.val) = BitVec.ofNat 32 (253 - n.val) := by decide +kernel

/-- The least normal float32 is the power of the field 1. -/
theorem ofBits_tiny : Ideal.ofBits .f32 0x00800000#32 = pw 1 := (congrArg (Ideal.ofBits .f32) (by decide)).trans (ofBits_pw 1 (by omega))

/-- At 0, and on numbers from the least normal float32 up to `2 ^ 120`: the kernel's scale and its inverse are the reference's. -/
theorem scale_eq (a : EReal) (y : ℝ) (ha : (a = 0 ∧ y = 0) ∨ (a ≠ 0 ∧ Ideal.ofBits .f32 0x00800000#32 ≤ (y : EReal))) (h0 : 0 ≤ y) (hy : y < 2 ^ 120) :
    scaleK (y : EReal) = Ideal.exp2 (expoR a (y : EReal)) ∧ invK (y : EReal) = Ideal.exp2 (Ideal.ofBits .f32 0x00000000#32 - expoR a (y : EReal)) := by
  obtain ⟨n, hn, hf, h1, h2⟩ := field_spec (y : EReal) (EReal.coe_nonneg.mpr h0) (EReal.coe_ne_top y)
  unfold scaleK invK
  rw [hf]
  have hz : Ideal.ofBits .f32 0x00000000#32 = ((0 : ℝ) : EReal) := by simp [Ideal.ofBits, Ideal.ieee]
  by_cases hn0 : n = 0
  · subst hn0
    have ha0 : a = 0 := by
      rcases ha with h3 | h3
      · exact h3.1
      · rw [ofBits_tiny] at h3; exact absurd h3.2 (not_le.mpr h2)
    have hcmp : Ideal.cmp .oeq a (Ideal.ofBits .f32 0x00000000#32) = 1#1 := by
      rw [hz, ha0]; simp [Ideal.cmp]
    have he : expoR a (y : EReal) = ((0 : ℝ) : EReal) := by
      unfold expoR; rw [hcmp, ValueIdx.select_one, hz]
    rw [he, hz, expoK_zero, ← EReal.coe_sub]
    have hp : Ideal.ofBits .f32 (IntOp.shli .vector (127#32) 23#32) = ((1 : ℝ) : EReal) := by
      rw [show (127#32) = BitVec.ofNat 32 127 from rfl, shl_word ⟨127, by omega⟩, ofBits_pw _ (by omega)]; simp [pw]
    constructor
    · show Ideal.ofBits .f32 (IntOp.shli .vector (127#32) 23#32) = _
      rw [hp]; exact congrArg _ (by norm_num)
    · show Ideal.ofBits .f32 (IntOp.shli .vector (127#32) 23#32) = _
      rw [hp]; exact congrArg _ (by norm_num)
  · have hpn : pw n = (((2 : ℝ) ^ ((n : ℤ) - 127) : ℝ) : EReal) := by unfold pw; rw [if_neg (by omega), if_neg hn0]
    have hl : (2 : ℝ) ^ ((n : ℤ) - 127) ≤ y := by rw [hpn] at h1; exact EReal.coe_le_coe_iff.mp h1
    have hn247 : n < 247 := by
      by_contra hc
      have : (2 : ℝ) ^ (120 : ℤ) ≤ 2 ^ ((n : ℤ) - 127) := zpow_le_zpow_right₀ (by norm_num) (by omega)
      have h3 : (2 : ℝ) ^ (120 : ℤ) = 2 ^ 120 := by norm_cast
      linarith
    have hu : y < (2 : ℝ) ^ ((n : ℤ) - 126) := by
      have : pw (n + 1) = (((2 : ℝ) ^ ((n : ℤ) - 126) : ℝ) : EReal) := by
        unfold pw; rw [if_neg (by omega), if_neg (by omega)]
        congr 2; push_cast; ring
      rw [this] at h2; exact EReal.coe_lt_coe_iff.mp h2
    have hypos : 0 < y := lt_of_lt_of_le (zpow_pos (by norm_num) _) hl
    have ha0 : a ≠ 0 := by
      rcases ha with h3 | h3
      · exact absurd h3.2 hypos.ne'
      · exact h3.1
    have hcmp : Ideal.cmp .oeq a (Ideal.ofBits .f32 0x00000000#32) = 0#1 := by
      rw [hz]; simp [Ideal.cmp, ha0]
    have hlog2 : 0 < Real.log 2 := Real.log_pos (by norm_num)
    have hfl : ⌊Real.log y * (Real.log 2)⁻¹⌋ = (n : ℤ) - 127 := by
      rw [Int.floor_eq_iff, ← div_eq_mul_inv, le_div_iff₀ hlog2, div_lt_iff₀ hlog2]
      constructor
      · rw [← Real.log_zpow]
        exact Real.log_le_log (zpow_pos (by norm_num) _) hl
      · rw [show (((n : ℤ) - 127 : ℤ) : ℝ) + 1 = (((n : ℤ) - 126 : ℤ) : ℝ) by push_cast; ring, ← Real.log_zpow]
        exact Real.log_lt_log hypos hu
    have he : expoR a (y : EReal) = (((n : ℝ) - 126 : ℝ) : EReal) := by
      unfold expoR
      rw [hcmp, ValueIdx.select_zero, Ideal.log_coe, if_neg (not_le.mpr hypos), Ideal.ofBits_one_f32]
      unfold Ideal.div
      rw [if_neg (by exact_mod_cast hlog2.ne'), ← EReal.coe_inv, ← EReal.coe_mul]
      show ((⌊Real.log y * (Real.log 2)⁻¹⌋ : ℝ) : EReal) + 1 = _
      rw [hfl]
      rw [← EReal.coe_one, ← EReal.coe_add]
      refine congrArg (fun x : ℝ => (x : EReal)) ?_
      push_cast; ring
    obtain ⟨w1, w2⟩ := words ⟨n, by omega⟩ hn0
    simp only at w1 w2
    rw [he, hz]
    simp only [w1, w2]
    rw [ shl_word ⟨n + 1, by omega⟩, shl_word ⟨253 - n, by omega⟩, ofBits_pw _ (by omega), ofBits_pw _ (by omega), ← EReal.coe_sub]
    unfold pw
    rw [if_neg (show ¬ n + 1 = 255 by omega), if_neg (show ¬ n + 1 = 0 by omega), if_neg (show ¬ 253 - n = 255 by omega), if_neg (show ¬ 253 - n = 0 by omega)]
    constructor
    · show _ = (((2 : ℝ) ^ ((n : ℝ) - 126) : ℝ) : EReal)
      rw [show (n : ℝ) - 126 = (((n : ℤ) - 126 : ℤ) : ℝ) by push_cast; ring, Real.rpow_intCast]
      congr 2; push_cast; ring
    · show _ = (((2 : ℝ) ^ (0 - ((n : ℝ) - 126)) : ℝ) : EReal)
      rw [show 0 - ((n : ℝ) - 126) = ((126 - (n : ℤ) : ℤ) : ℝ) by push_cast; ring, Real.rpow_intCast]
      congr 2; rw [Nat.cast_sub (by omega)]; push_cast; ring

end Cert.Val

end
-- ==== Proof.Val.Kernel.lean ====
module

public import proofs.«01_k».proof.Proof.KI.Blocks
public import proofs.«01_k».proof.Proof.Val.Algebra
public import proofs.«01_k».proof.Proof.Val.Exponent
public import Idealize.ShloMosaic.Lib.Pointwise

@[expose] public section

set_option maxRecDepth 16384

noncomputable section

namespace Cert.Val

open Idealize.ShloMosaic

/-- The largest magnitude of a row. -/
def aOf (f : Fin 96 → EReal) : EReal := Finset.univ.fold max (Ideal.ofBits .f32 0xFF800000#32) (fun x => FloatOps.absf (F := Ideal) (φ := .f32) (f x))

/-- The number whose exponent the quantiser takes: the largest magnitude of a row over 448, as a product. -/
def yOf (f : Fin 96 → EReal) : EReal := aOf f * Ideal.ofBits .f32 0x3B124925#32

/-- A row that the quantisers agree on: it is zero, or it is finite and its largest magnitude over 448 is no subnormal float32. -/
def RowOk (f : Fin 96 → EReal) : Prop :=
  aOf f = Ideal.ofBits .f32 0x00000000#32 ∨ (Ideal.ofBits .f32 0x00800000#32 ≤ yOf f ∧ aOf f ≤ Ideal.ofBits .f32 0x7F7FFFFF#32)

/-- One code of the quantiser, from the row's inverse scale. -/
def code (x inv : EReal) : EReal := min (Ideal.ofBits .f32 0x43E00000#32) (max (Ideal.ofBits .f32 0xC3E00000#32) (x * inv))

/-- The pattern of the negative infinity reads as the bottom. -/
theorem ofBits_ninf : Ideal.ofBits .f32 0xFF800000#32 = ⊥ := by
  simp [Ideal.ofBits, Ideal.ieee]

/-- A running maximum from the bottom is the supremum. -/
theorem fold_max_eq {ι : Type*} [Fintype ι] (f : ι → EReal) :
    Finset.univ.fold max (Ideal.ofBits .f32 0xFF800000#32) f = Finset.univ.sup f := by
  rw [ofBits_ninf]; rfl

end Cert.Val

namespace Cert.KernelIdeal.Own

open Cert.KernelIdeal Cert.KernelIdeal.Gen
open Idealize.ShloMosaic

/-! # The kernel's blocks read at one index, in exact arithmetic -/

/-- The number whose exponent is taken, for one row. -/
theorem maxAbs_at (w : Vec Ideal S1x1x4x96 .bf16) (j : Fin 4) (u : Fin 1) :
    k0_pay8 w (ix2 j u) = Cert.Val.yOf (fun x => w (ix4 0 0 j x)) := by
  pointwise [k0_pay8, k0_pay7]
  rfl

/-- One step of the search, at one row. -/
theorem fieldStep_at (y : FVec Ideal S4x1 .f32) (n : IVec S4x1 32) (k : BitVec 32) (i : S4x1.Idx) :
    fieldStep y n k i = Cert.Val.step (y i) (n i) k := rfl

/-- The field, at one row. -/
theorem fieldOf_at (y : FVec Ideal S4x1 .f32) (i : S4x1.Idx) : fieldOf y i = Cert.Val.field (y i) := by
  unfold fieldOf Cert.Val.field
  simp only [fieldStep_at]
  rfl

/-- The exponent, at one row. -/
theorem expoOf_at (n : IVec S4x1 32) (i : S4x1.Idx) : expoOf n i = Cert.Val.expoK (n i) := rfl

/-- The scale of one row. -/
theorem qScale_at (w : Vec Ideal S1x1x4x96 .bf16) (j : Fin 4) (u : Fin 1) :
    qScale w (ix2 j u) = Cert.Val.scaleK (Cert.Val.yOf (fun x => w (ix4 0 0 j x))) := by
  rw [← maxAbs_at w j u]
  unfold qScale Cert.Val.scaleK
  rw [← fieldOf_at, ← expoOf_at]
  rfl

/-- One code. -/
theorem qCodes_at (w : Vec Ideal S1x1x4x96 .bf16) (j : Fin 4) (d : Fin 96) :
    qCodes w (ix2 j d) = Cert.Val.code (w (ix4 0 0 j d)) (Cert.Val.invK (Cert.Val.yOf (fun x => w (ix4 0 0 j x)))) := by
  rw [← maxAbs_at w j 0]
  unfold qCodes Cert.Val.invK
  rw [← fieldOf_at, ← expoOf_at]
  pointwise [k0_pay7]
  rfl

/-- The kernel's constant factor of the scores: the reference's factor over the logarithm of 2. -/
def sml : EReal := (((3424635 / 33554432) * (Real.log 2)⁻¹ : ℝ) : EReal)

/-- The scores over the cache, at one query row. -/
theorem pay30_at (vis : IVec S1x2048 1) (q : Vec Ideal S1x4x8x96 .bf16) (kt : Vec Ideal S1x1x96x2048 .fp8e4m3) (ks : Vec Ideal S1x1x2048 .f32) (i : Fin 4) (g : Fin 8)
    (r : Fin 32) (hr : r.val = i.val * 8 + g.val) (t : Fin 2048) :
    k0_pay30 vis q kt ks (ix2 r t) = Scalar.select (vis (ix2 0 t)) ((∑ x : Fin 96, q (ix4 0 i g x) * kt (ix4 0 0 x t)) * (ks (ix3 0 0 t) * sml)) ⊥ := by
  have h1 : r.val / 8 < 4 := by have := r.isLt; clear hr; omega
  have h2 : r.val % 8 < 8 := by clear hr; omega
  obtain rfl : i = ⟨r.val / 8, h1⟩ := by ext; simp; omega
  obtain rfl : g = ⟨r.val % 8, h2⟩ := by ext; simp at hr ⊢; omega
  rw [← Cert.Val.ofBits_ninf]
  pointwise [k0_pay30, k0_pay29]
  rfl

/-- The scales of the new values as a row. -/
theorem pay31_at (s : FVec Ideal S4x1 .f32) (u : Fin 1) (j : Fin 4) : k0_pay31 (F := Ideal) s (ix2 u j) = s (ix2 j 0) := by
  pointwise [k0_pay31]

/-- The scores over the new tokens, at one query row. -/
theorem pay32_at (vis : IVec S32x4 1) (s : FVec Ideal S4x1 .f32) (co : FVec Ideal S4x96 .fp8e4m3) (q : Vec Ideal S1x4x8x96 .bf16) (i : Fin 4) (g : Fin 8)
    (r : Fin 32) (hr : r.val = i.val * 8 + g.val) (j : Fin 4) :
    k0_pay32 vis s co q (ix2 r j) = Scalar.select (vis (ix2 r j)) ((∑ x : Fin 96, q (ix4 0 i g x) * co (ix2 j x)) * (s (ix2 j 0) * sml)) ⊥ := by
  have h1 : r.val / 8 < 4 := by have := r.isLt; clear hr; omega
  have h2 : r.val % 8 < 8 := by clear hr; omega
  obtain rfl : i = ⟨r.val / 8, h1⟩ := by ext; simp; omega
  obtain rfl : g = ⟨r.val % 8, h2⟩ := by ext; simp at hr ⊢; omega
  rw [← Cert.Val.ofBits_ninf]
  pointwise [k0_pay32, k0_pay29]
  rfl

/-- The largest score over the cache. -/
theorem pay33_at (vis : IVec S1x2048 1) (q : Vec Ideal S1x4x8x96 .bf16) (kt : Vec Ideal S1x1x96x2048 .fp8e4m3) (ks : Vec Ideal S1x1x2048 .f32) (r : Fin 32) (u : Fin 1) :
    k0_pay33 vis q kt ks (ix2 r u) = Finset.univ.sup (fun t : Fin 2048 => k0_pay30 vis q kt ks (ix2 r t)) := by
  rw [← Cert.Val.fold_max_eq]
  pointwise [k0_pay33, k0_pay30, k0_pay29]

/-- The largest score over the new tokens. -/
theorem pay34_at (vis : IVec S32x4 1) (s : FVec Ideal S4x1 .f32) (co : FVec Ideal S4x96 .fp8e4m3) (q : Vec Ideal S1x4x8x96 .bf16) (r : Fin 32) :
    k0_pay34 vis s co q (ix1 r) = Finset.univ.sup (fun j : Fin 4 => k0_pay32 vis s co q (ix2 r j)) := by
  rw [← Cert.Val.fold_max_eq]
  pointwise [k0_pay34, k0_pay32, k0_pay29]

/-- The attention of one row, from its scores. -/
theorem pay35_at (a : FVec Ideal S4x96 .fp8e4m3) (b : FVec Ideal S32x2048 .f32) (c : FVec Ideal S1x4 .f32) (d : FVec Ideal S32x4 .f32) (e : FVec Ideal S32x1 .f32) (f : FVec Ideal S32 .f32)
    (x : Vec Ideal S1x1x2048 .f32) (y : Vec Ideal S1x1x96x2048 .fp8e4m3) (i : Fin 4) (g : Fin 8) (dd : Fin 96) (r : Fin 32) (hr : r.val = i.val * 8 + g.val)
    (he : e (ix2 r 0) = Finset.univ.sup (fun t => b (ix2 r t))) (hf : f (ix1 r) = Finset.univ.sup (fun j => d (ix2 r j))) :
    k0_pay35 a b c d e f x y (ix3 i g dd) = Cert.Val.rowK (fun t => b (ix2 r t)) (fun t => x (ix3 0 0 t)) (fun t => y (ix4 0 0 dd t))
      (fun j => d (ix2 r j)) (fun j => c (ix2 0 j)) (fun j => a (ix2 j dd)) := by
  have h1 : i.val * 8 + g.val < 32 := by clear hr; omega
  obtain rfl : r = ⟨i.val * 8 + g.val, h1⟩ := Fin.ext hr
  unfold Cert.Val.rowK Cert.Val.top
  rw [← he, ← hf]
  pointwise [k0_pay35]
  rfl

/-- The attention block at one index. -/
theorem attnBlk_at (vis : IVec S32x4 1) (valid : IVec S1x2048 1) (q : Vec Ideal S1x4x8x96 .bf16) (kt : Vec Ideal S1x1x96x2048 .fp8e4m3) (ks : Vec Ideal S1x1x2048 .f32)
    (vt : Vec Ideal S1x1x96x2048 .fp8e4m3) (vs : Vec Ideal S1x1x2048 .f32) (k v : Vec Ideal S1x1x4x96 .bf16) (i : Fin 4) (g : Fin 8) (dd : Fin 96) (r : Fin 32) (hr : r.val = i.val * 8 + g.val) :
    attnBlk vis valid q kt ks vt vs k v (ix3 i g dd) = Cert.Val.rowK
      (fun t => Scalar.select (valid (ix2 0 t)) ((∑ x : Fin 96, q (ix4 0 i g x) * kt (ix4 0 0 x t)) * (ks (ix3 0 0 t) * sml)) ⊥)
      (fun t => vs (ix3 0 0 t)) (fun t => vt (ix4 0 0 dd t))
      (fun j => Scalar.select (vis (ix2 r j)) ((∑ x : Fin 96, q (ix4 0 i g x) * qCodes k (ix2 j x)) * (qScale k (ix2 j 0) * sml)) ⊥)
      (fun j => qScale v (ix2 j 0)) (fun j => qCodes v (ix2 j dd)) := by
  unfold attnBlk
  rw [pay35_at _ _ _ _ _ _ _ _ i g dd r hr (pay33_at ..) (pay34_at ..)]
  simp only [pay31_at, pay30_at _ _ _ _ i g r hr, pay32_at _ _ _ _ i g r hr]

end Cert.KernelIdeal.Own

end
-- ==== Proof.Val.Pre.lean ====
module

public import proofs.«01_k».proof.Pre_finite_tree
public import proofs.«01_k».proof.Defs
public import proofs.«01_k».proof.Proof.Val.Kernel
public import Idealize.ShloMosaic.Lib.Pointwise
public import Idealize.ShloMosaic.Lib.ReduceAll

@[expose] public section

set_option maxRecDepth 16384

noncomputable section

namespace Cert.Pre_finite_tree

open Idealize.ShloMosaic
open Facts

variable [Facts]

/-! # What the precondition says, entry by entry -/

/-- A comparison that holds is the order of the two values. -/
theorem ole_one (x y : EReal) (h : FloatOps.cmpf (F := Ideal) (φ := .f32) .ole x y = 1#1) : x ≤ y := by
  by_contra hn
  simp [FloatOps.cmpf, Ideal.cmp, hn] at h

/-- The same, with the greater value first. -/
theorem oge_one (x y : EReal) (h : FloatOps.cmpf (F := Ideal) (φ := .f32) .oge x y = 1#1) : y ≤ x := by
  by_contra hn
  simp [FloatOps.cmpf, Ideal.cmp, hn] at h

/-- A comparison for equality that holds is an equality. -/
theorem oeq_one (x y : EReal) (h : FloatOps.cmpf (F := Ideal) (φ := .f32) .oeq x y = 1#1) : x = y := by
  by_contra hn
  simp [FloatOps.cmpf, Ideal.cmp, hn] at h

/-- One of two conditions holds where their disjunction does. -/
theorem ori_one : ∀ c d : BitVec 1, IntOp.ori c d = 1#1 → c = 1#1 ∨ d = 1#1 := by decide

/-- The largest magnitude of a row, as the precondition computes it. -/
theorem max_at (X : FVec Ideal S48x4x3x96 .bf16) (b : Fin 48) (i : Fin 4) (k : Fin 3) :
    Host.reduce FloatOps.maximumf (Host.absf (extf .f32 X bitsLt_bf16_f32 : FVec Ideal S48x4x3x96 .f32)) (constant S_ .f32 0xFF800000#32) reducesTo_S48x4x3x96_S48x4x3_d3 h_S_ (ix3 b i k)
      = Cert.Val.aOf (fun x => X (ix4 b i k x)) := by
  unfold Cert.Val.aOf
  rw [Host.reduce_eq_fold (α := EReal) (FloatOps.maximumf (F := Ideal) (φ := .f32)), Shape.ReducesTo.fold_fiber_r4_a3]
  rfl

/-- What the precondition says of one row. -/
theorem row_ok (X : FVec Ideal S48x4x3x96 .bf16) (b : Fin 48) (i : Fin 4) (k : Fin 3) (a : EReal) (ha : a = Cert.Val.aOf (fun x => X (ix4 b i k x)))
    (h : IntOp.ori (FloatOps.cmpf (F := Ideal) (φ := .f32) .oeq a (Ideal.ofBits .f32 0x00000000#32))
      (IntOp.andi (FloatOps.cmpf (F := Ideal) (φ := .f32) .oge (a * Ideal.ofBits .f32 0x3B124925#32) (Ideal.ofBits .f32 0x00800000#32))
        (FloatOps.cmpf (F := Ideal) (φ := .f32) .ole a (Ideal.ofBits .f32 0x7F7FFFFF#32))) = 1#1) :
    Cert.Val.RowOk (fun x => X (ix4 b i k x)) := by
  subst ha
  rcases ori_one _ _ h with h | h
  · exact .inl (oeq_one _ _ h)
  · obtain ⟨h1, h2⟩ := IntOp.andi_eq_one.mp h
    exact .inr ⟨oge_one _ _ h1, ole_one _ _ h2⟩

/-- The rows of the new keys and values are ones that the quantisers agree on, and every token's parent comes before it. -/
theorem fn_split (x0 : FVec Ideal S48x4x24x96 .bf16) (x1 x2 : FVec Ideal S48x4x3x96 .bf16) (x3 x4 : FVec Ideal S48x2048x3x96 .fp8e4m3) (x5 x6 : FVec Ideal S48x2048x3 .f32)
    (x7 : IVec S48 32) (x8 : IVec S48x4 32) (j : S_.Idx) (h : fn (F := Ideal) x0 x1 x2 x3 x4 x5 x6 x7 x8 j = 1#1) :
    (∀ (b : Fin 48) (i : Fin 4) (k : Fin 3), Cert.Val.RowOk (fun x => x1 (ix4 b i k x))) ∧ (∀ (b : Fin 48) (i : Fin 4) (k : Fin 3), Cert.Val.RowOk (fun x => x2 (ix4 b i k x)))
      ∧ ∀ (b : Fin 48) (k : Fin 4), IntOp.cmpi .slt (x8 (ix2 b k)) (BitVec.ofNat 32 k.val) = 1#1 := by
  haveI : Subsingleton S_.Idx := ⟨fun a b => funext fun i => i.elim0⟩
  obtain ⟨h12, h3⟩ := IntOp.andi_eq_one.mp h
  obtain ⟨h1, h2⟩ := IntOp.andi_eq_one.mp h12
  refine ⟨fun b i k => ?_, fun b i k => ?_, fun b k => ?_⟩
  · exact row_ok x1 b i k _ (max_at x1 b i k) (Host.reduce_andi_all _ _ _ _ _ h1 (ix3 b i k))
  · exact row_ok x2 b i k _ (max_at x2 b i k) (Host.reduce_andi_all _ _ _ _ _ h2 (ix3 b i k))
  · exact Host.reduce_andi_all _ _ _ _ _ h3 (ix2 b k)

end Cert.Pre_finite_tree

end
-- ==== Proof.Val.RefQuant.lean ====
module

public import proofs.«01_k».proof.Proof.Ref
public import proofs.«01_k».proof.Proof.Val.Kernel

@[expose] public section

set_option maxRecDepth 16384

noncomputable section

namespace Cert.ReferenceIdeal.Own

open Cert.ReferenceIdeal Cert.ReferenceIdeal.Gen
open Idealize.ShloMosaic

/-! # The reference's quantiser read at one index, in exact arithmetic -/

/-- The exponent of one row. -/
theorem expo_at (A : Vec Ideal S48x4x3x96 .bf16) (b : Fin 48) (i : Fin 4) (k : Fin 3) :
    k0_pay4 A (ix3 b i k) = Cert.Val.expoR (Cert.Val.aOf (fun x => A (ix4 b i k x))) (Cert.Val.yOf (fun x => A (ix4 b i k x))) := by
  unfold Cert.Val.expoR Cert.Val.yOf Cert.Val.aOf
  pointwise [k0_pay4, k0_pay3]
  rfl

/-- The scale of one row. -/
theorem scalesR_at (A : Vec Ideal S48x4x3x96 .bf16) (b : Fin 48) (i : Fin 4) (k : Fin 3) :
    scalesR A (ix3 b i k) = Ideal.exp2 (Cert.Val.expoR (Cert.Val.aOf (fun x => A (ix4 b i k x))) (Cert.Val.yOf (fun x => A (ix4 b i k x)))) := by
  rw [← expo_at]
  unfold scalesR
  pointwise [k0_pay5]
  rfl

/-- One code. -/
theorem codesR_at (A : Vec Ideal S48x4x3x96 .bf16) (b : Fin 48) (i : Fin 4) (k : Fin 3) (d : Fin 96) :
    codesR A (ix4 b i k d) = Cert.Val.code (A (ix4 b i k d)) (Ideal.exp2 (Ideal.ofBits .f32 0x00000000#32 - Cert.Val.expoR (Cert.Val.aOf (fun x => A (ix4 b i k x))) (Cert.Val.yOf (fun x => A (ix4 b i k x))))) := by
  rw [← expo_at]
  unfold codesR
  pointwise [k0_pay6, k0_pay3]
  rfl

end Cert.ReferenceIdeal.Own

namespace Cert.Val

open Idealize.ShloMosaic

/-- The largest finite float32 is below `2 ^ 128`. -/
theorem ofBits_max : Ideal.ofBits .f32 0x7F7FFFFF#32 = (((2 ^ 24 - 1) * 2 ^ 104 : ℝ) : EReal) := by
  simp [Ideal.ofBits, Ideal.ieee, -EReal.coe_mul]
  norm_num

/-- The quantiser's factor is below `2 ^ (-8)`. -/
theorem ofBits_448 : ∃ c : ℝ, Ideal.ofBits .f32 0x3B124925#32 = (c : EReal) ∧ 0 ≤ c ∧ c < (2 ^ 8)⁻¹ := by
  refine ⟨((2 ^ 23 + 1198373 : ℕ) : ℝ) * (2 : ℝ) ^ (-32 : ℤ), ?_, by positivity, by norm_num⟩
  simp [Ideal.ofBits, Ideal.ieee, -EReal.coe_mul]

/-- A row's largest magnitude is not negative. -/
theorem aOf_nonneg (f : Fin 96 → EReal) : 0 ≤ aOf f := by
  unfold aOf
  rw [fold_max_eq]
  refine le_trans ?_ (Finset.le_sup (f := fun x => FloatOps.absf (F := Ideal) (φ := .f32) (f x)) (Finset.mem_univ (0 : Fin 96)))
  show (0 : EReal) ≤ max (f 0) (-f 0)
  rcases le_total 0 (f 0) with h0 | h0
  · exact le_max_of_le_left h0
  · exact le_max_of_le_right (by rw [← neg_zero]; exact EReal.neg_le_neg_iff.mpr h0)

/-- On the rows of the precondition the kernel's scale and its inverse are the reference's. -/
theorem row_eq (f : Fin 96 → EReal) (h : RowOk f) :
    scaleK (yOf f) = Ideal.exp2 (expoR (aOf f) (yOf f)) ∧ invK (yOf f) = Ideal.exp2 (Ideal.ofBits .f32 0x00000000#32 - expoR (aOf f) (yOf f)) := by
  obtain ⟨c, hc, hc0, hc1⟩ := ofBits_448
  have hz : Ideal.ofBits .f32 0x00000000#32 = (0 : EReal) := by simp [Ideal.ofBits, Ideal.ieee]
  have hge := aOf_nonneg f
  unfold RowOk at h
  unfold yOf at h ⊢
  rw [hc, hz] at h
  rw [hc]
  generalize aOf f = s at h hge ⊢
  rcases h with h | ⟨h, hle⟩
  · subst h
    rw [zero_mul]
    exact scale_eq 0 0 (.inl ⟨rfl, rfl⟩) le_rfl (by norm_num)
  · rw [ofBits_max] at hle
    induction s using EReal.rec with
    | bot => exact absurd hge (by simp)
    | top => exact absurd hle (not_le.mpr (EReal.coe_lt_top _))
    | coe r =>
      have h0 : 0 ≤ r := by exact_mod_cast hge
      have h1 : r ≤ (2 ^ 24 - 1) * 2 ^ 104 := EReal.coe_le_coe_iff.mp hle
      rw [← EReal.coe_mul] at h ⊢
      refine scale_eq _ _ (.inr ⟨fun hr => ?_, h⟩) (mul_nonneg h0 hc0) ?_
      · have hr0 : r = 0 := by exact_mod_cast hr
        rw [hr0, zero_mul, ofBits_tiny] at h
        have : pw 1 = (((2 : ℝ) ^ (-126 : ℤ) : ℝ) : EReal) := by unfold pw; norm_num
        rw [this] at h
        exact absurd (EReal.coe_le_coe_iff.mp h) (not_le.mpr (zpow_pos (by norm_num) _))
      · calc r * c ≤ ((2 ^ 24 - 1) * 2 ^ 104) * c := mul_le_mul_of_nonneg_right h1 hc0
          _ ≤ ((2 ^ 24 - 1) * 2 ^ 104) * (2 ^ 8)⁻¹ := mul_le_mul_of_nonneg_left hc1.le (by norm_num)
          _ < 2 ^ 120 := by norm_num

end Cert.Val

end
-- ==== Proof.Val.RefAttn.lean ====
module

public import proofs.«01_k».proof.Proof.Gen.ReferenceIdeal.Read
public import proofs.«01_k».proof.Proof.Val.Kernel

@[expose] public section

set_option maxRecDepth 16384

noncomputable section

namespace Cert.ReferenceIdeal.Own

open Cert.ReferenceIdeal Cert.ReferenceIdeal.Gen Cert.ReferenceIdeal.Read
open Idealize.ShloMosaic

/-- The largest of the scores over the cache. -/
theorem maxC_at (X : FVec Ideal S48x4x3x8x2048 .f32) (b : Fin 48) (i : Fin 4) (k : Fin 3) (g : Fin 8) :
    Host.reduce FloatOps.maximumf X (constant S_ .f32 0xFF800000#32) reducesTo_S48x4x3x8x2048_S48x4x3x8_d4 h_S_ (ix4 b i k g) = Finset.univ.sup (fun t => X (ix5 b i k g t)) := by
  rw [← Cert.Val.fold_max_eq, Host.reduce_eq_fold (α := EReal) (FloatOps.maximumf (F := Ideal) (φ := .f32)), Shape.ReducesTo.fold_fiber_r5_a4]
  rfl

/-- The largest of the scores over the new tokens. -/
theorem maxN_at (X : FVec Ideal S48x4x3x8x4 .f32) (b : Fin 48) (i : Fin 4) (k : Fin 3) (g : Fin 8) :
    Host.reduce FloatOps.maximumf X (constant S_ .f32 0xFF800000#32) reducesTo_S48x4x3x8x4_S48x4x3x8_d4 h_S_ (ix4 b i k g) = Finset.univ.sup (fun t => X (ix5 b i k g t)) := by
  rw [← Cert.Val.fold_max_eq, Host.reduce_eq_fold (α := EReal) (FloatOps.maximumf (F := Ideal) (φ := .f32)), Shape.ReducesTo.fold_fiber_r5_a4]
  rfl

variable (x0 : Vec Ideal S48x4x24x96 .bf16) (x5 x6 : Vec Ideal S48x2048x3 .f32) (x7 : IVec S48 32) (x8 : IVec S48x4 32)
  (r1 r3 : Vec Ideal S48x4x3 .f32) (r4 r5 : Vec Ideal S48x4x3x96 .bf16) (r6 r7 : Vec Ideal S48x2048x3x96 .bf16)

/-- The reference's factor of the scores: the float32 number nearest `1 / √96`. -/
def smR : EReal := (((3424635 / 33554432) : ℝ) : EReal)

/-- The pattern of that factor. -/
theorem ofBits_sm : Ideal.ofBits .f32 0x3DD105EC#32 = smR := by
  unfold smR
  simp [Ideal.ofBits, Ideal.ieee, -EReal.coe_mul]
  norm_num

/-- The score of one query row over one cached token. -/
def scoreC (b : Fin 48) (i : Fin 4) (k : Fin 3) (h : Fin 24) (t : Fin 2048) : EReal :=
  Scalar.select (IntOp.cmpi .slt (BitVec.ofNat 32 t.val) (x7 (ix1 b))) ((∑ x : Fin 96, r6 (ix4 b t k x) * x0 (ix4 b i h x)) * (x5 (ix3 b t k) * smR)) ⊥

/-- The score of one query row over one new token. -/
def scoreN (b : Fin 48) (i : Fin 4) (k : Fin 3) (h : Fin 24) (j : Fin 4) : EReal :=
  Scalar.select (val_main_v43 (F := Ideal) x8 (ix3 b i j)) ((∑ x : Fin 96, r4 (ix4 b j k x) * x0 (ix4 b i h x)) * (r1 (ix3 b j k) * smR)) ⊥

/-- The reference's masked score over the cache. -/
theorem v60_at (b : Fin 48) (i : Fin 4) (k : Fin 3) (g : Fin 8) (h : Fin 24) (hh : h.val = k.val * 8 + g.val) (t : Fin 2048) :
    val_main_v60 (F := Ideal) x0 x5 x7 r6 (ix5 b i k g t) = scoreC x0 x5 x7 r6 b i k h t := by
  have h1 : k.val * 8 + g.val < 24 := by clear hh; omega
  obtain rfl : h = ⟨k.val * 8 + g.val, h1⟩ := Fin.ext hh
  unfold scoreC
  rw [← ofBits_sm, ← Cert.Val.ofBits_ninf]
  pointwise [val_main_v60, val_main_v52, val_main_v46, val_main_v45, val_main_v44, val_main_v51, val_main_v50, val_main_v49, val_main_v48, val_main_v47, val_main_cst,
    val_main_call6_v1, val_main_v59, val_main_v58, val_main_v57, val_main_v56, val_main_v55, val_main_v54, val_main_v53, val_main_call6_v2, val_main_call6_v0, val_main_cst_8]
  rfl

/-- The reference's masked score over the new tokens. -/
theorem v70_at (b : Fin 48) (i : Fin 4) (k : Fin 3) (g : Fin 8) (h : Fin 24) (hh : h.val = k.val * 8 + g.val) (j : Fin 4) :
    val_main_v70 (F := Ideal) x0 x8 r1 r4 (ix5 b i k g j) = scoreN x0 x8 r1 r4 b i k h j := by
  have h1 : k.val * 8 + g.val < 24 := by clear hh; omega
  obtain rfl : h = ⟨k.val * 8 + g.val, h1⟩ := Fin.ext hh
  unfold scoreN
  rw [← ofBits_sm, ← Cert.Val.ofBits_ninf]
  pointwise [val_main_v70, val_main_v68, val_main_v61, val_main_v62, val_main_v44, val_main_v63, val_main_v64, val_main_v65, val_main_v66, val_main_v67, val_main_cst_9,
    val_main_call7_v1, val_main_v69, val_main_call7_v2, val_main_call7_v0, val_main_cst_10]
  rfl

/-- The reference's largest score over the cache. -/
theorem v72_at (b : Fin 48) (i : Fin 4) (k : Fin 3) (g : Fin 8) (u : Fin 1) :
    val_main_v72 (F := Ideal) x0 x5 x7 r6 (ix5 b i k g u) = Finset.univ.sup (fun t : Fin 2048 => val_main_v60 (F := Ideal) x0 x5 x7 r6 (ix5 b i k g t)) := by
  rw [val_main_v72_apply, show idx_main_v72 (ix5 b i k g u) = ix4 b i k g from funext fun a => match a with | 0 => rfl | 1 => rfl | 2 => rfl | 3 => rfl]
  unfold val_main_v71 val_main_cst_11
  exact maxC_at _ b i k g

/-- The reference's largest score over the new tokens. -/
theorem v74_at (b : Fin 48) (i : Fin 4) (k : Fin 3) (g : Fin 8) (u : Fin 1) :
    val_main_v74 (F := Ideal) x0 x8 r1 r4 (ix5 b i k g u) = Finset.univ.sup (fun j : Fin 4 => val_main_v70 (F := Ideal) x0 x8 r1 r4 (ix5 b i k g j)) := by
  rw [val_main_v74_apply, show idx_main_v74 (ix5 b i k g u) = ix4 b i k g from funext fun a => match a with | 0 => rfl | 1 => rfl | 2 => rfl | 3 => rfl]
  unfold val_main_v73 val_main_cst_12
  exact maxN_at _ b i k g

/-- The largest score of one query row. -/
theorem v75_at (b : Fin 48) (i : Fin 4) (k : Fin 3) (g : Fin 8) (u : Fin 1) :
    val_main_v75 (F := Ideal) x0 x5 x7 x8 r1 r4 r6 (ix5 b i k g u)
      = Cert.Val.top (fun t : Fin 2048 => val_main_v60 (F := Ideal) x0 x5 x7 r6 (ix5 b i k g t)) (fun j : Fin 4 => val_main_v70 (F := Ideal) x0 x8 r1 r4 (ix5 b i k g j)) := by
  rw [val_main_v75_apply, v72_at, v74_at]
  rfl

/-- The denominator of one query row. -/
theorem v86_at (b : Fin 48) (i : Fin 4) (k : Fin 3) (g : Fin 8) (u : Fin 1) :
    val_main_v86 (F := Ideal) x0 x5 x7 x8 r1 r4 r6 (ix5 b i k g u)
      = Cert.Val.denR (fun t : Fin 2048 => val_main_v60 (F := Ideal) x0 x5 x7 r6 (ix5 b i k g t)) (fun j : Fin 4 => val_main_v70 (F := Ideal) x0 x8 r1 r4 (ix5 b i k g j)) := by
  unfold Cert.Val.denR
  rw [← v75_at x0 x5 x7 x8 r1 r4 r6 b i k g 0]
  unfold val_main_v86 val_main_v85 val_main_v84 val_main_v83 val_main_v82 val_main_v81 val_main_v80 val_main_v79 val_main_v78 val_main_v77 val_main_v76 val_main_cst_13 val_main_cst_14
  generalize val_main_v60 (F := Ideal) x0 x5 x7 r6 = X
  generalize val_main_v70 (F := Ideal) x0 x8 r1 r4 = Y
  generalize val_main_v75 (F := Ideal) x0 x5 x7 x8 r1 r4 r6 = M
  pointwise []

/-- The pattern the reference writes where the sum of the weights is not positive. -/
theorem ofBits_nan : Ideal.ofBits .f32 0x7FC00000#32 = ⊥ := by
  simp [Ideal.ofBits, Ideal.ieee]

/-- One element of the reference's attention. -/
theorem v108_at (b : Fin 48) (i : Fin 4) (k : Fin 3) (g : Fin 8) (d : Fin 96) :
    val_main_v108 (F := Ideal) x0 x5 x6 x7 x8 r1 r3 r4 r5 r6 r7 (ix5 b i k g d)
      = Cert.Val.rowR (fun t : Fin 2048 => val_main_v60 (F := Ideal) x0 x5 x7 r6 (ix5 b i k g t)) (fun t => x6 (ix3 b t k)) (fun t => r7 (ix4 b t k d))
          (fun j : Fin 4 => val_main_v70 (F := Ideal) x0 x8 r1 r4 (ix5 b i k g j)) (fun j => r3 (ix3 b j k)) (fun j => r5 (ix4 b j k d)) := by
  unfold Cert.Val.rowR
  rw [← v86_at x0 x5 x7 x8 r1 r4 r6 b i k g 0, ← v75_at x0 x5 x7 x8 r1 r4 r6 b i k g 0]
  unfold val_main_v108 val_main_call8_v1 val_main_call8_v2 val_main_call8_v0 val_main_v107 val_main_v106 val_main_v105 val_main_v104 val_main_v103 val_main_v102 val_main_v101 val_main_v100
    val_main_v99 val_main_v98 val_main_v97 val_main_v96 val_main_v95 val_main_v94 val_main_v93 val_main_v92 val_main_v91 val_main_v90 val_main_v89 val_main_v88 val_main_v87 val_main_cst_15 val_main_cst_16
    val_main_v81 val_main_v80 val_main_v79 val_main_v78 val_main_v77 val_main_v76
  generalize val_main_v60 (F := Ideal) x0 x5 x7 r6 = X
  generalize val_main_v70 (F := Ideal) x0 x8 r1 r4 = Y
  generalize val_main_v75 (F := Ideal) x0 x5 x7 x8 r1 r4 r6 = M
  generalize val_main_v86 (F := Ideal) x0 x5 x7 x8 r1 r4 r6 = D
  rw [show (⊥ : EReal) = id (constant (F := Ideal) S_ .f32 0x7FC00000#32) ix0 from ofBits_nan.symm]
  pointwise []

/-- One element of the reference's first result. -/
theorem v110_at (b : Fin 48) (i : Fin 4) (k : Fin 3) (g : Fin 8) (d : Fin 96) (h : Fin 24) (hh : h.val = k.val * 8 + g.val) (e : Fin 2304) (he : e.val = h.val * 96 + d.val) :
    val_main_v110 (F := Ideal) x0 x5 x6 x7 x8 r1 r3 r4 r5 r6 r7 (ix3 b i e)
      = Cert.Val.rowR (fun t => scoreC x0 x5 x7 r6 b i k h t) (fun t => x6 (ix3 b t k)) (fun t => r7 (ix4 b t k d))
          (fun j => scoreN x0 x8 r1 r4 b i k h j) (fun j => r3 (ix3 b j k)) (fun j => r5 (ix4 b j k d)) := by
  have e1 : (fun t => scoreC x0 x5 x7 r6 b i k h t) = fun t : Fin 2048 => val_main_v60 (F := Ideal) x0 x5 x7 r6 (ix5 b i k g t) :=
    funext fun t => (v60_at x0 x5 x7 r6 b i k g h hh t).symm
  have e2 : (fun j => scoreN x0 x8 r1 r4 b i k h j) = fun j : Fin 4 => val_main_v70 (F := Ideal) x0 x8 r1 r4 (ix5 b i k g j) :=
    funext fun j => (v70_at x0 x8 r1 r4 b i k g h hh j).symm
  rw [e1, e2, ← v108_at x0 x5 x6 x7 x8 r1 r3 r4 r5 r6 r7 b i k g d]
  unfold val_main_v110 val_main_v109
  generalize val_main_v108 (F := Ideal) x0 x5 x6 x7 x8 r1 r3 r4 r5 r6 r7 = Z
  have b1 : e.val / 768 < 3 := by clear hh he e1 e2; omega
  have b2 : e.val / 96 % 8 < 8 := by clear hh he e1 e2; omega
  have b3 : e.val % 96 < 96 := by clear hh he e1 e2; omega
  have q1 : k = ⟨e.val / 768, b1⟩ := by ext; simp; omega
  have q2 : g = ⟨e.val / 96 % 8, b2⟩ := by ext; simp; omega
  have q3 : d = ⟨e.val % 96, b3⟩ := by ext; simp; omega
  clear e1 e2 he hh
  subst q1 q2 q3
  pointwise []

end Cert.ReferenceIdeal.Own
-- ==== Proof.Val.Take.lean ====
module

public import proofs.«01_k».proof.Proof.Gen.ReferenceIdeal.Read
public import Idealize.ShloMosaic.Lib.Pointwise
public import Idealize.ShloMosaic.Lib.ValueIdx

@[expose] public section

set_option maxRecDepth 16384

noncomputable section

namespace Cert.ReferenceIdeal.Own

open Cert.ReferenceIdeal Cert.ReferenceIdeal.Gen Cert.ReferenceIdeal.Read
open Idealize.ShloMosaic

/-! # One step from a token to its parent, as the reference takes it -/

/-- The index of the parent to look up: no less than 0, and counted from the end where it is less. -/
def takeIx (C : IVec S48x4 32) : IVec S48x4x1 32 :=
  shapeCast S48x4x1 (select (cmpi .slt (maxsi C (broadcastInDim S48x4 ![] bcast_S_S48x4 (constantI S_ 32 0#32))) (broadcastInDim S48x4 ![] bcast_S_S48x4 (constantI S_ 32 0#32)))
    (addi (maxsi C (broadcastInDim S48x4 ![] bcast_S_S48x4 (constantI S_ 32 0#32))) (broadcastInDim S48x4 ![] bcast_S_S48x4 (constantI S_ 32 4#32)))
    (maxsi C (broadcastInDim S48x4 ![] bcast_S_S48x4 (constantI S_ 32 0#32)))) shapeCasts_S48x4_S48x4x1

/-- Whether each index to look up lies inside. -/
def takeIn (C : IVec S48x4 32) : IVec S48x4 1 :=
  Host.reduce IntOp.andi (andi (cmpi .sge (takeIx C) (broadcastInDim S48x4x1 ![] bcast_S_S48x4x1 (constantI S_ 32 0#32)))
    (cmpi .sle (takeIx C) (broadcastInDim S48x4x1 ![0, 1, 2] bcast_S1x1x1_S48x4x1_0_1_2 (broadcastInDim S1x1x1 ![2] bcast_S1_S1x1x1_2 (constantI S1 32 3#32)))))
    (constantI S_ 1 1#1) reducesTo_S48x4x1_S48x4_d2 h_S_

/-- The step: each token's parent, and -1 where there is no token any more. -/
def takeStep (x8 C : IVec S48x4 32) : IVec S48x4 32 :=
  select (cmpi .sge C (broadcastInDim S48x4 ![] bcast_S_S48x4 (constantI S_ 32 0#32)))
    (select (takeIn C) (Host.gather gather_S48x4_S48x4x1_S48x4_n_1_0_0_1_2_11 x8 (takeIx C)) (broadcastInDim S48x4 ![] bcast_S_S48x4 (constantI S_ 32 2147483648#32)))
    (broadcastInDim S48x4 ![] bcast_S_S48x4 (id (constantI S_ 32 4294967295#32)))

/-- The reference's first step. -/
theorem v13_eq (x8 : IVec S48x4 32) : val_main_v13 (F := Ideal) x8 = takeStep x8 (val_main_v2 (F := Ideal)) := rfl
/-- The reference's second step. -/
theorem v25_eq (x8 : IVec S48x4 32) : val_main_v25 (F := Ideal) x8 = takeStep x8 (val_main_v13 (F := Ideal) x8) := rfl
/-- The reference's third step. -/
theorem v37_eq (x8 : IVec S48x4 32) : val_main_v37 (F := Ideal) x8 = takeStep x8 (val_main_v25 (F := Ideal) x8) := rfl

/-- The index looked up where the token is `n`. -/
theorem takeIx_at (C : IVec S48x4 32) (b : Fin 48) (i n : Fin 4) (h : C (ix2 b i) = BitVec.ofNat 32 n.val) (u : Fin 1) :
    takeIx C (ix3 b i u) = BitVec.ofNat 32 n.val := by
  unfold takeIx
  pointwise []
  rw [h]
  clear h
  revert n
  decide

/-- The index lies inside where it is a token. -/
theorem takeIn_at (C : IVec S48x4 32) (b : Fin 48) (i n : Fin 4) (h : takeIx C (ix3 b i 0) = BitVec.ofNat 32 n.val) :
    takeIn C (ix2 b i) = 1#1 := by
  unfold takeIn
  generalize takeIx C = X at h ⊢
  pointwise []
  rw [Finset.univ_unique, Finset.fold_singleton]
  show IntOp.andi (IntOp.andi (IntOp.cmpi .sge (X (ix3 b i 0)) 0#32) (IntOp.cmpi .sle (X (ix3 b i 0)) 3#32)) 1#1 = 1#1
  rw [h]
  clear h
  revert n
  decide

/-- The look-up at a token `n` is the parent of `n`. -/
theorem gather_at (x8 : IVec S48x4 32) (X : IVec S48x4x1 32) (b : Fin 48) (i n : Fin 4) (h : X (ix3 b i 0) = BitVec.ofNat 32 n.val) :
    Host.gather gather_S48x4_S48x4x1_S48x4_n_1_0_0_1_2_11 x8 X (ix2 b i) = x8 (ix2 b n) := by
  unfold Host.gather
  congr 1
  funext a
  refine Fin.ext ?_
  show gather_S48x4_S48x4x1_S48x4_n_1_0_0_1_2_11.start (ix2 b i) X a + gather_S48x4_S48x4x1_S48x4_n_1_0_0_1_2_11.batchCoord (ix2 b i) a
      + gather_S48x4_S48x4x1_S48x4_n_1_0_0_1_2_11.offCoord (ix2 b i) a = _
  have h01 : a = 0 ∨ a = 1 := by
    match a with
    | ⟨0, _⟩ => exact Or.inl rfl
    | ⟨1, _⟩ => exact Or.inr rfl
  rcases h01 with rfl | rfl
  · rw [GatherDims.start_batching _ _ _ _ (List.mem_singleton.mpr rfl),
      GatherDims.offCoord_eq_zero _ _ _ (fun h => ((GatherDims.mem_sKept _ _).mp h).2 (List.mem_singleton.mpr rfl))]
    simp only [Nat.zero_add, Nat.add_zero]
    unfold GatherDims.batchCoord
    rw [dif_pos (show (0 : Fin 2) ∈ gather_S48x4_S48x4x1_S48x4_n_1_0_0_1_2_11.operandBatchingDims from List.mem_singleton.mpr rfl)]
    rfl
  · rw [GatherDims.batchCoord_eq_zero _ _ _ (fun h => by simp [gather_S48x4_S48x4x1_S48x4_n_1_0_0_1_2_11] at h),
      GatherDims.offCoord_eq_zero _ _ _ (fun h => ((GatherDims.mem_sKept _ _).mp h).1 (List.mem_singleton.mpr rfl))]
    simp only [Nat.add_zero]
    unfold GatherDims.start
    rw [dif_pos (show (1 : Fin 2) ∈ gather_S48x4_S48x4x1_S48x4_n_1_0_0_1_2_11.startIndexMap from List.mem_singleton.mpr rfl)]
    have hsi : gather_S48x4_S48x4x1_S48x4_n_1_0_0_1_2_11.siIdx (ix2 b i) ⟨List.idxOf (1 : Fin 2) gather_S48x4_S48x4x1_S48x4_n_1_0_0_1_2_11.startIndexMap,
        List.idxOf_lt_length_iff.2 (List.mem_singleton.mpr rfl)⟩ = ix3 b i 0 := by
      funext b; refine Fin.ext ?_
      match b with
      | ⟨0, _⟩ => rfl
      | ⟨1, _⟩ => rfl
      | ⟨2, _⟩ => rfl
    rw [hsi, h]
    show min (BitVec.ofNat 32 n.val).toInt.toNat (4 - 1) = n.val
    clear h hsi
    revert n
    decide

/-- The step at a token `n`. -/
theorem takeStep_tok (x8 C : IVec S48x4 32) (b : Fin 48) (i n : Fin 4) (h : C (ix2 b i) = BitVec.ofNat 32 n.val) :
    takeStep x8 C (ix2 b i) = x8 (ix2 b n) := by
  have e1 := takeIx_at C b i n h 0
  have e2 := takeIn_at C b i n e1
  have e3 := gather_at x8 (takeIx C) b i n e1
  show Scalar.select (IntOp.cmpi .sge (C (ix2 b i)) 0#32) (Scalar.select (takeIn C (ix2 b i)) (Host.gather gather_S48x4_S48x4x1_S48x4_n_1_0_0_1_2_11 x8 (takeIx C) (ix2 b i)) 2147483648#32) 4294967295#32 = _
  rw [e2, e3, h, ValueIdx.select_one]
  have : IntOp.cmpi .sge (BitVec.ofNat 32 n.val) 0#32 = 1#1 := by clear h e1 e3; revert n; decide
  rw [this, ValueIdx.select_one]

/-- The step where there is no token. -/
theorem takeStep_none (x8 C : IVec S48x4 32) (b : Fin 48) (i : Fin 4) (h : IntOp.cmpi .sge (C (ix2 b i)) 0#32 = 0#1) :
    takeStep x8 C (ix2 b i) = 4294967295#32 := by
  show Scalar.select (IntOp.cmpi .sge (C (ix2 b i)) 0#32) _ 4294967295#32 = _
  rw [h, ValueIdx.select_zero]

/-! ## Ancestors, by the number of a token -/

/-- A word that names the token `q` when `q` is below 4, and no token when `q` is 4. -/
def Names (c : BitVec 32) (q : Fin 5) : Prop :=
  (q.val < 4 ∧ c = BitVec.ofNat 32 q.val) ∨ (q.val = 4 ∧ c.slt 0#32 = true)

/-- A word below a token, read signed, names an earlier token or none. -/
theorem names_of_lt (c : BitVec 32) (k : Fin 4) (h : IntOp.cmpi .slt c (BitVec.ofNat 32 k.val) = 1#1) :
    ∃ q : Fin 5, Names c q ∧ (q.val < k.val ∨ q.val = 4) := by
  by_cases hn : c.slt 0#32 = true
  · exact ⟨4, Or.inr ⟨rfl, hn⟩, Or.inr rfl⟩
  · have hs : c.slt (BitVec.ofNat 32 k.val) = true := by
      revert h; unfold IntOp.cmpi; cases c.slt (BitVec.ofNat 32 k.val) <;> simp
    have hk : (BitVec.ofNat 32 k.val).toInt = k.val := by clear h hs; revert k; decide
    rw [BitVec.slt_iff_toInt_lt, hk] at hs
    have h0 : 0 ≤ c.toInt := by
      rw [Bool.not_eq_true, ← Bool.not_eq_true, BitVec.slt_iff_toInt_lt] at hn
      simpa using hn
    have hc : c.toInt = c.toNat := by
      have e := BitVec.toInt_eq_toNat_cond c
      have := c.isLt
      split at e <;> omega
    refine ⟨⟨c.toNat, by omega⟩, Or.inl ⟨?_, ?_⟩, Or.inl ?_⟩
    · show c.toNat < 4; omega
    · show c = BitVec.ofNat 32 c.toNat; simp
    · show c.toNat < k.val; omega

/-- Which token a word names is decided by comparing it. -/
theorem names_eq (c : BitVec 32) (q : Fin 5) (h : Names c q) (j : Fin 4) :
    IntOp.cmpi .eq c (BitVec.ofNat 32 j.val) = if q.val = j.val then 1#1 else 0#1 := by
  rcases h with ⟨hq, rfl⟩ | ⟨hq, hn⟩
  · revert q j; decide
  · have hj : ∀ j : Fin 4, ((BitVec.ofNat 32 j.val).slt 0#32) = false := by decide
    have hne : c ≠ BitVec.ofNat 32 j.val := fun e => by rw [e, hj j] at hn; exact absurd hn (by decide)
    rw [if_neg (by omega)]
    show BitVec.ofBool (c == BitVec.ofNat 32 j.val) = 0#1
    rw [beq_eq_false_iff_ne.mpr hne]
    rfl

/-- The number of the parent of the token `q`. -/
def up (p : Fin 4 → Fin 5) (q : Fin 5) : Fin 5 := if h : q.val < 4 then p ⟨q.val, h⟩ else 4

/-- One step, by numbers. -/
theorem names_step (x8 C : IVec S48x4 32) (b : Fin 48) (i : Fin 4) (p : Fin 4 → Fin 5) (hp : ∀ k, Names (x8 (ix2 b k)) (p k)) (q : Fin 5) (h : Names (C (ix2 b i)) q) :
    Names (takeStep x8 C (ix2 b i)) (up p q) := by
  rcases h with ⟨hq, h⟩ | ⟨hq, hn⟩
  · rw [takeStep_tok x8 C b i ⟨q.val, hq⟩ h]
    unfold up
    rw [dif_pos hq]
    exact hp _
  · rw [takeStep_none x8 C b i (by
      have : (0#32).sle (C (ix2 b i)) = false := by
        rw [BitVec.slt_iff_toInt_lt] at hn
        rw [← Bool.not_eq_true, BitVec.sle_iff_toInt_le]
        omega
      simp [IntOp.cmpi, this])]
    unfold up
    rw [dif_neg (by omega)]
    exact Or.inr ⟨rfl, by decide⟩

/-- Whether the token `i` sees the token `j`: it is `i`, or one of the ancestors of `i`. -/
def sees (p : Fin 4 → Fin 5) (i j : Fin 4) : BitVec 1 :=
  if i.val = j.val ∨ (p i).val = j.val ∨ (up p (p i)).val = j.val ∨ (up p (up p (p i))).val = j.val then 1#1 else 0#1

/-- The reference's visibility, by numbers. -/
theorem v43_at (x8 : IVec S48x4 32) (b : Fin 48) (p : Fin 4 → Fin 5) (hp : ∀ k, Names (x8 (ix2 b k)) (p k)) (i j : Fin 4) :
    val_main_v43 (F := Ideal) x8 (ix3 b i j) = sees p i j := by
  have hb : i.val < 5 := by omega
  have c0 : Names (val_main_v2 (F := Ideal) (ix2 b i)) ⟨i.val, hb⟩ := Or.inl ⟨i.isLt, by pointwise [val_main_v2, val_main_v1]⟩
  have c1 := names_step x8 _ b i p hp _ c0
  have c2 := names_step x8 _ b i p hp _ c1
  have c3 := names_step x8 _ b i p hp _ c2
  rw [← v13_eq] at c1
  rw [← v13_eq, ← v25_eq] at c2
  rw [← v13_eq, ← v25_eq, ← v37_eq] at c3
  have hu : up p ⟨i.val, hb⟩ = p i := by unfold up; rw [dif_pos i.isLt]
  rw [hu] at c1 c2 c3
  have e : val_main_v43 (F := Ideal) x8 (ix3 b i j) = IntOp.ori (IntOp.ori (IntOp.ori (IntOp.cmpi .eq (val_main_v2 (F := Ideal) (ix2 b i)) (BitVec.ofNat 32 j.val))
      (IntOp.cmpi .eq (val_main_v13 (F := Ideal) x8 (ix2 b i)) (BitVec.ofNat 32 j.val))) (IntOp.cmpi .eq (val_main_v25 (F := Ideal) x8 (ix2 b i)) (BitVec.ofNat 32 j.val)))
      (IntOp.cmpi .eq (val_main_v37 (F := Ideal) x8 (ix2 b i)) (BitVec.ofNat 32 j.val)) := by
    unfold val_main_v43 val_main_v42 val_main_v41 val_main_v40 val_main_v39 val_main_v38 val_main_v31 val_main_v30 val_main_v29 val_main_v28 val_main_v27 val_main_v26 val_main_v19 val_main_v18 val_main_v17
      val_main_v16 val_main_v15 val_main_v14 val_main_v7 val_main_v6 val_main_v5 val_main_v4 val_main_v3
    generalize val_main_v37 (F := Ideal) x8 = A
    generalize val_main_v25 (F := Ideal) x8 = B
    generalize val_main_v13 (F := Ideal) x8 = C
    generalize val_main_v2 (F := Ideal) = D
    pointwise [val_main_v1]
  rw [e, names_eq _ _ c0, names_eq _ _ c1, names_eq _ _ c2, names_eq _ _ c3]
  unfold sees
  by_cases h0 : i.val = j.val <;> by_cases h1 : (p i).val = j.val <;> by_cases h2 : (up p (p i)).val = j.val <;> by_cases h3 : (up p (up p (p i))).val = j.val <;>
    simp [h0, h1, h2, h3, IntOp.ori]

end Cert.ReferenceIdeal.Own

end
-- ==== Proof.Val.Vis.lean ====
module

public import proofs.«01_k».proof.Proof.KI.Blocks
public import proofs.«01_k».proof.Proof.Val.Take

@[expose] public section

set_option maxRecDepth 16384

noncomputable section

namespace Cert.Val

open Idealize.ShloMosaic
open Cert.ReferenceIdeal.Own (Names names_of_lt names_eq sees up)

/-! # The kernel's visibility bits are the reference's -/

/-- Whether the token named `q` is the token `j`, as a bit. -/
def isTok (q : Fin 5) (j : ℕ) : BitVec 1 := if q.val = j then 1#1 else 0#1

/-- The kernel's bit of the query row `r` for the new token `j`, from the bits that compare the parents. -/
def seesK (q1 q2 q3 : Fin 5) (r : Fin 32) (j : Fin 4) : BitVec 1 :=
  let b1 : BitVec 32 := IntOp.ori 2#32 (Scalar.select (isTok q1 0) 1#32 0#32)
  let b2 : BitVec 32 := IntOp.ori 4#32 (Scalar.select (isTok q2 0) 1#32 (Scalar.select (isTok q2 1) b1 0#32))
  let b3 : BitVec 32 := IntOp.ori 8#32 (Scalar.select (isTok q3 0) 1#32 (Scalar.select (isTok q3 1) b1 (Scalar.select (isTok q3 2) b2 0#32)))
  let w : BitVec 32 := Scalar.select (IntOp.cmpi .slt (BitVec.ofNat 32 r.val) 8#32) 1#32
    (Scalar.select (IntOp.cmpi .slt (BitVec.ofNat 32 r.val) 16#32) b1 (Scalar.select (IntOp.cmpi .slt (BitVec.ofNat 32 r.val) 24#32) b2 b3))
  IntOp.cmpi .eq (IntOp.andi (IntOp.shrsi .vector w (BitVec.ofNat 32 j.val)) 1#32) 1#32

/-- Over all trees of four tokens the two bits agree. -/
theorem seesK_eq : ∀ (q1 : Fin 5) (q2 : Fin 5) (q3 : Fin 5), (q1.val < 1 ∨ q1.val = 4) → (q2.val < 2 ∨ q2.val = 4) → (q3.val < 3 ∨ q3.val = 4) →
    ∀ (i : Fin 4) (g : Fin 8) (j : Fin 4), seesK q1 q2 q3 ⟨i.val * 8 + g.val, by omega⟩ j = sees (![4, q1, q2, q3]) i j := by
  decide +kernel

end Cert.Val

namespace Cert.KernelIdeal.Own

open Cert.KernelIdeal Cert.KernelIdeal.Gen
open Idealize.ShloMosaic
open Cert.ReferenceIdeal.Own (Names names_of_lt names_eq sees up)

/-- The kernel's bit of a query row and a new token, from the tokens its parents name. -/
theorem visM_at (p1 p2 p3 : BitVec 32) (q1 q2 q3 : Fin 5) (h1 : Names p1 q1) (h2 : Names p2 q2) (h3 : Names p3 q3) (r : Fin 32) (j : Fin 4) :
    visM (F := Ideal) p1 p2 p3 (ix2 r j) = Cert.Val.seesK q1 q2 q3 r j := by
  have e10 := names_eq _ _ h1 0
  have e20 := names_eq _ _ h2 0
  have e21 := names_eq _ _ h2 1
  have e30 := names_eq _ _ h3 0
  have e31 := names_eq _ _ h3 1
  have e32 := names_eq _ _ h3 2
  unfold visM k0_pay5 k0_pay4 k0_pay2 k0_pay3
  pointwise []
  unfold Cert.Val.seesK Cert.Val.isTok
  change IntOp.cmpi .eq _ 0#32 = (if q1.val = 0 then 1#1 else 0#1) at e10
  change IntOp.cmpi .eq _ 0#32 = (if q2.val = 0 then 1#1 else 0#1) at e20
  change IntOp.cmpi .eq _ 1#32 = (if q2.val = 1 then 1#1 else 0#1) at e21
  change IntOp.cmpi .eq _ 0#32 = (if q3.val = 0 then 1#1 else 0#1) at e30
  change IntOp.cmpi .eq _ 1#32 = (if q3.val = 1 then 1#1 else 0#1) at e31
  change IntOp.cmpi .eq _ 2#32 = (if q3.val = 2 then 1#1 else 0#1) at e32
  rw [← e10, ← e20, ← e21, ← e30, ← e31, ← e32]
  rfl

/-- Where every token's parent comes before it, the kernel's bit is the reference's. -/
theorem vis_eq (x8 : IVec S48x4 32) (hx : ∀ b (k : Fin 4), IntOp.cmpi .slt (x8 (ix2 b k)) (BitVec.ofNat 32 k.val) = 1#1)
    (b : Fin 48) (i : Fin 4) (g : Fin 8) (j : Fin 4) (r : Fin 32) (hr : r.val = i.val * 8 + g.val) :
    visM (F := Ideal) (x8 (ix2 b 1)) (x8 (ix2 b 2)) (x8 (ix2 b 3)) (ix2 r j) = Cert.ReferenceIdeal.Read.val_main_v43 (F := Ideal) x8 (ix3 b i j) := by
  obtain ⟨q0, n0, l0⟩ := names_of_lt _ _ (hx b 0)
  obtain ⟨q1, n1, l1⟩ := names_of_lt _ _ (hx b 1)
  obtain ⟨q2, n2, l2⟩ := names_of_lt _ _ (hx b 2)
  obtain ⟨q3, n3, l3⟩ := names_of_lt _ _ (hx b 3)
  have hq0 : q0 = 4 := by
    rcases l0 with l | l
    · exact absurd l (Nat.not_lt_zero _)
    · exact Fin.ext l
  subst hq0
  have hp : ∀ k : Fin 4, Names (x8 (ix2 b k)) ((![4, q1, q2, q3] : Fin 4 → Fin 5) k) := fun k =>
    match k with
    | 0 => n0
    | 1 => n1
    | 2 => n2
    | 3 => n3
  have hr' : r = ⟨i.val * 8 + g.val, by omega⟩ := Fin.ext hr
  rw [visM_at _ _ _ q1 q2 q3 n1 n2 n3, hr', Cert.Val.seesK_eq q1 q2 q3 l1 l2 l3]
  exact (Cert.ReferenceIdeal.Own.v43_at x8 b _ hp i j).symm

end Cert.KernelIdeal.Own

end
-- ==== Proof.Val.Equal.lean ====
module

public import proofs.«01_k».proof.Proof.KI.Value
public import proofs.«01_k».proof.Proof.Val.Kernel
public import proofs.«01_k».proof.Proof.Val.RefQuant
public import proofs.«01_k».proof.Proof.Val.RefAttn
public import proofs.«01_k».proof.Proof.Val.Vis

@[expose] public section

set_option maxRecDepth 16384

noncomputable section

namespace Cert.KernelIdeal.Own

open Cert.KernelIdeal Cert.KernelIdeal.Gen
open Idealize.ShloMosaic hiding ix1 ix2 ix3 ix4 ix5
open Idealize.ShloMosaic.ValueIdx (ix1 ix2 ix3 ix4 ix5)
open Cert.ReferenceIdeal.Own (scoreC scoreN smR scalesR_at codesR_at v110_at)
open Cert.ReferenceIdeal.Read

/-! # The kernel's results are the reference's -/

/-- Every row is one that the quantisers agree on. -/
def RowsOk (A : Vec Ideal S48x4x3x96 .bf16) : Prop := ∀ (b : Fin 48) (i : Fin 4) (k : Fin 3), Cert.Val.RowOk (fun x => A (ix4 b i k x))

/-- The kernel's scale of one row is the reference's. -/
theorem qScale_row (A : Vec Ideal S48x4x3x96 .bf16) (hA : RowsOk A) (b : Fin 48) (k : Fin 3) (j : Fin 4) (u : Fin 1) :
    qScale (newRow A b k) (ix2 j u) = Cert.ReferenceIdeal.Own.scalesR A (ix3 b j k) :=
  (qScale_at (newRow A b k) j u).trans ((Cert.Val.row_eq _ (hA b j k)).1.trans (scalesR_at A b j k).symm)

/-- The kernel's code of one number is the reference's. -/
theorem qCodes_row (A : Vec Ideal S48x4x3x96 .bf16) (hA : RowsOk A) (b : Fin 48) (k : Fin 3) (j : Fin 4) (d : Fin 96) :
    qCodes (newRow A b k) (ix2 j d) = Cert.ReferenceIdeal.Own.codesR A (ix4 b j k d) :=
  (qCodes_at (newRow A b k) j d).trans ((congrArg (Cert.Val.code (A (ix4 b j k d))) (Cert.Val.row_eq _ (hA b j k)).2).trans (codesR_at A b j k d).symm)

/-- The kernel's codes are the reference's, transposed. -/
theorem codes_eq (A : Vec Ideal S48x4x3x96 .bf16) (hA : RowsOk A) : codesK A = val_main_v111 (F := Ideal) (Cert.ReferenceIdeal.Own.codesR A) := by
  funext y
  rw [val_main_v111_apply]
  refine (qCodes_row A hA (y 0) (y 1) (y 2) (y 3)).trans (congrArg _ (funext fun a => ?_))
  match a with
  | 0 => rfl
  | 1 => rfl
  | 2 => rfl
  | 3 => rfl

/-- The kernel's scales are the reference's, transposed. -/
theorem scales_eq (A : Vec Ideal S48x4x3x96 .bf16) (hA : RowsOk A) : scalesK A = val_main_v112 (F := Ideal) (Cert.ReferenceIdeal.Own.scalesR A) := by
  funext y
  rw [val_main_v112_apply]
  refine (qScale_row A hA (y 2) (y 0) (y 1) _).trans (congrArg _ (funext fun a => ?_))
  match a with
  | 0 => rfl
  | 1 => rfl
  | 2 => rfl

/-- The kernel's factor is the reference's over the logarithm of 2. -/
theorem sml_eq : sml = smR * (((Real.log 2)⁻¹ : ℝ) : EReal) := by
  unfold sml smR
  exact EReal.coe_mul _ _

/-- A score in base two is the score over the logarithm of 2. -/
theorem score_scale (c : BitVec 1) (x y : EReal) :
    Scalar.select c (x * (y * sml)) (⊥ : EReal) = Scalar.select c (x * (y * smR)) ⊥ * (((Real.log 2)⁻¹ : ℝ) : EReal) := by
  have hc : 0 < (Real.log 2)⁻¹ := inv_pos.mpr (Real.log_pos (by norm_num))
  rw [sml_eq]
  unfold Scalar.select
  split
  · rw [mul_assoc, mul_assoc]
  · exact (EReal.bot_mul_coe_of_pos hc).symm

/-- Which cached tokens count. -/
theorem valid_at (n : BitVec 32) (u : Fin 1) (t : Fin 2048) : k0_pay6 (F := Ideal) n (Idealize.ShloMosaic.ix2 u t) = IntOp.cmpi .slt (BitVec.ofNat 32 t.val) n := by
  pointwise [k0_pay6]

section
variable (A0 : Vec Ideal S48x4x24x96 .bf16) (A1 A2 : Vec Ideal S48x4x3x96 .bf16) (A3 A4 : Vec Ideal S48x2048x3x96 .fp8e4m3) (A5 A6 : Vec Ideal S48x2048x3 .f32)
  (A7 : IVec S48 32) (A8 : IVec S48x4 32)

/-- The reference's first result, from the arguments. -/
def outR : Vec Ideal S48x4x2304 .bf16 :=
  val_main_v110 (F := Ideal) A0 A5 A6 A7 A8 (Cert.ReferenceIdeal.Own.scalesR A1) (Cert.ReferenceIdeal.Own.scalesR A2)
    (Cert.ReferenceIdeal.Gen.k0_pay14 (Cert.ReferenceIdeal.Own.codesR A1)) (Cert.ReferenceIdeal.Gen.k0_pay14 (Cert.ReferenceIdeal.Own.codesR A2))
    (Cert.ReferenceIdeal.Gen.k0_pay1 A3) (Cert.ReferenceIdeal.Gen.k0_pay2 A4)

/-- One number of the attention of one head. -/
theorem head_at (h1 : RowsOk A1) (h2 : RowsOk A2) (h8 : ∀ (b : Fin 48) (k : Fin 4), IntOp.cmpi .slt (A8 (ix2 b k)) (BitVec.ofNat 32 k.val) = 1#1)
    (b : Fin 48) (k : Fin 3) (i : Fin 4) (g : Fin 8) (d : Fin 96) (e : Fin 2304) (he : e.val = (k.val * 8 + g.val) * 96 + d.val) :
    headArr A0 A1 A2 A3 A4 A5 A6 A7 A8 b k (ix3 i g d) = outR A0 A1 A2 A3 A4 A5 A6 A7 A8 (ix3 b i e) := by
  have hr : i.val * 8 + g.val < 32 := by clear he; omega
  have hh : k.val * 8 + g.val < 24 := by clear he; omega
  refine ((attnBlk_at _ _ _ _ _ _ _ _ _ i g d ⟨i.val * 8 + g.val, hr⟩ rfl).trans ?_).trans
    (v110_at A0 A5 A6 A7 A8 _ _ _ _ _ _ b i k g d ⟨k.val * 8 + g.val, hh⟩ rfl e he).symm
  rw [← Cert.Val.rowK_eq_rowR]
  have hq : ∀ x : Fin 96, qBlk A0 b k (ix4 0 i g x) = A0 (ix4 b i ⟨k.val * 8 + g.val, hh⟩ x) := fun x => by
    show A0 _ = A0 _
    congr 1
    funext a
    refine Fin.ext ?_
    match a with
    | 0 => rfl
    | 1 => rfl
    | 2 => show 8 * k.val + g.val = k.val * 8 + g.val; omega
    | 3 => rfl
  have s1 : (fun t : Fin 2048 => Scalar.select (k0_pay6 (F := Ideal) (A7 (ix1 b)) (ix2 0 t)) ((∑ x : Fin 96, qBlk A0 b k (ix4 0 i g x) * cacheBlk A3 b k (ix4 0 0 x t)) * (scaleBlk A5 b k (ix3 0 0 t) * sml)) (⊥ : EReal))
      = fun t => scoreC A0 A5 A7 (Cert.ReferenceIdeal.Gen.k0_pay1 A3) b i k ⟨k.val * 8 + g.val, hh⟩ t * (((Real.log 2)⁻¹ : ℝ) : EReal) := by
    funext t
    rw [score_scale]
    unfold scoreC
    congr 1
    refine congr (congrArg₂ Scalar.select (valid_at _ 0 t) (congrArg (· * _) ?_)) rfl
    exact Finset.sum_congr rfl fun x _ => (congrArg (· * _) (hq x)).trans (mul_comm _ _)
  have s2 : (fun j : Fin 4 => Scalar.select (visM (F := Ideal) (A8 (ix2 b 1)) (A8 (ix2 b 2)) (A8 (ix2 b 3)) (ix2 ⟨i.val * 8 + g.val, hr⟩ j))
        ((∑ x : Fin 96, qBlk A0 b k (ix4 0 i g x) * qCodes (newRow A1 b k) (ix2 j x)) * (qScale (newRow A1 b k) (ix2 j 0) * sml)) (⊥ : EReal))
      = fun j => scoreN A0 A8 (Cert.ReferenceIdeal.Own.scalesR A1) (Cert.ReferenceIdeal.Gen.k0_pay14 (Cert.ReferenceIdeal.Own.codesR A1)) b i k ⟨k.val * 8 + g.val, hh⟩ j
          * (((Real.log 2)⁻¹ : ℝ) : EReal) := by
    funext j
    rw [score_scale]
    unfold scoreN
    congr 1
    refine congr (congrArg₂ Scalar.select (vis_eq A8 h8 b i g j _ rfl) (congr (congrArg _ ?_) (congrArg (· * _) (qScale_row A1 h1 b k j 0)))) rfl
    exact Finset.sum_congr rfl fun x _ => (congr (congrArg _ (hq x)) (qCodes_row A1 h1 b k j x)).trans (mul_comm _ _)
  refine congr (congr (congr (congr (congr (congrArg Cert.Val.rowK s1) rfl) rfl) s2) (funext fun j => qScale_row A2 h2 b k j 0)) (funext fun j => qCodes_row A2 h2 b k j d)

/-- The kernel's first result is the reference's. -/
theorem out_eq (h1 : RowsOk A1) (h2 : RowsOk A2) (h8 : ∀ (b : Fin 48) (k : Fin 4), IntOp.cmpi .slt (A8 (ix2 b k)) (BitVec.ofNat 32 k.val) = 1#1) :
    outK A0 A1 A2 A3 A4 A5 A6 A7 A8 = outR A0 A1 A2 A3 A4 A5 A6 A7 A8 := by
  funext y
  have hy := (y 2).isLt
  have hy : (y 2).val < 2304 := hy
  have e1 : (y 2).val / 768 < 3 := by omega
  have e2 : (y 2).val / 96 % 8 < 8 := by omega
  have e3 : (y 2).val % 96 < 96 := by omega
  refine (head_at A0 A1 A2 A3 A4 A5 A6 A7 A8 h1 h2 h8 (y 0) ⟨(y 2).val / 768, e1⟩ (y 1) ⟨(y 2).val / 96 % 8, e2⟩ ⟨(y 2).val % 96, e3⟩ (y 2) (by
    show (y 2).val = ((y 2).val / 768 * 8 + (y 2).val / 96 % 8) * 96 + (y 2).val % 96
    omega)).trans (congrArg _ (ValueIdx.eq_ix3 y).symm)

end

end Cert.KernelIdeal.Own

end
-- ==== Proof.lean ====
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Frame
public import proofs.«01_k».proof.Proof.Gen.ReferenceIdeal.Run
public import proofs.«01_k».proof.Proof.Gen.ReferenceIdeal.Read
public import proofs.«01_k».proof.Proof.Gen.Pre_finite_tree
public import proofs.«01_k».proof.Proof.K.Frame
public import proofs.«01_k».proof.Proof.KI.Frame
public import proofs.«01_k».proof.Proof.KI.Value
public import proofs.«01_k».proof.Proof.Ref
public import proofs.«01_k».proof.Proof.Val.Pre
public import proofs.«01_k».proof.Proof.Val.Equal
public import Idealize.ShloMosaic.Adequacy
public import Idealize.ShloMosaic.Init

@[expose] public section

set_option maxRecDepth 16384

noncomputable section

namespace Cert.Proof

open Idealize.ShloMosaic Idealize.SL.Sem Idealize.ShloMosaic.TcCoe

/-- No index map of the kernel reads a prefetched table, so the side condition of the tables holds of any contents. -/
theorem kernel_ok (m) : Cert.Kernel.Own.Ok (F := Bits) m := by
  unfold Cert.Kernel.Own.Ok Cert.Kernel.ok0; trivial

/-- The same of the idealized kernel. -/
theorem kernelIdeal_ok (m) : Cert.KernelIdeal.Own.Ok (F := Ideal) m := by
  unfold Cert.KernelIdeal.Own.Ok Cert.KernelIdeal.ok0; trivial

section
open Cert.ReferenceIdeal Cert.ReferenceIdeal.Own Cert.ReferenceIdeal.Read

variable (m : (ℓ : Loc nD τ sig) → Buf (Elt Ideal) ℓ)

/-- The reference's results, from its arguments. -/
theorem reference_values (ρ : Dev nD → PrngReg) :
    θ_run (defs (F := Ideal)) (onTc (τ := τ) (main (F := Ideal))) ⟨m, fun _ => 0, ρ⟩ (fun r => ∀ c : Dev nD,
      r.2.mem ((c.tc : Thread nD τ).loc main_v110) = Cert.KernelIdeal.Own.outR (m ((c : Thread nD τ).loc main_arg0)) (m ((c : Thread nD τ).loc main_arg1)) (m ((c : Thread nD τ).loc main_arg2))
          (m ((c : Thread nD τ).loc main_arg3)) (m ((c : Thread nD τ).loc main_arg4)) (m ((c : Thread nD τ).loc main_arg5)) (m ((c : Thread nD τ).loc main_arg6))
          (m ((c : Thread nD τ).loc main_arg7)) (m ((c : Thread nD τ).loc main_arg8))
      ∧ r.2.mem ((c.tc : Thread nD τ).loc main_v111) = val_main_v111 (F := Ideal) (codesR (m ((c : Thread nD τ).loc main_arg1)))
      ∧ r.2.mem ((c.tc : Thread nD τ).loc main_v112) = val_main_v112 (F := Ideal) (scalesR (m ((c : Thread nD τ).loc main_arg1)))
      ∧ r.2.mem ((c.tc : Thread nD τ).loc main_v113) = val_main_v111 (F := Ideal) (codesR (m ((c : Thread nD τ).loc main_arg2)))
      ∧ r.2.mem ((c.tc : Thread nD τ).loc main_v114) = val_main_v112 (F := Ideal) (scalesR (m ((c : Thread nD τ).loc main_arg2)))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)) := by
  refine (θ_run defs _ _).mono (fun r h c => ?_) (Value.run m ρ)
  obtain ⟨h0, h1, h2, h3, h4, hu⟩ := h c
  refine ⟨h0.trans ?_, h1.trans ?_, h2.trans ?_, h3.trans ?_, h4.trans ?_, hu⟩
  · refine (val_main_v110_eq (Value.exitV m c)).trans ?_
    unfold Cert.KernelIdeal.Own.outR
    rw [Value.exit_main_arg0, Value.exit_main_arg5, Value.exit_main_arg6, Value.exit_main_arg7, Value.exit_main_arg8, Value.exit_main_v0_1, Value.exit_main_v0_3,
      Value.exit_main_v0_4, Value.exit_main_v0_5, Value.exit_main_v0_6, Value.exit_main_v0_7, reg_1, reg_3, reg_4, reg_5, reg_6, reg_7]
  · rw [Value.exit_main_v0_0, reg_0]; rfl
  · rw [Value.exit_main_v0_1, reg_1]; rfl
  · rw [Value.exit_main_v0_2, reg_2]; rfl
  · rw [Value.exit_main_v0_3, reg_3]; rfl

end

/-- The five results of the idealized kernel are the five results of the reference. -/
theorem algebraic : Cert.algebraic_KernelIdeal_ReferenceIdeal_pre_finite_tree (hKernelIdeal := Cert.KernelIdeal.Gen.facts) (hReferenceIdeal := Cert.ReferenceIdeal.Gen.facts)
    (hPre_finite_tree := Cert.Pre_finite_tree.Gen.facts) := by
  intro m g m' g' hpre hargs
  have hsplit := fun c => Cert.Pre_finite_tree.fn_split _ _ _ _ _ _ _ _ _ ValueIdx.ix0 (congrFun (hpre c) ValueIdx.ix0)
  refine ⟨_, _, _, _, _, Cert.KernelIdeal.Own.run_values m g (kernelIdeal_ok m), (θ_run _ _ _).mono (fun r h c => ?_) (reference_values m' g')⟩
  obtain ⟨h0, h1, h2, h3, h4, hu⟩ := h c
  obtain ⟨a0, a1, a2, a3, a4, a5, a6, a7, a8⟩ := hargs c
  obtain ⟨b1, b2, b8⟩ := hsplit c
  rw [a0, a1, a2, a3, a4, a5, a6, a7, a8] at h0
  rw [a1] at h1 h2
  rw [a2] at h3 h4
  exact ⟨h0.trans (Cert.KernelIdeal.Own.out_eq _ _ _ _ _ _ _ _ _ b1 b2 b8).symm, h1.trans (Cert.KernelIdeal.Own.codes_eq _ b1).symm,
    h2.trans (Cert.KernelIdeal.Own.scales_eq _ b1).symm, h3.trans (Cert.KernelIdeal.Own.codes_eq _ b2).symm, h4.trans (Cert.KernelIdeal.Own.scales_eq _ b2).symm, hu⟩

/-- The certificate: the frames, the one named constant of the ledger, and the equality of the five results. -/
theorem claim : Cert.Claim :=
  ⟨Cert.Kernel.Gen.facts, Cert.KernelIdeal.Gen.facts, Cert.ReferenceIdeal.Gen.facts, Cert.Pre_finite_tree.Gen.facts,
    fun m ρ _ => Cert.Kernel.Own.frame m ρ (kernel_ok m),
    fun m ρ _ => Cert.KernelIdeal.Own.frame m ρ (kernelIdeal_ok m),
    fun m ρ _ => Cert.KernelIdeal.Own.frame m ρ (kernelIdeal_ok m),
    fun m ρ _ => Cert.ReferenceIdeal.Gen.frame m ρ,
    fun m ρ _ => Cert.ReferenceIdeal.Gen.frame m ρ,
    IdealRules.named_const.statement Cert.KernelIdeal.κ "sm_log2e" .f32 0x3E16C740#32 _ rfl,
    algebraic⟩

end Cert.Proof

end
